-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_pool_input [hPre_finite_pool_input : Cert.Pre_finite_pool_input.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_pool_input.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_pool_input [hPre_finite_pool_input : Cert.Pre_finite_pool_input.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_pool_input.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_pool_input [hKernel8Ideal : Cert.Kernel8Ideal.Facts] [hPre_finite_pool_input : Cert.Pre_finite_pool_input.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_pool_input m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_pool_input [hReference8Ideal : Cert.Reference8Ideal.Facts] [hPre_finite_pool_input : Cert.Pre_finite_pool_input.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_pool_input m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)
  ∧ IdealRules.named_const.Statement Cert.KernelIdeal.κ "no_prev" .f32 0xC4180000#32 ⊥
  ∧ IdealRules.named_const.Statement Cert.KernelIdeal.κ "inv_ln2" .f32 0x3FB8AA3B#32 (((Real.log 2)⁻¹ : ℝ) : EReal)
  ∧ IdealRules.named_const.Statement Cert.KernelIdeal.κ "exp2_zero_below" .f32 0xC3180000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)) (v7 : (c : Dev Cert.KernelIdeal.nD) → Buf (Elt Ideal) ((c.tc : Thread Cert.KernelIdeal.nD Cert.KernelIdeal.τ).loc Cert.KernelIdeal.main_v1_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_v1_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v49) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_v55) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite_pool_input [hKernel8Ideal : Cert.Kernel8Ideal.Facts] [hReference8Ideal : Cert.Reference8Ideal.Facts] [hPre_finite_pool_input : Cert.Pre_finite_pool_input.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_pool_input m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v148) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_pool_input : Cert.Pre_finite_pool_input.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_pool_input (hKernel8Ideal := hKernel8Ideal) (hPre_finite_pool_input := hPre_finite_pool_input)
    ∧ quiescent_Reference8Ideal (hReference8Ideal := hReference8Ideal)
    ∧ quiescent_Reference8Ideal_pre_finite_pool_input (hReference8Ideal := hReference8Ideal) (hPre_finite_pool_input := hPre_finite_pool_input)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_pool_input (hKernel8Ideal := hKernel8Ideal) (hReference8Ideal := hReference8Ideal) (hPre_finite_pool_input := hPre_finite_pool_input)
-- ==== Pre_finite_pool_input.lean ====
abbrev S16384x13312 : Shape := ⟨2, ![16384, 13312]⟩
abbrev S2x4x256x256 : Shape := ⟨4, ![2, 4, 256, 256]⟩
abbrev S2x1024 : Shape := ⟨2, ![2, 1024]⟩
abbrev S16384x1024 : Shape := ⟨2, ![16384, 1024]⟩
abbrev S_ : Shape := ⟨0, ![]⟩

class Facts : Prop where
  slices_S16384x13312_S16384x1024_0_3072 : S16384x13312.Slices ![0, 3072] S16384x1024
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x13312 .bf16) (main_arg1 : FVec F S2x4x256x256 .f32) (main_arg2 : FVec F S2x1024 .f32) : IVec S_ 1 :=
  let main_v0 : FVec F S16384x1024 .bf16 := (extractStridedSlice S16384x1024 ![0, 3072] · slices_S16384x13312_S16384x1024_0_3072) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  main_v5
-- ==== Kernel.lean ====
abbrev S16384x13312 : Shape := ⟨2, ![16384, 13312]⟩
abbrev S2x2048x5632 : Shape := ⟨3, ![2, 2048, 5632]⟩
abbrev S2x1024x2048 : Shape := ⟨3, ![2, 1024, 2048]⟩
abbrev S2x2048x2048 : Shape := ⟨3, ![2, 2048, 2048]⟩
abbrev S2x2048x13312 : Shape := ⟨3, ![2, 2048, 13312]⟩
abbrev S4x4096x13312 : Shape := ⟨3, ![4, 4096, 13312]⟩
abbrev S4x4096x1024 : Shape := ⟨3, ![4, 4096, 1024]⟩
abbrev S2048x5632 : Shape := ⟨2, ![2048, 5632]⟩
abbrev S1024x2048 : Shape := ⟨2, ![1024, 2048]⟩
abbrev S2048x2048 : Shape := ⟨2, ![2048, 2048]⟩
abbrev S2048x13312 : Shape := ⟨2, ![2048, 13312]⟩
abbrev S4x256x256 : Shape := ⟨3, ![4, 256, 256]⟩
abbrev S4x4096x256 : Shape := ⟨3, ![4, 4096, 256]⟩
abbrev S1x32x5632 : Shape := ⟨3, ![1, 32, 5632]⟩
abbrev S1x16x2048 : Shape := ⟨3, ![1, 16, 2048]⟩
abbrev S1x32x2048 : Shape := ⟨3, ![1, 32, 2048]⟩
abbrev S1x32x13312 : Shape := ⟨3, ![1, 32, 13312]⟩
abbrev S32x5632 : Shape := ⟨2, ![32, 5632]⟩
abbrev S16x2048 : Shape := ⟨2, ![16, 2048]⟩
abbrev S32x2048 : Shape := ⟨2, ![32, 2048]⟩
abbrev S32x13312 : Shape := ⟨2, ![32, 13312]⟩
abbrev S256x256 : Shape := ⟨2, ![256, 256]⟩
abbrev S1x256x128 : Shape := ⟨3, ![1, 256, 128]⟩
abbrev S256x128 : Shape := ⟨2, ![256, 128]⟩
abbrev S1 : Shape := ⟨1, ![1]⟩
abbrev S1x1x1 : Shape := ⟨3, ![1, 1, 1]⟩

abbrev nBuf : Space → Nat
  | .hbm => 17
  | .vmem => 36
  | .smem => 0
  | _ => 0

abbrev bufTy : (tb : Table) → Fin (tcTables nBuf tb) → BufTy
  | .hbm, ⟨0, _⟩ => ⟨S16384x13312, .bf16⟩
  | .hbm, ⟨1, _⟩ => ⟨S2x2048x5632, .f32⟩
  | .hbm, ⟨2, _⟩ => ⟨S2x2048x5632, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048x13312, .f32⟩
  | .hbm, ⟨8, _⟩ => ⟨S4x4096x13312, .bf16⟩
  | .hbm, ⟨9, _⟩ => ⟨S4x4096x1024, .bf16⟩
  | .hbm, ⟨10, _⟩ => ⟨S2048x5632, .bf16⟩
  | .hbm, ⟨11, _⟩ => ⟨S2048x5632, .bf16⟩
  | .hbm, ⟨12, _⟩ => ⟨S1024x2048, .bf16⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S2048x13312, .bf16⟩
  | .local _ .vmem, ⟨0, _⟩ => ⟨S4x256x256, .bf16⟩
  | .local _ .vmem, ⟨1, _⟩ => ⟨S4x256x256, .bf16⟩
  | .local _ .vmem, ⟨2, _⟩ => ⟨S4x4096x256, .bf16⟩
  | .local _ .vmem, ⟨3, _⟩ => ⟨S4x4096x256, .bf16⟩
  | .local _ .vmem, ⟨4, _⟩ => ⟨S4x4096x256, .bf16⟩
  | .local _ .vmem, ⟨5, _⟩ => ⟨S4x4096x256, .bf16⟩
  | .local _ .vmem, ⟨6, _⟩ => ⟨S1x32x5632, .f32⟩
  | .local _ .vmem, ⟨7, _⟩ => ⟨S1x32x5632, .f32⟩
  | .local _ .vmem, ⟨8, _⟩ => ⟨S1x32x5632, .f32⟩
  | .local _ .vmem, ⟨9, _⟩ => ⟨S1x32x5632, .f32⟩
  | .local _ .vmem, ⟨10, _⟩ => ⟨S1x16x2048, .f32⟩
  | .local _ .vmem, ⟨11, _⟩ => ⟨S1x16x2048, .f32⟩
  | .local _ .vmem, ⟨12, _⟩ => ⟨S1x16x2048, .f32⟩
  | .local _ .vmem, ⟨13, _⟩ => ⟨S1x16x2048, .f32⟩
  | .local _ .vmem, ⟨14, _⟩ => ⟨S1x16x2048, .f32⟩
  | .local _ .vmem, ⟨15, _⟩ => ⟨S1x16x2048, .f32⟩
  | .local _ .vmem, ⟨16, _⟩ => ⟨S1x32x2048, .f32⟩
  | .local _ .vmem, ⟨17, _⟩ => ⟨S1x32x2048, .f32⟩
  | .local _ .vmem, ⟨18, _⟩ => ⟨S1x32x13312, .f32⟩
  | .local _ .vmem, ⟨19, _⟩ => ⟨S1x32x13312, .f32⟩
  | .local _ .vmem, ⟨20, _⟩ => ⟨S4x256x256, .bf16⟩
  | .local _ .vmem, ⟨21, _⟩ => ⟨S4x256x256, .bf16⟩
  | .local _ .vmem, ⟨22, _⟩ => ⟨S32x5632, .bf16⟩
  | .local _ .vmem, ⟨23, _⟩ => ⟨S32x5632, .bf16⟩
  | .local _ .vmem, ⟨24, _⟩ => ⟨S32x5632, .bf16⟩
  | .local _ .vmem, ⟨25, _⟩ => ⟨S32x5632, .bf16⟩
  | .local _ .vmem, ⟨26, _⟩ => ⟨S16x2048, .bf16⟩
  | .local _ .vmem, ⟨27, _⟩ => ⟨S16x2048, .bf16⟩
  | .local _ .vmem, ⟨28, _⟩ => ⟨S16x2048, .bf16⟩
  | .local _ .vmem, ⟨29, _⟩ => ⟨S16x2048, .bf16⟩
  | .local _ .vmem, ⟨30, _⟩ => ⟨S16x2048, .bf16⟩
  | .local _ .vmem, ⟨31, _⟩ => ⟨S16x2048, .bf16⟩
  | .local _ .vmem, ⟨32, _⟩ => ⟨S32x2048, .bf16⟩
  | .local _ .vmem, ⟨33, _⟩ => ⟨S32x2048, .bf16⟩
  | .local _ .vmem, ⟨34, _⟩ => ⟨S32x13312, .bf16⟩
  | .local _ .vmem, ⟨35, _⟩ => ⟨S32x13312, .bf16⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![4, 1, 16], ![false, false, false]⟩

def k0_mult1 (i : grid0.Coords) : BitVec 32 :=
  let arg2 : BitVec 32 := BitVec.ofNat 32 (i 2).val
  let c256_i32 : BitVec 32 := 256#32
  let v109 : BitVec 32 := Scalar.muli arg2 c256_i32
  v109
def k0_off1 (i : grid0.Coords) : Fin 3 → Nat :=
  let c0_72 : Index := 0#32
  let arg2 : BitVec 32 := BitVec.ofNat 32 (i 2).val
  let c256_i32 : BitVec 32 := 256#32
  let v109 : BitVec 32 := Scalar.muli arg2 c256_i32
  let v110 : BitVec 32 := v109
  let v111 : Index := Scalar.indexCast v110
  let c0_73 : Index := 0#32
  ![0, v111.toNat, 0]
def k0_mult2 (i : grid0.Coords) : BitVec 32 :=
  let arg2 : BitVec 32 := BitVec.ofNat 32 (i 2).val
  let c1_i32_86 : BitVec 32 := 1#32
  let v161 : BitVec 32 := Scalar.subi arg2 c1_i32_86
  let c0_i32_87 : BitVec 32 := 0#32
  let v162 : BitVec 32 := Scalar.maxsi v161 c0_i32_87
  let c256_i32_88 : BitVec 32 := 256#32
  let v165 : BitVec 32 := Scalar.muli v162 c256_i32_88
  v165
def k0_off2 (i : grid0.Coords) : Fin 3 → Nat :=
  let c0_89 : Index := 0#32
  let arg2 : BitVec 32 := BitVec.ofNat 32 (i 2).val
  let c1_i32_86 : BitVec 32 := 1#32
  let v161 : BitVec 32 := Scalar.subi arg2 c1_i32_86
  let c0_i32_87 : BitVec 32 := 0#32
  let v162 : BitVec 32 := Scalar.maxsi v161 c0_i32_87
  let c256_i32_88 : BitVec 32 := 256#32
  let v165 : BitVec 32 := Scalar.muli v162 c256_i32_88
  let v166 : BitVec 32 := v165
  let v167 : Index := Scalar.indexCast v166
  let c0_90 : Index := 0#32
  ![0, v167.toNat, 0]
def k0_mult3 (i : grid0.Coords) : BitVec 32 :=
  let arg2 : BitVec 32 := BitVec.ofNat 32 (i 2).val
  let c256_i32_103 : BitVec 32 := 256#32
  let v216 : BitVec 32 := Scalar.muli arg2 c256_i32_103
  v216
def k0_off3 (i : grid0.Coords) : Fin 3 → Nat :=
  let c0_104 : Index := 0#32
  let arg2 : BitVec 32 := BitVec.ofNat 32 (i 2).val
  let c256_i32_103 : BitVec 32 := 256#32
  let v216 : BitVec 32 := Scalar.muli arg2 c256_i32_103
  let v217 : BitVec 32 := v216
  let v218 : Index := Scalar.indexCast v217
  let c128_105 : Index := 128#32
  ![0, v218.toNat, 128]
def k0_mult4 (i : grid0.Coords) : BitVec 32 :=
  let arg2 : BitVec 32 := BitVec.ofNat 32 (i 2).val
  let c1_i32_118 : BitVec 32 := 1#32
  let v268 : BitVec 32 := Scalar.subi arg2 c1_i32_118
  let c0_i32_119 : BitVec 32 := 0#32
  let v269 : BitVec 32 := Scalar.maxsi v268 c0_i32_119
  let c256_i32_120 : BitVec 32 := 256#32
  let v272 : BitVec 32 := Scalar.muli v269 c256_i32_120
  v272
def k0_off4 (i : grid0.Coords) : Fin 3 → Nat :=
  let c0_121 : Index := 0#32
  let arg2 : BitVec 32 := BitVec.ofNat 32 (i 2).val
  let c1_i32_118 : BitVec 32 := 1#32
  let v268 : BitVec 32 := Scalar.subi arg2 c1_i32_118
  let c0_i32_119 : BitVec 32 := 0#32
  let v269 : BitVec 32 := Scalar.maxsi v268 c0_i32_119
  let c256_i32_120 : BitVec 32 := 256#32
  let v272 : BitVec 32 := Scalar.muli v269 c256_i32_120
  let v273 : BitVec 32 := v272
  let v274 : Index := Scalar.indexCast v273
  let c128_122 : Index := 128#32
  ![0, v274.toNat, 128]
def k0_mult5 (i : grid0.Coords) : BitVec 32 :=
  let arg2 : BitVec 32 := BitVec.ofNat 32 (i 2).val
  let c256_i32_135 : BitVec 32 := 256#32
  let v323 : BitVec 32 := Scalar.muli arg2 c256_i32_135
  v323
def k0_off5 (i : grid0.Coords) : Fin 3 → Nat :=
  let c1_136 : Index := 1#32
  let arg2 : BitVec 32 := BitVec.ofNat 32 (i 2).val
  let c256_i32_135 : BitVec 32 := 256#32
  let v323 : BitVec 32 := Scalar.muli arg2 c256_i32_135
  let v324 : BitVec 32 := v323
  let v325 : Index := Scalar.indexCast v324
  let c0_137 : Index := 0#32
  ![1, v325.toNat, 0]
def k0_mult6 (i : grid0.Coords) : BitVec 32 :=
  let arg2 : BitVec 32 := BitVec.ofNat 32 (i 2).val
  let c1_i32_150 : BitVec 32 := 1#32
  let v375 : BitVec 32 := Scalar.subi arg2 c1_i32_150
  let c0_i32_151 : BitVec 32 := 0#32
  let v376 : BitVec 32 := Scalar.maxsi v375 c0_i32_151
  let c256_i32_152 : BitVec 32 := 256#32
  let v379 : BitVec 32 := Scalar.muli v376 c256_i32_152
  v379
def k0_off6 (i : grid0.Coords) : Fin 3 → Nat :=
  let c1_153 : Index := 1#32
  let arg2 : BitVec 32 := BitVec.ofNat 32 (i 2).val
  let c1_i32_150 : BitVec 32 := 1#32
  let v375 : BitVec 32 := Scalar.subi arg2 c1_i32_150
  let c0_i32_151 : BitVec 32 := 0#32
  let v376 : BitVec 32 := Scalar.maxsi v375 c0_i32_151
  let c256_i32_152 : BitVec 32 := 256#32
  let v379 : BitVec 32 := Scalar.muli v376 c256_i32_152
  let v380 : BitVec 32 := v379
  let v381 : Index := Scalar.indexCast v380
  let c0_154 : Index := 0#32
  ![1, v381.toNat, 0]
def k0_mult7 (i : grid0.Coords) : BitVec 32 :=
  let arg2 : BitVec 32 := BitVec.ofNat 32 (i 2).val
  let c256_i32_167 : BitVec 32 := 256#32
  let v430 : BitVec 32 := Scalar.muli arg2 c256_i32_167
  v430
def k0_off7 (i : grid0.Coords) : Fin 3 → Nat :=
  let c1_168 : Index := 1#32
  let arg2 : BitVec 32 := BitVec.ofNat 32 (i 2).val
  let c256_i32_167 : BitVec 32 := 256#32
  let v430 : BitVec 32 := Scalar.muli arg2 c256_i32_167
  let v431 : BitVec 32 := v430
  let v432 : Index := Scalar.indexCast v431
  let c128_169 : Index := 128#32
  ![1, v432.toNat, 128]
def k0_mult8 (i : grid0.Coords) : BitVec 32 :=
  let arg2 : BitVec 32 := BitVec.ofNat 32 (i 2).val
  let c1_i32_182 : BitVec 32 := 1#32
  let v482 : BitVec 32 := Scalar.subi arg2 c1_i32_182
  let c0_i32_183 : BitVec 32 := 0#32
  let v483 : BitVec 32 := Scalar.maxsi v482 c0_i32_183
  let c256_i32_184 : BitVec 32 := 256#32
  let v486 : BitVec 32 := Scalar.muli v483 c256_i32_184
  v486
def k0_off8 (i : grid0.Coords) : Fin 3 → Nat :=
  let c1_185 : Index := 1#32
  let arg2 : BitVec 32 := BitVec.ofNat 32 (i 2).val
  let c1_i32_182 : BitVec 32 := 1#32
  let v482 : BitVec 32 := Scalar.subi arg2 c1_i32_182
  let c0_i32_183 : BitVec 32 := 0#32
  let v483 : BitVec 32 := Scalar.maxsi v482 c0_i32_183
  let c256_i32_184 : BitVec 32 := 256#32
  let v486 : BitVec 32 := Scalar.muli v483 c256_i32_184
  let v487 : BitVec 32 := v486
  let v488 : Index := Scalar.indexCast v487
  let c128_186 : Index := 128#32
  ![1, v488.toNat, 128]
def k0_mult9 (i : grid0.Coords) : BitVec 32 :=
  let arg2 : BitVec 32 := BitVec.ofNat 32 (i 2).val
  let c256_i32_199 : BitVec 32 := 256#32
  let v537 : BitVec 32 := Scalar.muli arg2 c256_i32_199
  v537
def k0_off9 (i : grid0.Coords) : Fin 3 → Nat :=
  let c2_200 : Index := 2#32
  let arg2 : BitVec 32 := BitVec.ofNat 32 (i 2).val
  let c256_i32_199 : BitVec 32 := 256#32
  let v537 : BitVec 32 := Scalar.muli arg2 c256_i32_199
  let v538 : BitVec 32 := v537
  let v539 : Index := Scalar.indexCast v538
  let c0_201 : Index := 0#32
  ![2, v539.toNat, 0]
def k0_mult10 (i : grid0.Coords) : BitVec 32 :=
  let arg2 : BitVec 32 := BitVec.ofNat 32 (i 2).val
  let c1_i32_214 : BitVec 32 := 1#32
  let v589 : BitVec 32 := Scalar.subi arg2 c1_i32_214
  let c0_i32_215 : BitVec 32 := 0#32
  let v590 : BitVec 32 := Scalar.maxsi v589 c0_i32_215
  let c256_i32_216 : BitVec 32 := 256#32
  let v593 : BitVec 32 := Scalar.muli v590 c256_i32_216
  v593
def k0_off10 (i : grid0.Coords) : Fin 3 → Nat :=
  let c2_217 : Index := 2#32
  let arg2 : BitVec 32 := BitVec.ofNat 32 (i 2).val
  let c1_i32_214 : BitVec 32 := 1#32
  let v589 : BitVec 32 := Scalar.subi arg2 c1_i32_214
  let c0_i32_215 : BitVec 32 := 0#32
  let v590 : BitVec 32 := Scalar.maxsi v589 c0_i32_215
  let c256_i32_216 : BitVec 32 := 256#32
  let v593 : BitVec 32 := Scalar.muli v590 c256_i32_216
  let v594 : BitVec 32 := v593
  let v595 : Index := Scalar.indexCast v594
  let c0_218 : Index := 0#32
  ![2, v595.toNat, 0]
def k0_mult11 (i : grid0.Coords) : BitVec 32 :=
  let arg2 : BitVec 32 := BitVec.ofNat 32 (i 2).val
  let c256_i32_231 : BitVec 32 := 256#32
  let v644 : BitVec 32 := Scalar.muli arg2 c256_i32_231
  v644
def k0_off11 (i : grid0.Coords) : Fin 3 → Nat :=
  let c2_232 : Index := 2#32
  let arg2 : BitVec 32 := BitVec.ofNat 32 (i 2).val
  let c256_i32_231 : BitVec 32 := 256#32
  let v644 : BitVec 32 := Scalar.muli arg2 c256_i32_231
  let v645 : BitVec 32 := v644
  let v646 : Index := Scalar.indexCast v645
  let c128_233 : Index := 128#32
  ![2, v646.toNat, 128]
def k0_mult12 (i : grid0.Coords) : BitVec 32 :=
  let arg2 : BitVec 32 := BitVec.ofNat 32 (i 2).val
  let c1_i32_246 : BitVec 32 := 1#32
  let v696 : BitVec 32 := Scalar.subi arg2 c1_i32_246
  let c0_i32_247 : BitVec 32 := 0#32
  let v697 : BitVec 32 := Scalar.maxsi v696 c0_i32_247
  let c256_i32_248 : BitVec 32 := 256#32
  let v700 : BitVec 32 := Scalar.muli v697 c256_i32_248
  v700
def k0_off12 (i : grid0.Coords) : Fin 3 → Nat :=
  let c2_249 : Index := 2#32
  let arg2 : BitVec 32 := BitVec.ofNat 32 (i 2).val
  let c1_i32_246 : BitVec 32 := 1#32
  let v696 : BitVec 32 := Scalar.subi arg2 c1_i32_246
  let c0_i32_247 : BitVec 32 := 0#32
  let v697 : BitVec 32 := Scalar.maxsi v696 c0_i32_247
  let c256_i32_248 : BitVec 32 := 256#32
  let v700 : BitVec 32 := Scalar.muli v697 c256_i32_248
  let v701 : BitVec 32 := v700
  let v702 : Index := Scalar.indexCast v701
  let c128_250 : Index := 128#32
  ![2, v702.toNat, 128]
def k0_mult13 (i : grid0.Coords) : BitVec 32 :=
  let arg2 : BitVec 32 := BitVec.ofNat 32 (i 2).val
  let c256_i32_263 : BitVec 32 := 256#32
  let v751 : BitVec 32 := Scalar.muli arg2 c256_i32_263
  v751
def k0_off13 (i : grid0.Coords) : Fin 3 → Nat :=
  let c3_264 : Index := 3#32
  let arg2 : BitVec 32 := BitVec.ofNat 32 (i 2).val
  let c256_i32_263 : BitVec 32 := 256#32
  let v751 : BitVec 32 := Scalar.muli arg2 c256_i32_263
  let v752 : BitVec 32 := v751
  let v753 : Index := Scalar.indexCast v752
  let c0_265 : Index := 0#32
  ![3, v753.toNat, 0]
def k0_mult14 (i : grid0.Coords) : BitVec 32 :=
  let arg2 : BitVec 32 := BitVec.ofNat 32 (i 2).val
  let c1_i32_278 : BitVec 32 := 1#32
  let v803 : BitVec 32 := Scalar.subi arg2 c1_i32_278
  let c0_i32_279 : BitVec 32 := 0#32
  let v804 : BitVec 32 := Scalar.maxsi v803 c0_i32_279
  let c256_i32_280 : BitVec 32 := 256#32
  let v807 : BitVec 32 := Scalar.muli v804 c256_i32_280
  v807
def k0_off14 (i : grid0.Coords) : Fin 3 → Nat :=
  let c3_281 : Index := 3#32
  let arg2 : BitVec 32 := BitVec.ofNat 32 (i 2).val
  let c1_i32_278 : BitVec 32 := 1#32
  let v803 : BitVec 32 := Scalar.subi arg2 c1_i32_278
  let c0_i32_279 : BitVec 32 := 0#32
  let v804 : BitVec 32 := Scalar.maxsi v803 c0_i32_279
  let c256_i32_280 : BitVec 32 := 256#32
  let v807 : BitVec 32 := Scalar.muli v804 c256_i32_280
  let v808 : BitVec 32 := v807
  let v809 : Index := Scalar.indexCast v808
  let c0_282 : Index := 0#32
  ![3, v809.toNat, 0]
def k0_mult15 (i : grid0.Coords) : BitVec 32 :=
  let arg2 : BitVec 32 := BitVec.ofNat 32 (i 2).val
  let c256_i32_295 : BitVec 32 := 256#32
  let v858 : BitVec 32 := Scalar.muli arg2 c256_i32_295
  v858
def k0_off15 (i : grid0.Coords) : Fin 3 → Nat :=
  let c3_296 : Index := 3#32
  let arg2 : BitVec 32 := BitVec.ofNat 32 (i 2).val
  let c256_i32_295 : BitVec 32 := 256#32
  let v858 : BitVec 32 := Scalar.muli arg2 c256_i32_295
  let v859 : BitVec 32 := v858
  let v860 : Index := Scalar.indexCast v859
  let c128_297 : Index := 128#32
  ![3, v860.toNat, 128]
def k0_mult16 (i : grid0.Coords) : BitVec 32 :=
  let arg2 : BitVec 32 := BitVec.ofNat 32 (i 2).val
  let c1_i32_310 : BitVec 32 := 1#32
  let v910 : BitVec 32 := Scalar.subi arg2 c1_i32_310
  let c0_i32_311 : BitVec 32 := 0#32
  let v911 : BitVec 32 := Scalar.maxsi v910 c0_i32_311
  let c256_i32_312 : BitVec 32 := 256#32
  let v914 : BitVec 32 := Scalar.muli v911 c256_i32_312
  v914
def k0_off16 (i : grid0.Coords) : Fin 3 → Nat :=
  let c3_313 : Index := 3#32
  let arg2 : BitVec 32 := BitVec.ofNat 32 (i 2).val
  let c1_i32_310 : BitVec 32 := 1#32
  let v910 : BitVec 32 := Scalar.subi arg2 c1_i32_310
  let c0_i32_311 : BitVec 32 := 0#32
  let v911 : BitVec 32 := Scalar.maxsi v910 c0_i32_311
  let c256_i32_312 : BitVec 32 := 256#32
  let v914 : BitVec 32 := Scalar.muli v911 c256_i32_312
  let v915 : BitVec 32 := v914
  let v916 : Index := Scalar.indexCast v915
  let c128_314 : Index := 128#32
  ![3, v916.toNat, 128]
def k0_mult17 (arg21 : BitVec 32) : BitVec 32 :=
  let c256_i32_357 : BitVec 32 := 256#32
  let v1035 : BitVec 32 := Scalar.muli arg21 c256_i32_357
  v1035

def k0_off17 (arg21 : BitVec 32) : Fin 3 → Nat :=
  let c0_358 : Index := 0#32
  let c256_i32_357 : BitVec 32 := 256#32
  let v1035 : BitVec 32 := Scalar.muli arg21 c256_i32_357
  let v1036 : BitVec 32 := v1035
  let v1037 : Index := Scalar.indexCast v1036
  let c0_359 : Index := 0#32
  ![0, v1037.toNat, 0]
def k0_mult18 (arg21 : BitVec 32) : BitVec 32 :=
  let c256_i32_370 : BitVec 32 := 256#32
  let v1083 : BitVec 32 := Scalar.muli arg21 c256_i32_370
  v1083
def k0_off18 (arg21 : BitVec 32) : Fin 3 → Nat :=
  let c0_371 : Index := 0#32
  let c256_i32_370 : BitVec 32 := 256#32
  let v1083 : BitVec 32 := Scalar.muli arg21 c256_i32_370
  let v1084 : BitVec 32 := v1083
  let v1085 : Index := Scalar.indexCast v1084
  let c128_372 : Index := 128#32
  ![0, v1085.toNat, 128]
def k0_mult19 (arg21 : BitVec 32) : BitVec 32 :=
  let c256_i32_383 : BitVec 32 := 256#32
  let v1131 : BitVec 32 := Scalar.muli arg21 c256_i32_383
  v1131
def k0_off19 (arg21 : BitVec 32) : Fin 3 → Nat :=
  let c1_384 : Index := 1#32
  let c256_i32_383 : BitVec 32 := 256#32
  let v1131 : BitVec 32 := Scalar.muli arg21 c256_i32_383
  let v1132 : BitVec 32 := v1131
  let v1133 : Index := Scalar.indexCast v1132
  let c0_385 : Index := 0#32
  ![1, v1133.toNat, 0]
def k0_mult20 (arg21 : BitVec 32) : BitVec 32 :=
  let c256_i32_396 : BitVec 32 := 256#32
  let v1179 : BitVec 32 := Scalar.muli arg21 c256_i32_396
  v1179
def k0_off20 (arg21 : BitVec 32) : Fin 3 → Nat :=
  let c1_397 : Index := 1#32
  let c256_i32_396 : BitVec 32 := 256#32
  let v1179 : BitVec 32 := Scalar.muli arg21 c256_i32_396
  let v1180 : BitVec 32 := v1179
  let v1181 : Index := Scalar.indexCast v1180
  let c128_398 : Index := 128#32
  ![1, v1181.toNat, 128]
def k0_mult21 (arg21 : BitVec 32) : BitVec 32 :=
  let c256_i32_409 : BitVec 32 := 256#32
  let v1227 : BitVec 32 := Scalar.muli arg21 c256_i32_409
  v1227
def k0_off21 (arg21 : BitVec 32) : Fin 3 → Nat :=
  let c2_410 : Index := 2#32
  let c256_i32_409 : BitVec 32 := 256#32
  let v1227 : BitVec 32 := Scalar.muli arg21 c256_i32_409
  let v1228 : BitVec 32 := v1227
  let v1229 : Index := Scalar.indexCast v1228
  let c0_411 : Index := 0#32
  ![2, v1229.toNat, 0]
def k0_mult22 (arg21 : BitVec 32) : BitVec 32 :=
  let c256_i32_422 : BitVec 32 := 256#32
  let v1275 : BitVec 32 := Scalar.muli arg21 c256_i32_422
  v1275
def k0_off22 (arg21 : BitVec 32) : Fin 3 → Nat :=
  let c2_423 : Index := 2#32
  let c256_i32_422 : BitVec 32 := 256#32
  let v1275 : BitVec 32 := Scalar.muli arg21 c256_i32_422
  let v1276 : BitVec 32 := v1275
  let v1277 : Index := Scalar.indexCast v1276
  let c128_424 : Index := 128#32
  ![2, v1277.toNat, 128]
def k0_mult23 (arg21 : BitVec 32) : BitVec 32 :=
  let c256_i32_435 : BitVec 32 := 256#32
  let v1323 : BitVec 32 := Scalar.muli arg21 c256_i32_435
  v1323
def k0_off23 (arg21 : BitVec 32) : Fin 3 → Nat :=
  let c3_436 : Index := 3#32
  let c256_i32_435 : BitVec 32 := 256#32
  let v1323 : BitVec 32 := Scalar.muli arg21 c256_i32_435
  let v1324 : BitVec 32 := v1323
  let v1325 : Index := Scalar.indexCast v1324
  let c0_437 : Index := 0#32
  ![3, v1325.toNat, 0]
def k0_mult24 (arg21 : BitVec 32) : BitVec 32 :=
  let c256_i32_448 : BitVec 32 := 256#32
  let v1371 : BitVec 32 := Scalar.muli arg21 c256_i32_448
  v1371
def k0_off24 (arg21 : BitVec 32) : Fin 3 → Nat :=
  let c3_449 : Index := 3#32
  let c256_i32_448 : BitVec 32 := 256#32
  let v1371 : BitVec 32 := Scalar.muli arg21 c256_i32_448
  let v1372 : BitVec 32 := v1371
  let v1373 : Index := Scalar.indexCast v1372
  let c128_450 : Index := 128#32
  ![3, v1373.toNat, 128]

def k0_chk1 (arg21 : BitVec 32) : Prop :=
  (256 ∣ (k0_mult17 arg21).toNat) ∧
  (∀ a, (k0_off17 arg21) a + S1x256x128.size a ≤ S4x4096x256.size a) ∧
  (256 ∣ (k0_mult18 arg21).toNat) ∧
  (∀ a, (k0_off18 arg21) a + S1x256x128.size a ≤ S4x4096x256.size a) ∧
  (256 ∣ (k0_mult19 arg21).toNat) ∧
  (∀ a, (k0_off19 arg21) a + S1x256x128.size a ≤ S4x4096x256.size a) ∧
  (256 ∣ (k0_mult20 arg21).toNat) ∧
  (∀ a, (k0_off20 arg21) a + S1x256x128.size a ≤ S4x4096x256.size a) ∧
  (256 ∣ (k0_mult21 arg21).toNat) ∧
  (∀ a, (k0_off21 arg21) a + S1x256x128.size a ≤ S4x4096x256.size a) ∧
  (256 ∣ (k0_mult22 arg21).toNat) ∧
  (∀ a, (k0_off22 arg21) a + S1x256x128.size a ≤ S4x4096x256.size a) ∧
  (256 ∣ (k0_mult23 arg21).toNat) ∧
  (∀ a, (k0_off23 arg21) a + S1x256x128.size a ≤ S4x4096x256.size a) ∧
  (256 ∣ (k0_mult24 arg21).toNat) ∧
  (∀ a, (k0_off24 arg21) a + S1x256x128.size a ≤ S4x4096x256.size a)
theorem k0_mult17_dvd : ∀ (arg21 : BitVec 32) (k0_hw1 : k0_chk1 arg21), 256 ∣ (k0_mult17 arg21).toNat := fun arg21 k0_hw1 => k0_hw1.1
theorem k0_off17_inb : ∀ (arg21 : BitVec 32) (k0_hw1 : k0_chk1 arg21), ∀ a, (k0_off17 arg21) a + S1x256x128.size a ≤ S4x4096x256.size a := fun arg21 k0_hw1 => k0_hw1.2.1
theorem k0_mult18_dvd : ∀ (arg21 : BitVec 32) (k0_hw1 : k0_chk1 arg21), 256 ∣ (k0_mult18 arg21).toNat := fun arg21 k0_hw1 => k0_hw1.2.2.1
theorem k0_off18_inb : ∀ (arg21 : BitVec 32) (k0_hw1 : k0_chk1 arg21), ∀ a, (k0_off18 arg21) a + S1x256x128.size a ≤ S4x4096x256.size a := fun arg21 k0_hw1 => k0_hw1.2.2.2.1
theorem k0_mult19_dvd : ∀ (arg21 : BitVec 32) (k0_hw1 : k0_chk1 arg21), 256 ∣ (k0_mult19 arg21).toNat := fun arg21 k0_hw1 => k0_hw1.2.2.2.2.1
theorem k0_off19_inb : ∀ (arg21 : BitVec 32) (k0_hw1 : k0_chk1 arg21), ∀ a, (k0_off19 arg21) a + S1x256x128.size a ≤ S4x4096x256.size a := fun arg21 k0_hw1 => k0_hw1.2.2.2.2.2.1
theorem k0_mult20_dvd : ∀ (arg21 : BitVec 32) (k0_hw1 : k0_chk1 arg21), 256 ∣ (k0_mult20 arg21).toNat := fun arg21 k0_hw1 => k0_hw1.2.2.2.2.2.2.1
theorem k0_off20_inb : ∀ (arg21 : BitVec 32) (k0_hw1 : k0_chk1 arg21), ∀ a, (k0_off20 arg21) a + S1x256x128.size a ≤ S4x4096x256.size a := fun arg21 k0_hw1 => k0_hw1.2.2.2.2.2.2.2.1
theorem k0_mult21_dvd : ∀ (arg21 : BitVec 32) (k0_hw1 : k0_chk1 arg21), 256 ∣ (k0_mult21 arg21).toNat := fun arg21 k0_hw1 => k0_hw1.2.2.2.2.2.2.2.2.1
theorem k0_off21_inb : ∀ (arg21 : BitVec 32) (k0_hw1 : k0_chk1 arg21), ∀ a, (k0_off21 arg21) a + S1x256x128.size a ≤ S4x4096x256.size a := fun arg21 k0_hw1 => k0_hw1.2.2.2.2.2.2.2.2.2.1
theorem k0_mult22_dvd : ∀ (arg21 : BitVec 32) (k0_hw1 : k0_chk1 arg21), 256 ∣ (k0_mult22 arg21).toNat := fun arg21 k0_hw1 => k0_hw1.2.2.2.2.2.2.2.2.2.2.1
theorem k0_off22_inb : ∀ (arg21 : BitVec 32) (k0_hw1 : k0_chk1 arg21), ∀ a, (k0_off22 arg21) a + S1x256x128.size a ≤ S4x4096x256.size a := fun arg21 k0_hw1 => k0_hw1.2.2.2.2.2.2.2.2.2.2.2.1
theorem k0_mult23_dvd : ∀ (arg21 : BitVec 32) (k0_hw1 : k0_chk1 arg21), 256 ∣ (k0_mult23 arg21).toNat := fun arg21 k0_hw1 => k0_hw1.2.2.2.2.2.2.2.2.2.2.2.2.1
theorem k0_off23_inb : ∀ (arg21 : BitVec 32) (k0_hw1 : k0_chk1 arg21), ∀ a, (k0_off23 arg21) a + S1x256x128.size a ≤ S4x4096x256.size a := fun arg21 k0_hw1 => k0_hw1.2.2.2.2.2.2.2.2.2.2.2.2.2.1
theorem k0_mult24_dvd : ∀ (arg21 : BitVec 32) (k0_hw1 : k0_chk1 arg21), 256 ∣ (k0_mult24 arg21).toNat := fun arg21 k0_hw1 => k0_hw1.2.2.2.2.2.2.2.2.2.2.2.2.2.2.1
theorem k0_off24_inb : ∀ (arg21 : BitVec 32) (k0_hw1 : k0_chk1 arg21), ∀ a, (k0_off24 arg21) a + S1x256x128.size a ≤ S4x4096x256.size a := fun arg21 k0_hw1 => k0_hw1.2.2.2.2.2.2.2.2.2.2.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  let c0_i32_8 : BitVec 32 := 0#32
  ![c0_i32_6.toNat, v20.toNat, c0_i32_7.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  let c0_i32_8 : BitVec 32 := 0#32
  ![c0_i32_6.toNat, v20.toNat, c0_i32_7.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  let c0_i32_8 : BitVec 32 := 0#32
  ![c0_i32_6.toNat, v20.toNat, c0_i32_7.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  let c0_i32_8 : BitVec 32 := 0#32
  ![c0_i32_6.toNat, v20.toNat, c0_i32_7.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  let c0_i32_8 : BitVec 32 := 0#32
  ![c0_i32_6.toNat, v20.toNat, c0_i32_7.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  let c0_i32_8 : BitVec 32 := 0#32
  ![c0_i32_6.toNat, v20.toNat, c0_i32_7.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let c0_i32_7 : BitVec 32 := 0#32
  let c0_i32_8 : BitVec 32 := 0#32
  ![c1_i32_6.toNat, v20.toNat, c0_i32_7.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

abbrev stage0_0 : Fin 2 → Memref sig .tc .vmem S4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x32x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x32x13312 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S32x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S32x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S32x13312 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== KernelIdeal.lean ====
variable {F : FTy → Type} [FloatOps F] [Named F]
def κ : String → Option EReal := fun
  | "exp2_zero_below" => some ⊥
  | "inv_ln2" => some (((Real.log 2)⁻¹ : ℝ) : EReal)
  | "no_prev" => some ⊥
  | "q_scale" => some (((Real.sqrt 128)⁻¹ * (Real.log 2)⁻¹ : ℝ) : EReal)
  | _ => none
-- ==== ReferenceIdeal.lean ====
abbrev S16384x13312 : Shape := ⟨2, ![16384, 13312]⟩
abbrev S2x2048x5632 : Shape := ⟨3, ![2, 2048, 5632]⟩
abbrev S2x1024x2048 : Shape := ⟨3, ![2, 1024, 2048]⟩
abbrev S2x2048x2048 : Shape := ⟨3, ![2, 2048, 2048]⟩
abbrev S2x2048x13312 : Shape := ⟨3, ![2, 2048, 13312]⟩
abbrev S4x4096x13312 : Shape := ⟨3, ![4, 4096, 13312]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x2048x5632 : Shape := ⟨3, ![1, 2048, 5632]⟩
abbrev S2048x5632 : Shape := ⟨2, ![2048, 5632]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048x13312 : Shape := ⟨3, ![1, 2048, 13312]⟩
abbrev S2048x13312 : Shape := ⟨2, ![2048, 13312]⟩

abbrev nBuf : Space → Nat
  | .hbm => 105
  | .vmem => 0
  | .smem => 0
  | _ => 0

abbrev bufTy : (tb : Table) → Fin (tcTables nBuf tb) → BufTy
  | .hbm, ⟨0, _⟩ => ⟨S16384x13312, .bf16⟩
  | .hbm, ⟨1, _⟩ => ⟨S2x2048x5632, .f32⟩
  | .hbm, ⟨2, _⟩ => ⟨S2x2048x5632, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048x13312, .f32⟩
  | .hbm, ⟨8, _⟩ => ⟨S16384x13312, .f32⟩
  | .hbm, ⟨9, _⟩ => ⟨S4x4096x13312, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x8x128, .f32⟩
  | .hbm, ⟨14, _⟩ => ⟨S4x8x4096x128, .f32⟩
  | .hbm, ⟨15, _⟩ => ⟨S4x4096x8x128, .f32⟩
  | .hbm, ⟨16, _⟩ => ⟨S4x8x4096x128, .f32⟩
  | .hbm, ⟨17, _⟩ => ⟨S4x4096x8x128, .f32⟩
  | .hbm, ⟨18, _⟩ => ⟨S4x8x4096x128, .f32⟩
  | .hbm, ⟨19, _⟩ => ⟨S4x8x4096x4096, .f32⟩
  | .hbm, ⟨20, _⟩ => ⟨S_, .f32⟩
  | .hbm, ⟨21, _⟩ => ⟨S_, .f32⟩
  | .hbm, ⟨22, _⟩ => ⟨S4x8x4096x4096, .f32⟩
  | .hbm, ⟨23, _⟩ => ⟨S4x8x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4x8x4096x4096, .f32⟩
  | .hbm, ⟨32, _⟩ => ⟨S_, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .i1⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S_, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .i1⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S_, .f32⟩
  | .hbm, ⟨65, _⟩ => ⟨S_, .f32⟩
  | .hbm, ⟨66, _⟩ => ⟨S4x8x4096x4096, .i1⟩
  | .hbm, ⟨67, _⟩ => ⟨S4x8x4096x4096, .f32⟩
  | .hbm, ⟨68, _⟩ => ⟨S4x8x4096x4096, .f32⟩
  | .hbm, ⟨69, _⟩ => ⟨S_, .f32⟩
  | .hbm, ⟨70, _⟩ => ⟨S_, .f32⟩
  | .hbm, ⟨71, _⟩ => ⟨S4x8x4096x4096, .f32⟩
  | .hbm, ⟨72, _⟩ => ⟨S4x8x4096x4096, .f32⟩
  | .hbm, ⟨73, _⟩ => ⟨S4x8x4096x4096, .f32⟩
  | .hbm, ⟨74, _⟩ => ⟨S4x8x4096x4096, .f32⟩
  | .hbm, ⟨75, _⟩ => ⟨S_, .f32⟩
  | .hbm, ⟨76, _⟩ => ⟨S_, .f32⟩
  | .hbm, ⟨77, _⟩ => ⟨S4x8x4096x4096, .i1⟩
  | .hbm, ⟨78, _⟩ => ⟨S4x8x4096x4096, .f32⟩
  | .hbm, ⟨79, _⟩ => ⟨S4x8x4096x4096, .f32⟩
  | .hbm, ⟨80, _⟩ => ⟨S4x8x4096x128, .f32⟩
  | .hbm, ⟨81, _⟩ => ⟨S4x4096x8x128, .f32⟩
  | .hbm, ⟨82, _⟩ => ⟨S4x4096x1024, .f32⟩
  | .hbm, ⟨83, _⟩ => ⟨S4x4096x1024, .bf16⟩
  | .hbm, ⟨84, _⟩ => ⟨S1x2048x5632, .f32⟩
  | .hbm, ⟨85, _⟩ => ⟨S2048x5632, .f32⟩
  | .hbm, ⟨86, _⟩ => ⟨S2048x5632, .bf16⟩
  | .hbm, ⟨87, _⟩ => ⟨S1x2048x5632, .f32⟩
  | .hbm, ⟨88, _⟩ => ⟨S2048x5632, .f32⟩
  | .hbm, ⟨89, _⟩ => ⟨S2048x5632, .bf16⟩
  | .hbm, ⟨90, _⟩ => ⟨S1x1024x2048, .f32⟩
  | .hbm, ⟨91, _⟩ => ⟨S1024x2048, .f32⟩
  | .hbm, ⟨92, _⟩ => ⟨S1024x2048, .bf16⟩
  | .hbm, ⟨93, _⟩ => ⟨S1x1024x2048, .f32⟩
  | .hbm, ⟨94, _⟩ => ⟨S1024x2048, .f32⟩
  | .hbm, ⟨95, _⟩ => ⟨S1024x2048, .bf16⟩
  | .hbm, ⟨96, _⟩ => ⟨S1x1024x2048, .f32⟩
  | .hbm, ⟨97, _⟩ => ⟨S1024x2048, .f32⟩
  | .hbm, ⟨98, _⟩ => ⟨S1024x2048, .bf16⟩
  | .hbm, ⟨99, _⟩ => ⟨S1x2048x2048, .f32⟩
  | .hbm, ⟨100, _⟩ => ⟨S2048x2048, .f32⟩
  | .hbm, ⟨101, _⟩ => ⟨S2048x2048, .bf16⟩
  | .hbm, ⟨102, _⟩ => ⟨S1x2048x13312, .f32⟩
  | .hbm, ⟨103, _⟩ => ⟨S2048x13312, .f32⟩
  | .hbm, ⟨104, _⟩ => ⟨S2048x13312, .bf16⟩
  | _, _ => ⟨S16384x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v22 : Ref sig .tc := ⟨.hbm, 46, rfl⟩
abbrev main_v23 : Ref sig .tc := ⟨.hbm, 47, rfl⟩
abbrev main_call1_v0 : Ref sig .tc := ⟨.hbm, 48, rfl⟩
abbrev main_call1_call0_cst : Ref sig .tc := ⟨.hbm, 49, rfl⟩
abbrev main_call1_call0_v0 : Ref sig .tc := ⟨.hbm, 50, rfl⟩
abbrev main_call1_call0_v1 : Ref sig .tc := ⟨.hbm, 51, rfl⟩
abbrev main_call1_call0_v2 : Ref sig .tc := ⟨.hbm, 52, rfl⟩
abbrev main_call1_call0_v3 : Ref sig .tc := ⟨.hbm, 53, rfl⟩
abbrev main_call1_call0_v4 : Ref sig .tc := ⟨.hbm, 54, rfl⟩
abbrev main_call1_call0_v5 : Ref sig .tc := ⟨.hbm, 55, rfl⟩
abbrev main_call1_call0_v6 : Ref sig .tc := ⟨.hbm, 56, rfl⟩
abbrev main_call1_call0_v7 : Ref sig .tc := ⟨.hbm, 57, rfl⟩
abbrev main_call1_call0_v8 : Ref sig .tc := ⟨.hbm, 58, rfl⟩
abbrev main_call1_call0_v9 : Ref sig .tc := ⟨.hbm, 59, rfl⟩
abbrev main_call1_call0_v10 : Ref sig .tc := ⟨.hbm, 60, rfl⟩
abbrev main_call1_call0_v11 : Ref sig .tc := ⟨.hbm, 61, rfl⟩
abbrev main_call1_v1 : Ref sig .tc := ⟨.hbm, 62, rfl⟩
abbrev main_v24 : Ref sig .tc := ⟨.hbm, 63, rfl⟩
abbrev main_cst_0 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v25 : Ref sig .tc := ⟨.hbm, 68, rfl⟩
abbrev main_call3_cst : Ref sig .tc := ⟨.hbm, 69, rfl⟩
abbrev main_call3_v0 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_1 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩

abbrev nD : Nat := 1
abbrev τ : Topo := Topo.v7x

variable {F : FTy → Type} [FloatOps F]
-- ==== Kernel2.lean ====
abbrev S4x4096x2048 : Shape := ⟨3, ![4, 4096, 2048]⟩
abbrev S2x2048 : Shape := ⟨2, ![2, 2048]⟩
abbrev S2x2048x13312 : Shape := ⟨3, ![2, 2048, 13312]⟩
abbrev S16384x2048 : Shape := ⟨2, ![16384, 2048]⟩
abbrev S1x2048 : Shape := ⟨2, ![1, 2048]⟩
abbrev S2048 : Shape := ⟨1, ![2048]⟩
abbrev S16384x13312 : Shape := ⟨2, ![16384, 13312]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x13312, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S16384x13312, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S2x2048 : Shape := ⟨2, ![2, 2048]⟩
abbrev S2x2048x13312 : Shape := ⟨3, ![2, 2048, 13312]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x13312 : Shape := ⟨3, ![1, 2048, 13312]⟩
abbrev S2048x13312 : Shape := ⟨2, ![2048, 13312]⟩
abbrev S4x4096x13312 : Shape := ⟨3, ![4, 4096, 13312]⟩
abbrev S16384x13312 : Shape := ⟨2, ![16384, 13312]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x13312, .f32⟩
  | .hbm, ⟨3, _⟩ => ⟨S1x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S1x2048x13312, .f32⟩
  | .hbm, ⟨22, _⟩ => ⟨S2048x13312, .f32⟩
  | .hbm, ⟨23, _⟩ => ⟨S4x4096x13312, .f32⟩
  | .hbm, ⟨24, _⟩ => ⟨S16384x13312, .f32⟩
  | .hbm, ⟨25, _⟩ => ⟨S16384x13312, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel3.lean ====
abbrev S16384x2048 : Shape := ⟨2, ![16384, 2048]⟩
abbrev S2x2048 : Shape := ⟨2, ![2, 2048]⟩
abbrev S2048x5632 : Shape := ⟨2, ![2048, 5632]⟩
abbrev S1x2048 : Shape := ⟨2, ![1, 2048]⟩
abbrev S2048 : Shape := ⟨1, ![2048]⟩
abbrev S1x2048x5632 : Shape := ⟨3, ![1, 2048, 5632]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S1x2048, .f32⟩
  | .hbm, ⟨5, _⟩ => ⟨S2048, .f32⟩
  | .hbm, ⟨6, _⟩ => ⟨S1x2048x5632, .bf16⟩
  | .hbm, ⟨7, _⟩ => ⟨S1x2048x5632, .bf16⟩
  | .hbm, ⟨8, _⟩ => ⟨S1x2048, .f32⟩
  | .hbm, ⟨9, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x2048 : Shape := ⟨2, ![16384, 2048]⟩
abbrev S2x2048 : Shape := ⟨2, ![2, 2048]⟩
abbrev S2048x5632 : Shape := ⟨2, ![2048, 5632]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S1x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S2048x5632, .f32⟩
  | .hbm, ⟨34, _⟩ => ⟨S16384x5632, .f32⟩
  | .hbm, ⟨35, _⟩ => ⟨S16384x5632, .f32⟩
  | .hbm, ⟨36, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel4.lean ====
abbrev S16384x5632 : Shape := ⟨2, ![16384, 5632]⟩
abbrev S5632x2048 : Shape := ⟨2, ![5632, 2048]⟩
abbrev S16384x2048 : Shape := ⟨2, ![16384, 2048]⟩
abbrev S1x5632x2048 : Shape := ⟨3, ![1, 5632, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S1x5632x2048, .bf16⟩
  | .hbm, ⟨4, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x5632 : Shape := ⟨2, ![16384, 5632]⟩
abbrev S5632x2048 : Shape := ⟨2, ![5632, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S16384x5632, .f32⟩
  | .hbm, ⟨4, _⟩ => ⟨S5632x2048, .f32⟩
  | .hbm, ⟨5, _⟩ => ⟨S16384x2048, .f32⟩
  | .hbm, ⟨6, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x2048 : Shape := ⟨2, ![16384, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S1x2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S1x5632x2048 : Shape := ⟨3, ![1, 5632, 2048]⟩
abbrev S1x2048 : Shape := ⟨2, ![1, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S2048, .f32⟩
  | .hbm, ⟨4, _⟩ => ⟨S1x5632x2048, .bf16⟩
  | .hbm, ⟨5, _⟩ => ⟨S1x2048, .f32⟩
  | .hbm, ⟨6, _⟩ => ⟨S16384x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S2048, .f32⟩
  | .hbm, ⟨4, _⟩ => ⟨S16384x5632, .f32⟩
  | .hbm, ⟨5, _⟩ => ⟨S5632x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S4x4096x1024 : Shape := ⟨3, ![4, 4096, 1024]⟩
abbrev S16384x1024 : Shape := ⟨2, ![16384, 1024]⟩
abbrev S16384x13312 : Shape := ⟨2, ![16384, 13312]⟩
abbrev S1024x2048 : Shape := ⟨2, ![1024, 2048]⟩
abbrev S1x1024x2048 : Shape := ⟨3, ![1, 1024, 2048]⟩
abbrev S16384x2048 : Shape := ⟨2, ![16384, 2048]⟩
abbrev S1024x1024 : Shape := ⟨2, ![1024, 1024]⟩
abbrev S1x1024x1024 : Shape := ⟨3, ![1, 1024, 1024]⟩

abbrev nBuf : Space → Nat
  | .hbm => 13
  | .vmem => 20
  | .smem => 0
  | _ => 0

abbrev bufTy : (tb : Table) → Fin (tcTables nBuf tb) → BufTy
  | .hbm, ⟨0, _⟩ => ⟨S4x4096x1024, .bf16⟩
  | .hbm, ⟨1, _⟩ => ⟨S16384x1024, .bf16⟩
  | .hbm, ⟨2, _⟩ => ⟨S4x4096x1024, .bf16⟩
  | .hbm, ⟨3, _⟩ => ⟨S16384x13312, .bf16⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S16384x1024, .bf16⟩
  | .hbm, ⟨8, _⟩ => ⟨S16384x1024, .bf16⟩
  | .hbm, ⟨9, _⟩ => ⟨S1x1024x2048, .bf16⟩
  | .hbm, ⟨10, _⟩ => ⟨S1x1024x2048, .bf16⟩
  | .hbm, ⟨11, _⟩ => ⟨S1x1024x2048, .bf16⟩
  | .hbm, ⟨12, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1024x1024, .bf16⟩
  | .local _ .vmem, ⟨19, _⟩ => ⟨S1024x1024, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S4x4096x1024 : Shape := ⟨3, ![4, 4096, 1024]⟩
abbrev S16384x1024 : Shape := ⟨2, ![16384, 1024]⟩
abbrev S16384x13312 : Shape := ⟨2, ![16384, 13312]⟩
abbrev S1024x2048 : Shape := ⟨2, ![1024, 2048]⟩
abbrev S16384x6144 : Shape := ⟨2, ![16384, 6144]⟩
abbrev S_ : Shape := ⟨0, ![]⟩
abbrev S16384x3x2048 : Shape := ⟨3, ![16384, 3, 2048]⟩
abbrev S16384x1x2048 : Shape := ⟨3, ![16384, 1, 2048]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S16384x1024, .bf16⟩
  | .hbm, ⟨2, _⟩ => ⟨S4x4096x1024, .bf16⟩
  | .hbm, ⟨3, _⟩ => ⟨S16384x13312, .bf16⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S16384x6144, .bf16⟩
  | .hbm, ⟨8, _⟩ => ⟨S16384x6144, .f32⟩
  | .hbm, ⟨9, _⟩ => ⟨S16384x6144, .f32⟩
  | .hbm, ⟨10, _⟩ => ⟨S16384x6144, .f32⟩
  | .hbm, ⟨11, _⟩ => ⟨S_, .f32⟩
  | .hbm, ⟨12, _⟩ => ⟨S16384x6144, .f32⟩
  | .hbm, ⟨13, _⟩ => ⟨S16384x6144, .f32⟩
  | .hbm, ⟨14, _⟩ => ⟨S_, .f32⟩
  | .hbm, ⟨15, _⟩ => ⟨S16384x6144, .f32⟩
  | .hbm, ⟨16, _⟩ => ⟨S16384x6144, .f32⟩
  | .hbm, ⟨17, _⟩ => ⟨S16384x3x2048, .f32⟩
  | .hbm, ⟨18, _⟩ => ⟨S16384x1x2048, .f32⟩
  | .hbm, ⟨19, _⟩ => ⟨S16384x2048, .f32⟩
  | .hbm, ⟨20, _⟩ => ⟨S4x4096x1024, .f32⟩
  | .hbm, ⟨21, _⟩ => ⟨S16384x1024, .f32⟩
  | .hbm, ⟨22, _⟩ => ⟨S1024x2048, .f32⟩
  | .hbm, ⟨23, _⟩ => ⟨S16384x2048, .f32⟩
  | .hbm, ⟨24, _⟩ => ⟨S16384x2048, .f32⟩
  | .hbm, ⟨25, _⟩ => ⟨S16384x1x2048, .f32⟩
  | .hbm, ⟨26, _⟩ => ⟨S16384x2048, .f32⟩
  | .hbm, ⟨27, _⟩ => ⟨S16384x1024, .f32⟩
  | .hbm, ⟨28, _⟩ => ⟨S1024x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x1x2048, .f32⟩
  | .hbm, ⟨33, _⟩ => ⟨S16384x2048, .f32⟩
  | .hbm, ⟨34, _⟩ => ⟨S4x4096x1024, .f32⟩
  | .hbm, ⟨35, _⟩ => ⟨S16384x1024, .f32⟩
  | .hbm, ⟨36, _⟩ => ⟨S1024x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel8.lean ====
abbrev S16384x13312 : Shape := ⟨2, ![16384, 13312]⟩
abbrev S2x4x256x256 : Shape := ⟨4, ![2, 4, 256, 256]⟩
abbrev S2x1024 : Shape := ⟨2, ![2, 1024]⟩
abbrev S1x1024 : Shape := ⟨2, ![1, 1024]⟩
abbrev S1024 : Shape := ⟨1, ![1024]⟩
abbrev S16384x1024 : Shape := ⟨2, ![16384, 1024]⟩
abbrev S1024x1024 : Shape := ⟨2, ![1024, 1024]⟩
abbrev S16x1024 : Shape := ⟨2, ![16, 1024]⟩
abbrev S1x4x256x256 : Shape := ⟨4, ![1, 4, 256, 256]⟩
abbrev S1048x1024 : Shape := ⟨2, ![1048, 1024]⟩
abbrev S1048x256 : Shape := ⟨2, ![1048, 256]⟩
abbrev S8x1024 : Shape := ⟨2, ![8, 1024]⟩
abbrev S8x256 : Shape := ⟨2, ![8, 256]⟩
abbrev S1024x1 : Shape := ⟨2, ![1024, 1]⟩
abbrev S1024x256 : Shape := ⟨2, ![1024, 256]⟩
abbrev S1040x256 : Shape := ⟨2, ![1040, 256]⟩
abbrev S1x1x256x256 : Shape := ⟨4, ![1, 1, 256, 256]⟩
abbrev S256x256 : Shape := ⟨2, ![256, 256]⟩
abbrev S1x256 : Shape := ⟨2, ![1, 256]⟩

abbrev nBuf : Space → Nat
  | .hbm => 8
  | .vmem => 10
  | .smem => 0
  | _ => 0

abbrev bufTy : (tb : Table) → Fin (tcTables nBuf tb) → BufTy
  | .hbm, ⟨0, _⟩ => ⟨S16384x13312, .bf16⟩
  | .hbm, ⟨1, _⟩ => ⟨S2x4x256x256, .f32⟩
  | .hbm, ⟨2, _⟩ => ⟨S2x1024, .f32⟩
  | .hbm, ⟨3, _⟩ => ⟨S2x4x256x256, .bf16⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S1x4x256x256, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1048x1024, .f32⟩
  | .local _ .vmem, ⟨9, _⟩ => ⟨S1048x256, .f32⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16384x13312 : Shape := ⟨2, ![16384, 13312]⟩
abbrev S2x4x256x256 : Shape := ⟨4, ![2, 4, 256, 256]⟩
abbrev S2x1024 : Shape := ⟨2, ![2, 1024]⟩
abbrev S16384x1024 : Shape := ⟨2, ![16384, 1024]⟩
abbrev S4x4096x1024 : Shape := ⟨3, ![4, 4096, 1024]⟩
abbrev S1x4x256x256 : Shape := ⟨4, ![1, 4, 256, 256]⟩
abbrev S4x256x256 : Shape := ⟨3, ![4, 256, 256]⟩
abbrev S1x1024 : Shape := ⟨2, ![1, 1024]⟩
abbrev S1024 : Shape := ⟨1, ![1024]⟩
abbrev S4x4096x4x256 : Shape := ⟨4, ![4, 4096, 4, 256]⟩
abbrev S_ : Shape := ⟨0, ![]⟩
abbrev S4x1x4x256 : Shape := ⟨4, ![4, 1, 4, 256]⟩
abbrev S4x4097x4x256 : Shape := ⟨4, ![4, 4097, 4, 256]⟩
abbrev S4096 : Shape := ⟨1, ![4096]⟩
abbrev S4x4096x1x256 : Shape := ⟨4, ![4, 4096, 1, 256]⟩
abbrev S4x4096x256 : Shape := ⟨3, ![4, 4096, 256]⟩
abbrev S4096x1 : Shape := ⟨2, ![4096, 1]⟩
abbrev S4096x2 : Shape := ⟨2, ![4096, 2]⟩
abbrev S1x4096x1 : Shape := ⟨3, ![1, 4096, 1]⟩
abbrev S4x256x4x4096 : Shape := ⟨4, ![4, 256, 4, 4096]⟩
abbrev S1x1x1024 : Shape := ⟨3, ![1, 1, 1024]⟩

abbrev nBuf : Space → Nat
  | .hbm => 183
  | .vmem => 0
  | .smem => 0
  | _ => 0

abbrev hbmTy0_0 (i : Nat) : BufTy := match i % 128 with
  | 0 => ⟨S16384x13312, .bf16⟩
  | 1 => ⟨S2x4x256x256, .f32⟩
  | 2 => ⟨S2x1024, .f32⟩
  | 3 => ⟨S16384x1024, .bf16⟩
  | 4 => ⟨S16384x1024, .f32⟩
  | 5 => ⟨S4x4096x1024, .f32⟩
  | 6 => ⟨S1x4x256x256, .f32⟩
  | 7 => ⟨S4x256x256, .f32⟩
  | 8 => ⟨S1x1024, .f32⟩
  | 9 => ⟨S1024, .f32⟩
  | 10 => ⟨S4x4096x4x256, .f32⟩
  | 11 => ⟨S_, .f32⟩
  | 12 => ⟨S4x1x4x256, .f32⟩
  | 13 => ⟨S_, .f32⟩
  | 14 => ⟨S_, .f32⟩
  | 15 => ⟨S4x4096x4x256, .f32⟩
  | 16 => ⟨S4x4097x4x256, .f32⟩
  | 17 => ⟨S4096, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .i32⟩
  | 31 => ⟨S4096, .f32⟩
  | 32 => ⟨S4x4096x1x256, .f32⟩
  | 33 => ⟨S4x4096x256, .f32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096x1, .i32⟩
  | 45 => ⟨S4096x1, .i32⟩
  | 46 => ⟨S4096x2, .i32⟩
  | 47 => ⟨S4x4096x256, .f32⟩
  | 48 => ⟨S4x4096x256, .f32⟩
  | 49 => ⟨S4096x1, .f32⟩
  | 50 => ⟨S1x4096x1, .f32⟩
  | 51 => ⟨S4x4096x256, .f32⟩
  | 52 => ⟨S4x4096x256, .f32⟩
  | 53 => ⟨S4x4096x1x256, .f32⟩
  | 54 => ⟨S4x4096x256, .f32⟩
  | 55 => ⟨S4x4096x256, .f32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S4096, .i32⟩
  | 69 => ⟨S4096, .f32⟩
  | 70 => ⟨S4x4096x1x256, .f32⟩
  | 71 => ⟨S4x4096x256, .f32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096x1, .i32⟩
  | 83 => ⟨S4096x1, .i32⟩
  | 84 => ⟨S4096x2, .i32⟩
  | 85 => ⟨S4x4096x256, .f32⟩
  | 86 => ⟨S4x4096x256, .f32⟩
  | 87 => ⟨S4096x1, .f32⟩
  | 88 => ⟨S1x4096x1, .f32⟩
  | 89 => ⟨S4x4096x256, .f32⟩
  | 90 => ⟨S4x4096x256, .f32⟩
  | 91 => ⟨S4x4096x1x256, .f32⟩
  | 92 => ⟨S4x4096x256, .f32⟩
  | 93 => ⟨S4x4096x256, .f32⟩
  | 94 => ⟨S_, .i32⟩
  | 95 => ⟨S4096, .i32⟩
  | 96 => ⟨S4096, .i32⟩
  | 97 => ⟨S_, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .i32⟩
  | 107 => ⟨S4096, .f32⟩
  | 108 => ⟨S4x4096x1x256, .f32⟩
  | 109 => ⟨S4x4096x256, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S_, .i32⟩
  | 118 => ⟨S4096, .i32⟩
  | 119 => ⟨S4096, .i32⟩
  | 120 => ⟨S4096x1, .i32⟩
  | 121 => ⟨S4096x1, .i32⟩
  | 122 => ⟨S4096x2, .i32⟩
  | 123 => ⟨S4x4096x256, .f32⟩
  | 124 => ⟨S4x4096x256, .f32⟩
  | 125 => ⟨S4096x1, .f32⟩
  | 126 => ⟨S1x4096x1, .f32⟩
  | 127 => ⟨S4x4096x256, .f32⟩
  | _ => ⟨S16384x13312, .bf16⟩

abbrev hbmTy0_1 (i : Nat) : BufTy := match i % 128 with
  | 0 => ⟨S4x4096x256, .f32⟩
  | 1 => ⟨S4x4096x1x256, .f32⟩
  | 2 => ⟨S4x4096x256, .f32⟩
  | 3 => ⟨S4x4096x256, .f32⟩
  | 4 => ⟨S_, .i32⟩
  | 5 => ⟨S4096, .i32⟩
  | 6 => ⟨S4096, .i32⟩
  | 7 => ⟨S_, .i32⟩
  | 8 => ⟨S4096, .i32⟩
  | 9 => ⟨S4096, .i32⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S4096, .i32⟩
  | 17 => ⟨S4096, .f32⟩
  | 18 => ⟨S4x4096x1x256, .f32⟩
  | 19 => ⟨S4x4096x256, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096x1, .i32⟩
  | 31 => ⟨S4096x1, .i32⟩
  | 32 => ⟨S4096x2, .i32⟩
  | 33 => ⟨S4x4096x256, .f32⟩
  | 34 => ⟨S4x4096x256, .f32⟩
  | 35 => ⟨S4096x1, .f32⟩
  | 36 => ⟨S1x4096x1, .f32⟩
  | 37 => ⟨S4x4096x256, .f32⟩
  | 38 => ⟨S4x4096x256, .f32⟩
  | 39 => ⟨S4x4096x1x256, .f32⟩
  | 40 => ⟨S4x4096x256, .f32⟩
  | 41 => ⟨S4x4096x256, .f32⟩
  | 42 => ⟨S4x4096x1x256, .f32⟩
  | 43 => ⟨S4x4096x1x256, .f32⟩
  | 44 => ⟨S4x4096x1x256, .f32⟩
  | 45 => ⟨S4x4096x1x256, .f32⟩
  | 46 => ⟨S4x4096x4x256, .f32⟩
  | 47 => ⟨S4x256x4x4096, .f32⟩
  | 48 => ⟨S4x4096x4x256, .f32⟩
  | 49 => ⟨S4x4096x1024, .f32⟩
  | 50 => ⟨S1x1x1024, .f32⟩
  | 51 => ⟨S4x4096x1024, .f32⟩
  | 52 => ⟨S4x4096x1024, .f32⟩
  | 53 => ⟨S16384x1024, .f32⟩
  | 54 => ⟨S16384x1024, .bf16⟩
  | _ => ⟨S16384x13312, .bf16⟩

abbrev hbmTy (i : Nat) : BufTy := match i / 128 with
  | 0 => hbmTy0_0 i
  | 1 => hbmTy0_1 i
  | _ => ⟨S16384x13312, .bf16⟩

abbrev bufTy : (tb : Table) → Fin (tcTables nBuf tb) → BufTy
  | .hbm, ⟨i, _⟩ => hbmTy i
  | _, _ => ⟨S16384x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_call0_call0_cst : Ref sig .tc := ⟨.hbm, 13, rfl⟩
abbrev main_call0_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_c_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_13 : Ref sig .tc := ⟨.hbm, 94, rfl⟩
abbrev main_v74 : Ref sig .tc := ⟨.hbm, 95, rfl⟩
abbrev main_v75 : Ref sig .tc := ⟨.hbm, 96, rfl⟩
abbrev main_c_14 : Ref sig .tc := ⟨.hbm, 97, rfl⟩
abbrev main_v76 : Ref sig .tc := ⟨.hbm, 98, rfl⟩
abbrev main_v77 : Ref sig .tc := ⟨.hbm, 99, rfl⟩
abbrev main_c_15 : Ref sig .tc := ⟨.hbm, 100, rfl⟩
abbrev main_v78 : Ref sig .tc := ⟨.hbm, 101, rfl⟩
abbrev main_v79 : Ref sig .tc := ⟨.hbm, 102, rfl⟩
abbrev main_c_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_17 : Ref sig .tc := ⟨.hbm, 110, rfl⟩
abbrev main_v86 : Ref sig .tc := ⟨.hbm, 111, rfl⟩
abbrev main_v87 : Ref sig .tc := ⟨.hbm, 112, rfl⟩
abbrev main_c_18 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_19 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_c_20 : Ref sig .tc := ⟨.hbm, 132, rfl⟩
abbrev main_v105 : Ref sig .tc := ⟨.hbm, 133, rfl⟩
abbrev main_v106 : Ref sig .tc := ⟨.hbm, 134, rfl⟩
abbrev main_c_21 : Ref sig .tc := ⟨.hbm, 135, rfl⟩
abbrev main_v107 : Ref sig .tc := ⟨.hbm, 136, rfl⟩
abbrev main_v108 : Ref sig .tc := ⟨.hbm, 137, rfl⟩
abbrev main_c_22 : Ref sig .tc := ⟨.hbm, 138, rfl⟩
abbrev main_v109 : Ref sig .tc := ⟨.hbm, 139, rfl⟩
abbrev main_v110 : Ref sig .tc := ⟨.hbm, 140, rfl⟩
abbrev main_c_23 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_24 : Ref sig .tc := ⟨.hbm, 148, rfl⟩
abbrev main_v117 : Ref sig .tc := ⟨.hbm, 149, rfl⟩
abbrev main_v118 : Ref sig .tc := ⟨.hbm, 150, rfl⟩
abbrev main_c_25 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_c_26 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩

abbrev nD : Nat := 1
abbrev τ : Topo := Topo.v7x

variable {F : FTy → Type} [FloatOps F]
-- ==== Proof.SB.Kit.lean ====
/-
  The launch around the attention's body: @main up to the region, the windows' blocks, the staging buffers, and what
  the final arrays say of @main's arguments.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    . -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- Window 0's staging buffer holds the window's block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds the window's block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds the window's block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds the window's block at every point. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's staging buffer holds the window's block at every point. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's staging buffer holds the window's block at every point. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's staging buffer holds the window's block at every point. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7's staging buffer holds the window's block at every point. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8's staging buffer holds the window's block at every point. -/
theorem before0_8_of {c : Dev nD} (dat : Dat τ (Elt F) Unit ℕ (UR sig nD τ) ℕ (cfg0 (F := F)) c) (hA : dat.A 8 = V m c (Pipeline.arrRef spec0 8))
    (hafter : ∀ t, dat.after 8 t = iblk m c 8 t) (t : Fin (cfg0 (F := F)).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9's staging buffer holds the window's block at every point. -/
theorem before0_9_of {c : Dev nD} (dat : Dat τ (Elt F) Unit ℕ (UR sig nD τ) ℕ (cfg0 (F := F)) c) (hA : dat.A 9 = V m c (Pipeline.arrRef spec0 9))
    (hafter : ∀ t, dat.after 9 t = iblk m c 9 t) (t : Fin (cfg0 (F := F)).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (fun w => (by decide : ∀ w : Fin 18, (spec0 w).arr.view.ref ≠ main_arg0) w))).trans (V_main_arg0 m c),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).1 7).trans (((dats 0 c).arrAt_in 7 rfl _).trans ((hA c 7).trans (V_main_arg5 m c))),
      ((h c).1 8).trans (((dats 0 c).arrAt_in 8 rfl _).trans ((hA c 8).trans (V_main_arg6 m c))),
      ((h c).1 9).trans (((dats 0 c).arrAt_in 9 rfl _).trans ((hA c 9).trans (V_main_arg7 m c)))⟩) h

/-! ## The staging buffers at a point -/

abbrev ms0_0 (t : Fin (cfg0 (F := F)).N) : Memref sig .tc .vmem S4x256x256 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4x4096x256 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4x4096x256 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x32x5632 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x32x5632 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S1x16x2048 .f32 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S1x16x2048 .f32 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S1x16x2048 .f32 := win0_7.stage ((cfg0 (F := F)).slots t 7)
abbrev hs0_7 (t : Fin (cfg0 (F := F)).N) : (ms0_7 t).IsWhole := hstage0_7 (((cfg0 (F := F)).slots t 7).cast nbuf0_7)
abbrev ms0_8 (t : Fin (cfg0 (F := F)).N) : Memref sig .tc .vmem S1x32x2048 .f32 := win0_8.stage ((cfg0 (F := F)).slots t 8)
abbrev hs0_8 (t : Fin (cfg0 (F := F)).N) : (ms0_8 t).IsWhole := hstage0_8 (((cfg0 (F := F)).slots t 8).cast nbuf0_8)
abbrev ms0_9 (t : Fin (cfg0 (F := F)).N) : Memref sig .tc .vmem S1x32x13312 .f32 := win0_9.stage ((cfg0 (F := F)).slots t 9)
abbrev hs0_9 (t : Fin (cfg0 (F := F)).N) : (ms0_9 t).IsWhole := hstage0_9 (((cfg0 (F := F)).slots t 9).cast nbuf0_9)
abbrev ms0_10 (t : Fin (cfg0 (F := F)).N) : Memref sig .tc .vmem S4x256x256 .bf16 := win0_10.stage ((cfg0 (F := F)).slots t 10)
abbrev hs0_10 (t : Fin (cfg0 (F := F)).N) : (ms0_10 t).IsWhole := hstage0_10 (((cfg0 (F := F)).slots t 10).cast nbuf0_10)
abbrev ms0_11 (t : Fin (cfg0 (F := F)).N) : Memref sig .tc .vmem S32x5632 .bf16 := win0_11.stage ((cfg0 (F := F)).slots t 11)
abbrev hs0_11 (t : Fin (cfg0 (F := F)).N) : (ms0_11 t).IsWhole := hstage0_11 (((cfg0 (F := F)).slots t 11).cast nbuf0_11)
abbrev ms0_12 (t : Fin (cfg0 (F := F)).N) : Memref sig .tc .vmem S32x5632 .bf16 := win0_12.stage ((cfg0 (F := F)).slots t 12)
abbrev hs0_12 (t : Fin (cfg0 (F := F)).N) : (ms0_12 t).IsWhole := hstage0_12 (((cfg0 (F := F)).slots t 12).cast nbuf0_12)
abbrev ms0_13 (t : Fin (cfg0 (F := F)).N) : Memref sig .tc .vmem S16x2048 .bf16 := win0_13.stage ((cfg0 (F := F)).slots t 13)
abbrev hs0_13 (t : Fin (cfg0 (F := F)).N) : (ms0_13 t).IsWhole := hstage0_13 (((cfg0 (F := F)).slots t 13).cast nbuf0_13)
abbrev ms0_14 (t : Fin (cfg0 (F := F)).N) : Memref sig .tc .vmem S16x2048 .bf16 := win0_14.stage ((cfg0 (F := F)).slots t 14)
abbrev hs0_14 (t : Fin (cfg0 (F := F)).N) : (ms0_14 t).IsWhole := hstage0_14 (((cfg0 (F := F)).slots t 14).cast nbuf0_14)
abbrev ms0_15 (t : Fin (cfg0 (F := F)).N) : Memref sig .tc .vmem S16x2048 .bf16 := win0_15.stage ((cfg0 (F := F)).slots t 15)
abbrev hs0_15 (t : Fin (cfg0 (F := F)).N) : (ms0_15 t).IsWhole := hstage0_15 (((cfg0 (F := F)).slots t 15).cast nbuf0_15)
abbrev ms0_16 (t : Fin (cfg0 (F := F)).N) : Memref sig .tc .vmem S32x2048 .bf16 := win0_16.stage ((cfg0 (F := F)).slots t 16)
abbrev hs0_16 (t : Fin (cfg0 (F := F)).N) : (ms0_16 t).IsWhole := hstage0_16 (((cfg0 (F := F)).slots t 16).cast nbuf0_16)
abbrev ms0_17 (t : Fin (cfg0 (F := F)).N) : Memref sig .tc .vmem S32x13312 .bf16 := win0_17.stage ((cfg0 (F := F)).slots t 17)
abbrev hs0_17 (t : Fin (cfg0 (F := F)).N) : (ms0_17 t).IsWhole := hstage0_17 (((cfg0 (F := F)).slots t 17).cast nbuf0_17)

end Cert.Proof.SB

end
-- ==== Proof.SB.Defs.lean ====
/-
  The stick-breaking attention kernel in readable terms, for any floats: its eight streams (batch row `s / 2`, head
  `s % 2`), the tiles a stream reads, what one tile does to a stream's running sum and accumulator, and the loop over
  the tiles left of the first two.
-/
module

public import proofs.«01_k».proof.KernelIdeal
public import Idealize.ShloMosaic.Lib.Pipeline.Sound
public import Idealize.ShloMosaic.Lib.Pipeline.FrameBody
public import Idealize.ShloMosaic.Lib.Pipeline.ValueKit
public import proofs.«01_k».proof.Proof.Gen.KernelIdeal
public import proofs.«01_k».proof.Proof.Gen.KernelIdeal.Skeleton

@[expose] public section

set_option maxRecDepth 16384

noncomputable section

namespace Cert.Proof.SB

open Cert.KernelIdeal Cert.KernelIdeal.Gen
open Idealize.ShloMosaic
open Idealize.ShloMosaic.TcCoe

variable {F : FTy → Type} [FloatOps F] [Named F]

/-- A running sum or an accumulator of one stream; its query tile; a key or value tile as loaded. -/
abbrev RV (F : FTy → Type) [FloatOps F] := FVec F S256x128 .f32
abbrev QV (F : FTy → Type) [FloatOps F] := FVec F S256x128 .bf16
abbrev KV (F : FTy → Type) [FloatOps F] := Vec F S1x256x128 .bf16

/-- Stream `s`'s slab of a block of four rows: row `s / 2`, columns from `128 (s % 2)`. -/
def qslab (x : Vec F S4x256x256 .bf16) (s : Fin 8) : KV F := fun y =>
  x (ValueIdx.ix3 ⟨s.val / 2, by omega⟩ (y 1) ⟨128 * (s.val % 2) + (y 2).val, by have h : (y 2).val < 128 := (y 2).isLt; omega⟩)

/-- Stream `s`'s slab of the keys or the values, from position `o`. -/
def slab (x : Vec F S4x4096x256 .bf16) (s : Fin 8) (o : ℕ) : KV F := fun y =>
  x (ValueIdx.ix3 ⟨s.val / 2, by omega⟩ ⟨(o + (y 1).val) % 4096, Nat.mod_lt _ (by decide)⟩
    ⟨128 * (s.val % 2) + (y 2).val, by have h : (y 2).val < 128 := (y 2).isLt; omega⟩)

/-! ## What one tile does to a stream -/

section Step

variable (q : QV F) (k v : KV F) (run acc : RV F)

/-- The running sum after a tile below the diagonal, -/
def runStep : RV F := k0_pay232 (k0_pay229 q k0_pay10 k) (k0_pay230 q k0_pay10 run k)
/-- and the accumulator. -/
def accStep : RV F := k0_pay231 q k0_pay10 run acc k v

/-- The running sum after the tile on the diagonal, with `np` added for the tile before it, -/
def runDiag (np : F .f32) : RV F :=
  k0_pay34 k0_pay10 np k0_pay20 (k0_pay28 k0_pay10 q k) (k0_pay29 q k) (k0_pay30 q k)
/-- and the accumulator. -/
def accDiag : RV F :=
  k0_pay33 k0_pay10 k0_pay20 k0_pay21 k0_pay22 (k0_pay23 q k) (k0_pay24 q k) (k0_pay28 k0_pay10 q k) (k0_pay29 q k) (k0_pay30 q k) v

/-- The greatest entry of a running sum. -/
def rmax : F .f32 := k0_pay305 run

end Step

/-- The greatest entry of the eight running sums. -/
def topOf (run : Fin 8 → RV F) : F .f32 :=
  k0_pay2 (rmax (run 2)) (rmax (run 3)) (rmax (run 4)) (rmax (run 5)) (rmax (run 6)) (rmax (run 7)) (k0_pay311 (run 0) (run 1))

theorem pay_prevRun (q : QV F) (k : KV F) (run : RV F) :
    k0_pay43 k0_pay10 run (k0_pay36 q k) (k0_pay37 q k) = runStep q k run := rfl
theorem pay_prevAcc (q : QV F) (k v : KV F) (run acc : RV F) :
    k0_pay42 k0_pay10 acc run (k0_pay35 q k) (k0_pay36 q k) (k0_pay37 q k) v = accStep q k v run acc := rfl
theorem pay_top (run : Fin 8 → RV F) :
    k0_pay215 (run 3) (run 4) (run 5) (run 6) (run 7) (k0_pay212 (run 0)) (k0_pay213 (run 1)) (k0_pay214 (run 2)) = topOf run := rfl

/-! ## The loop over the tiles left -/

/-- What the loop carries: the next tile, the streams' running sums and accumulators, the greatest running sum. -/
structure LS (F : FTy → Type) [FloatOps F] where
  j : BitVec 32
  run : Fin 8 → RV F
  acc : Fin 8 → RV F
  top : F .f32

/-- One tile, of keys `k` and values `v`. -/
def lstepK (q : Fin 8 → QV F) (k v : Fin 8 → KV F) (st : LS F) : LS F where
  j := Scalar.subi st.j 1#32
  run s := runStep (q s) (k s) (st.run s)
  acc s := accStep (q s) (k s) (v s) (st.run s) (st.acc s)
  top := topOf fun s => runStep (q s) (k s) (st.run s)

/-- One tile, number `n`. -/
def lstep (q : Fin 8 → QV F) (x1 x2 : Vec F S4x4096x256 .bf16) (n : ℕ) (st : LS F) : LS F :=
  lstepK q (fun s => slab x1 s (256 * n)) (fun s => slab x2 s (256 * n)) st

/-- The tiles below number `n`, from the highest, while the greatest running sum is above the bound. -/
def lrun (q : Fin 8 → QV F) (x1 x2 : Vec F S4x4096x256 .bf16) : ℕ → LS F → LS F
  | 0, st => st
  | n + 1, st =>
    if Scalar.cmpf .ogt st.top (Named.named κ "exp2_zero_below" 0xC3180000#32) = 1#1 then
      lrun q x1 x2 n (lstep q x1 x2 n st)
    else st

/-! ## The whole body -/

/-- The query tiles, scaled. -/
def qs (x0 : Vec F S4x256x256 .bf16) (s : Fin 8) : QV F := k0_pay11 (qslab x0 s)

/-- The state the loop starts from: the diagonal tile (keys `kd`, values `vd`), then the tile before it. -/
def startK (q : Fin 8 → QV F) (kd vd kp vp : Fin 8 → KV F) (np : F .f32) (j : BitVec 32) : LS F where
  j := j
  run s := runStep (q s) (kp s) (runDiag (q s) (kd s) np)
  acc s := accStep (q s) (kp s) (vp s) (runDiag (q s) (kd s) np) (accDiag (q s) (kd s) (vd s))
  top := topOf fun s => runStep (q s) (kp s) (runDiag (q s) (kd s) np)

/-- The state the loop starts from at query tile `n`. -/
def start (x0 : Vec F S4x256x256 .bf16) (x1 x2 : Vec F S4x4096x256 .bf16) (n : ℕ) : LS F :=
  startK (qs x0) (fun s => slab x1 s (256 * n)) (fun s => slab x2 s (256 * n)) (fun s => slab x1 s (256 * (n - 1)))
    (fun s => slab x2 s (256 * (n - 1))) (k0_pay19 (BitVec.ofNat 32 n)) (Scalar.subi (BitVec.ofNat 32 n) 2#32)

/-- The streams' accumulators at the end, at query tile `n`. -/
def final (x0 : Vec F S4x256x256 .bf16) (x1 x2 : Vec F S4x4096x256 .bf16) (n : ℕ) : LS F :=
  lrun (qs x0) x1 x2 (n - 1) (start x0 x1 x2 n)

/-- What the body leaves in the attention's block. -/
def outA (x0 : Vec F S4x256x256 .bf16) (x1 x2 : Vec F S4x4096x256 .bf16) (n : ℕ) : Vec F S4x256x256 .bf16 := fun y =>
  k0_pay216 ((final x0 x1 x2 n).acc ⟨2 * (y 0).val + (y 2).val / 128, by
      have h0 : (y 0).val < 4 := (y 0).isLt
      have h2 : (y 2).val < 256 := (y 2).isLt
      omega⟩)
    (ValueIdx.ix3 (n0 := 1) (n1 := 256) (n2 := 128) 0 (y 1) ⟨(y 2).val % 128, Nat.mod_lt _ (by decide)⟩)

end Cert.Proof.SB

end
-- ==== Proof.SB.Loop.lean ====
/-
  The kernel's loop: its label's specification — holding the keys' and the values' blocks it returns the state `lrun`
  computes, the blocks as they were — and that the label's body meets it, by induction on the tiles left.
-/
module

public import proofs.«01_k».proof.Proof.SB.Defs
public import Idealize.ShloMosaic.Lib.Ring
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's calls are bounded by the tiles left. -/
abbrev 𝒱₀ : Variants := Variants.nat

/-! ## Slabs -/

/-- A load of 256 rows of one stream's slab. -/
theorem ld_slab (x : Vec F S4x4096x256 .bf16) (s : Fin 8) (o : ℕ) (off : Fin 3 → ℕ)
    (hoff : off = ![s.val / 2, o, 128 * (s.val % 2)]) (ho : o + 256 ≤ 4096)
    (inb : ∀ a, off a + S1x256x128.size a ≤ S4x4096x256.size a) :
    View.ld x (Rect.unit (s := S4x4096x256) off S1x256x128.size inb) = slab x s o := by
  subst hoff
  funext y
  refine View.ld_unit_apply_of _ _ _ _ _ _ ?_
  intro a
  have h0 : (y 0).val < 1 := (y 0).isLt
  have h1 : (y 1).val < 256 := (y 1).isLt
  match a with
  | ⟨0, _⟩ => show s.val / 2 = s.val / 2 + (y 0).val; omega
  | ⟨1, _⟩ => show (o + (y 1).val) % 4096 = o + (y 1).val; omega
  | ⟨2, _⟩ => rfl

/-- The same, off the buffer. -/
theorem readAt_slab (a : Memref sig .tc .vmem S4x4096x256 .bf16) (ha : a.IsWhole) (x : Vec F S4x4096x256 .bf16) (s : Fin 8)
    (o : ℕ) (off : Fin 3 → ℕ) (hoff : off = ![s.val / 2, o, 128 * (s.val % 2)]) (ho : o + 256 ≤ 4096)
    (inb : ∀ a, off a + S1x256x128.size a ≤ S4x4096x256.size a) :
    slab x s o = View.readAt (Elt F) a.view (Rect.unit (s := S4x4096x256) off S1x256x128.size inb).toLoadRect (ha.unread x) := by
  rw [View.readAt_eq_ld, Memref.IsWhole.read_unread, ld_slab x s o off hoff ho inb]

/-- A load of one stream's slab of the queries. -/
theorem ld_qslab (x : Vec F S4x256x256 .bf16) (s : Fin 8) (off : Fin 3 → ℕ)
    (hoff : off = ![s.val / 2, 0, 128 * (s.val % 2)])
    (inb : ∀ a, off a + S1x256x128.size a ≤ S4x256x256.size a) :
    View.ld x (Rect.unit (s := S4x256x256) off S1x256x128.size inb) = qslab x s := by
  subst hoff
  funext y
  refine View.ld_unit_apply_of _ _ _ _ _ _ ?_
  intro a
  have h0 : (y 0).val < 1 := (y 0).isLt
  match a with
  | ⟨0, _⟩ => show s.val / 2 = s.val / 2 + (y 0).val; omega
  | ⟨1, _⟩ => show (y 1).val = 0 + (y 1).val; omega
  | ⟨2, _⟩ => rfl

/-! ## The counter -/

theorem chk_of_lt : ∀ n < 16, k0_chk1 (BitVec.ofNat 32 n) := by decide +kernel

theorem off17_eq : ∀ n < 16, k0_off17 (BitVec.ofNat 32 n) = ![0, 256 * n, 0] := by decide +kernel
theorem off18_eq : ∀ n < 16, k0_off18 (BitVec.ofNat 32 n) = ![0, 256 * n, 128] := by decide +kernel
theorem off19_eq : ∀ n < 16, k0_off19 (BitVec.ofNat 32 n) = ![1, 256 * n, 0] := by decide +kernel
theorem off20_eq : ∀ n < 16, k0_off20 (BitVec.ofNat 32 n) = ![1, 256 * n, 128] := by decide +kernel
theorem off21_eq : ∀ n < 16, k0_off21 (BitVec.ofNat 32 n) = ![2, 256 * n, 0] := by decide +kernel
theorem off22_eq : ∀ n < 16, k0_off22 (BitVec.ofNat 32 n) = ![2, 256 * n, 128] := by decide +kernel
theorem off23_eq : ∀ n < 16, k0_off23 (BitVec.ofNat 32 n) = ![3, 256 * n, 0] := by decide +kernel
theorem off24_eq : ∀ n < 16, k0_off24 (BitVec.ofNat 32 n) = ![3, 256 * n, 128] := by decide +kernel

/-- The counter with `n` tiles left: tile `n - 1`, or below zero where none is left. -/
def Ctr (n : ℕ) (j : BitVec 32) : Prop := (n = 0 ∧ j.toInt < 0) ∨ (1 ≤ n ∧ n ≤ 16 ∧ j = BitVec.ofNat 32 (n - 1))

theorem ctr_sub : ∀ n < 16, Ctr n (Scalar.subi (BitVec.ofNat 32 n) 1#32) := by unfold Ctr; decide +kernel
theorem ctr_start : ∀ n < 16, Ctr (n - 1) (Scalar.subi (BitVec.ofNat 32 n) 2#32) := by unfold Ctr; decide +kernel

theorem sge_ofNat : ∀ n < 16, Scalar.cmpi .sge (BitVec.ofNat 32 n) 0#32 = 1#1 := by decide +kernel
theorem sge_neg (j : BitVec 32) (h : j.toInt < 0) : Scalar.cmpi .sge j 0#32 = 0#1 := by
  have : (0#32).sle j = false := by simp [BitVec.sle]; omega
  simp [Scalar.cmpi, IntOp.cmpi, this]

theorem one_andi (b : BitVec 1) : Scalar.andi 1#1 b = b := by revert b; decide +kernel
theorem zero_andi (b : BitVec 1) : Scalar.andi 0#1 b = 0#1 := by revert b; decide +kernel

/-! ## The label's specification -/

section Label

variable (c : Dev nD) (i : grid0.Coords) (arg4 : Memref sig .tc .vmem S4x4096x256 .bf16) (harg4 : arg4.IsWhole)
  (arg5 : Memref sig .tc .vmem S4x4096x256 .bf16) (harg5 : arg5.IsWhole)
  (x1 x2 : Vec F S4x4096x256 .bf16) (q : Fin 8 → QV F)

/-- The two blocks the label reads, held whole at their contents. -/
def held : sProp 𝕄 :=
  iprop((arg4.view.loc (c : Thread nD τ) ↦[arg4.view.set]{fullShare} harg4.unread x1)
    ∗ (arg5.view.loc (c : Thread nD τ) ↦[arg5.view.set]{fullShare} harg5.unread x2))

/-- The values the loop's label carries. -/
abbrev LT (F : FTy → Type) [FloatOps F] := BitVec 32 × RV F × RV F × RV F × RV F × RV F × RV F × RV F × RV F
  × RV F × RV F × RV F × RV F × RV F × RV F × RV F × RV F × F .f32

/-- A state as those values. -/
abbrev pack (st : LS F) : LT F := (st.j, st.run 0, st.acc 0, st.run 1, st.acc 1, st.run 2, st.acc 2, st.run 3, st.acc 3,
  st.run 4, st.acc 4, st.run 5, st.acc 5, st.run 6, st.acc 6, st.run 7, st.acc 7, st.top)

/-- The label's specification with `n` tiles left: holding the blocks it returns the state after them, the blocks as they
    were. -/
def spec (n : ℕ) (st : LS F) : sWPT 𝕄 (LT F) := do
  sWPT.consume (held c arg4 harg4 arg5 harg5 x1 x2)
  sWPT.produce (held c arg4 harg4 arg5 harg5 x1 x2)
  pure (pack (lrun q x1 x2 n st))

theorem spec_apply (n : ℕ) (st : LS F) (K : LT F → sProp 𝕄) :
    spec c arg4 harg4 arg5 harg5 x1 x2 q n st K
      = iprop(held c arg4 harg4 arg5 harg5 x1 x2 ∗ (held c arg4 harg4 arg5 harg5 x1 x2 -∗ K (pack (lrun q x1 x2 n st)))) := rfl

/-- The record the label is called on. -/
abbrev rec_ (st : LS F) : Cc0While1 F :=
  ⟨i, arg4, harg4, q 0, k0_pay10, arg5, harg5, q 1, q 2, q 3, q 4, q 5, q 6, q 7, st.j, st.run 0, st.acc 0, st.run 1, st.acc 1,
    st.run 2, st.acc 2, st.run 3, st.acc 3, st.run 4, st.acc 4, st.run 5, st.acc 5, st.run 6, st.acc 6, st.run 7, st.acc 7, st.top⟩

/-- Records equal in what the loop carries are equal. -/
theorem rec_congr {j j' : BitVec 32} {r0 a0 r1 a1 r2 a2 r3 a3 r4 a4 r5 a5 r6 a6 r7 a7 r0' a0' r1' a1' r2' a2' r3' a3' r4' a4' r5' a5' r6' a6' r7' a7' : RV F} {t t' : F .f32}
    (hj : j = j') (h_r0 : r0 = r0') (h_a0 : a0 = a0') (h_r1 : r1 = r1') (h_a1 : a1 = a1') (h_r2 : r2 = r2') (h_a2 : a2 = a2') (h_r3 : r3 = r3') (h_a3 : a3 = a3') (h_r4 : r4 = r4') (h_a4 : a4 = a4') (h_r5 : r5 = r5') (h_a5 : a5 = a5') (h_r6 : r6 = r6') (h_a6 : a6 = a6') (h_r7 : r7 = r7') (h_a7 : a7 = a7') (ht : t = t') :
    (⟨i, arg4, harg4, q 0, k0_pay10, arg5, harg5, q 1, q 2, q 3, q 4, q 5, q 6, q 7, j, r0, a0, r1, a1, r2, a2, r3, a3, r4, a4, r5, a5, r6, a6, r7, a7, t⟩ : Cc0While1 F)
      = ⟨i, arg4, harg4, q 0, k0_pay10, arg5, harg5, q 1, q 2, q 3, q 4, q 5, q 6, q 7, j', r0', a0', r1', a1', r2', a2', r3', a3', r4', a4', r5', a5', r6', a6', r7', a7', t'⟩ := by
  subst hj ht h_r0 h_a0 h_r1 h_a1 h_r2 h_a2 h_r3 h_a3 h_r4 h_a4 h_r5 h_a5 h_r6 h_a6 h_r7 h_a7; rfl

/-- The greatest of the eight running sums from the streams' one by one. -/
theorem top_congr {t2 t3 t4 t5 t6 t7 t01 : F .f32} (run : Fin 8 → RV F) (h2 : t2 = rmax (run 2)) (h3 : t3 = rmax (run 3))
    (h4 : t4 = rmax (run 4)) (h5 : t5 = rmax (run 5)) (h6 : t6 = rmax (run 6)) (h7 : t7 = rmax (run 7))
    (h01 : t01 = k0_pay311 (run 0) (run 1)) : k0_pay2 t2 t3 t4 t5 t6 t7 t01 = topOf run := by
  rw [h2, h3, h4, h5, h6, h7, h01, topOf]

theorem pay306_eq (r : RV F) : k0_pay306 r = rmax r := rfl
theorem pay307_eq (r : RV F) : k0_pay307 r = rmax r := rfl
theorem pay308_eq (r : RV F) : k0_pay308 r = rmax r := rfl
theorem pay309_eq (r : RV F) : k0_pay309 r = rmax r := rfl
theorem pay310_eq (a : _) (b : RV F) : k0_pay310 (F := F) a b = rmax (k0_pay304 a b) := rfl
theorem rmax_congr {r r' : RV F} (h : r = r') : rmax r = rmax r' := congrArg _ h

set_option maxHeartbeats 4000000 in
theorem spec_le (E : Set ℕ) : ∀ n, ∀ st : LS F, Ctr n st.j → ∀ K, spec c arg4 harg4 arg5 harg5 x1 x2 q n st K
      ⊢ wp frame (wpE (defs₀ (F := F)) 𝒱₀ (c : Thread nD τ) (some n)) E
          (defs₀ (F := F) .tc 1 (rec_ i arg4 harg4 arg5 harg5 q st)) K := by
  intro n
  induction n with
  | zero =>
    intro st hc K
    rw [spec_apply]
    show _ ⊢ wp frame (wpE (defs₀ (F := F)) 𝒱₀ (c : Thread nD τ) (some 0)) E
      (cc0_while1 i arg4 harg4 (q 0) k0_pay10 arg5 harg5 (q 1) (q 2) (q 3) (q 4) (q 5) (q 6) (q 7) st.j (st.run 0) (st.acc 0)
        (st.run 1) (st.acc 1) (st.run 2) (st.acc 2) (st.run 3) (st.acc 3) (st.run 4) (st.acc 4) (st.run 5) (st.acc 5)
        (st.run 6) (st.acc 6) (st.run 7) (st.acc 7) st.top) K
    simp only [cc0_while1_eq_skeleton]; unfold cc0_while1_skel
    have hneg : st.j.toInt < 0 := by
      rcases hc with ⟨-, h⟩ | ⟨h, -⟩
      · exact h
      · omega
    simp only [sge_neg _ hneg, zero_andi, show ¬((0#1 : BitVec 1) = 1#1) by decide, ↓reduceIte, Prog.pure_eq_ret]
    iintro ⟨H, Hk⟩
    rw [wp_ret]; imodintro
    simp only [lrun, pack]
    iapply Hk; iexact H
  | succ n ih =>
    intro st hc K
    obtain ⟨hn, hj⟩ : n < 16 ∧ st.j = BitVec.ofNat 32 n := by
      rcases hc with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while1 i arg4 harg4 (q 0) k0_pay10 arg5 harg5 (q 1) (q 2) (q 3) (q 4) (q 5) (q 6) (q 7) st.j (st.run 0) (st.acc 0)
        (st.run 1) (st.acc 1) (st.run 2) (st.acc 2) (st.run 3) (st.acc 3) (st.run 4) (st.acc 4) (st.run 5) (st.acc 5)
        (st.run 6) (st.acc 6) (st.run 7) (st.acc 7) st.top) K
    simp only [cc0_while1_eq_skeleton]; unfold cc0_while1_skel
    by_cases ht : Scalar.cmpf .ogt st.top (Named.named κ "exp2_zero_below" 0xC3180000#32) = 1#1
    · obtain ⟨j, run, acc, top⟩ := st
      dsimp only at hj ht ⊢
      subst hj
      simp only [lrun, ht, sge_ofNat n hn, one_andi, ↓reduceIte]
      unfold held
      iintro ⟨⟨H1, H2⟩, Hk⟩
      simp only [k0_part33_eq_skeleton]; unfold k0_part33_skel
      simp only [k0_part25_eq_skeleton, k0_part26_eq_skeleton, k0_part27_eq_skeleton,
        k0_part28_eq_skeleton, k0_part29_eq_skeleton, k0_part30_eq_skeleton, k0_part31_eq_skeleton, k0_part32_eq_skeleton]
      have hchk := chk_of_lt n hn
      have hk : (fun s => slab x1 s (256 * n)) = ![View.readAt (Elt F) arg4.view (Rect.unit (s := S4x4096x256) (k0_off17 (BitVec.ofNat 32 n)) S1x256x128.size (k0_off17_inb _ hchk)).toLoadRect (harg4.unread x1),
          View.readAt (Elt F) arg4.view (Rect.unit (s := S4x4096x256) (k0_off18 (BitVec.ofNat 32 n)) S1x256x128.size (k0_off18_inb _ hchk)).toLoadRect (harg4.unread x1),
          View.readAt (Elt F) arg4.view (Rect.unit (s := S4x4096x256) (k0_off19 (BitVec.ofNat 32 n)) S1x256x128.size (k0_off19_inb _ hchk)).toLoadRect (harg4.unread x1),
          View.readAt (Elt F) arg4.view (Rect.unit (s := S4x4096x256) (k0_off20 (BitVec.ofNat 32 n)) S1x256x128.size (k0_off20_inb _ hchk)).toLoadRect (harg4.unread x1),
          View.readAt (Elt F) arg4.view (Rect.unit (s := S4x4096x256) (k0_off21 (BitVec.ofNat 32 n)) S1x256x128.size (k0_off21_inb _ hchk)).toLoadRect (harg4.unread x1),
          View.readAt (Elt F) arg4.view (Rect.unit (s := S4x4096x256) (k0_off22 (BitVec.ofNat 32 n)) S1x256x128.size (k0_off22_inb _ hchk)).toLoadRect (harg4.unread x1),
          View.readAt (Elt F) arg4.view (Rect.unit (s := S4x4096x256) (k0_off23 (BitVec.ofNat 32 n)) S1x256x128.size (k0_off23_inb _ hchk)).toLoadRect (harg4.unread x1),
          View.readAt (Elt F) arg4.view (Rect.unit (s := S4x4096x256) (k0_off24 (BitVec.ofNat 32 n)) S1x256x128.size (k0_off24_inb _ hchk)).toLoadRect (harg4.unread x1)] := by
        funext s; fin_cases s
        · exact readAt_slab arg4 harg4 x1 0 (256 * n) _ (off17_eq n hn) (by omega) _
        · exact readAt_slab arg4 harg4 x1 1 (256 * n) _ (off18_eq n hn) (by omega) _
        · exact readAt_slab arg4 harg4 x1 2 (256 * n) _ (off19_eq n hn) (by omega) _
        · exact readAt_slab arg4 harg4 x1 3 (256 * n) _ (off20_eq n hn) (by omega) _
        · exact readAt_slab arg4 harg4 x1 4 (256 * n) _ (off21_eq n hn) (by omega) _
        · exact readAt_slab arg4 harg4 x1 5 (256 * n) _ (off22_eq n hn) (by omega) _
        · exact readAt_slab arg4 harg4 x1 6 (256 * n) _ (off23_eq n hn) (by omega) _
        · exact readAt_slab arg4 harg4 x1 7 (256 * n) _ (off24_eq n hn) (by omega) _
      have hv : (fun s => slab x2 s (256 * n)) = ![View.readAt (Elt F) arg5.view (Rect.unit (s := S4x4096x256) (k0_off17 (BitVec.ofNat 32 n)) S1x256x128.size (k0_off17_inb _ hchk)).toLoadRect (harg5.unread x2),
          View.readAt (Elt F) arg5.view (Rect.unit (s := S4x4096x256) (k0_off18 (BitVec.ofNat 32 n)) S1x256x128.size (k0_off18_inb _ hchk)).toLoadRect (harg5.unread x2),
          View.readAt (Elt F) arg5.view (Rect.unit (s := S4x4096x256) (k0_off19 (BitVec.ofNat 32 n)) S1x256x128.size (k0_off19_inb _ hchk)).toLoadRect (harg5.unread x2),
          View.readAt (Elt F) arg5.view (Rect.unit (s := S4x4096x256) (k0_off20 (BitVec.ofNat 32 n)) S1x256x128.size (k0_off20_inb _ hchk)).toLoadRect (harg5.unread x2),
          View.readAt (Elt F) arg5.view (Rect.unit (s := S4x4096x256) (k0_off21 (BitVec.ofNat 32 n)) S1x256x128.size (k0_off21_inb _ hchk)).toLoadRect (harg5.unread x2),
          View.readAt (Elt F) arg5.view (Rect.unit (s := S4x4096x256) (k0_off22 (BitVec.ofNat 32 n)) S1x256x128.size (k0_off22_inb _ hchk)).toLoadRect (harg5.unread x2),
          View.readAt (Elt F) arg5.view (Rect.unit (s := S4x4096x256) (k0_off23 (BitVec.ofNat 32 n)) S1x256x128.size (k0_off23_inb _ hchk)).toLoadRect (harg5.unread x2),
          View.readAt (Elt F) arg5.view (Rect.unit (s := S4x4096x256) (k0_off24 (BitVec.ofNat 32 n)) S1x256x128.size (k0_off24_inb _ hchk)).toLoadRect (harg5.unread x2)] := by
        funext s; fin_cases s
        · exact readAt_slab arg5 harg5 x2 0 (256 * n) _ (off17_eq n hn) (by omega) _
        · exact readAt_slab arg5 harg5 x2 1 (256 * n) _ (off18_eq n hn) (by omega) _
        · exact readAt_slab arg5 harg5 x2 2 (256 * n) _ (off19_eq n hn) (by omega) _
        · exact readAt_slab arg5 harg5 x2 3 (256 * n) _ (off20_eq n hn) (by omega) _
        · exact readAt_slab arg5 harg5 x2 4 (256 * n) _ (off21_eq n hn) (by omega) _
        · exact readAt_slab arg5 harg5 x2 5 (256 * n) _ (off22_eq n hn) (by omega) _
        · exact readAt_slab arg5 harg5 x2 6 (256 * n) _ (off23_eq n hn) (by omega) _
        · exact readAt_slab arg5 harg5 x2 7 (256 * n) _ (off24_eq n hn) (by omega) _
      have hle := ih (lstep q x1 x2 n ⟨BitVec.ofNat 32 n, run, acc, top⟩) (ctr_sub n hn)
      unfold lstep at hle ⊢
      rw [hk, hv] at hle ⊢
      generalize hL : lrun q x1 x2 n (lstepK q _ _ _) = L at ⊢
      generalize hS : (lstepK q _ _ _ : LS F) = S at hle hL ⊢
      have hle' : ∀ R, R = rec_ i arg4 harg4 arg5 harg5 q S → ∀ K, spec c arg4 harg4 arg5 harg5 x1 x2 q n S K
          ⊢ wp frame (wpE (defs₀ (F := F)) 𝒱₀ (c : Thread nD τ) (some n)) E (defs₀ (F := F) .tc 1 R) K := by
        rintro _ rfl; exact hle
      sl_exec
      iapply (wp_call_spec 𝒱₀ (c : Thread nD τ) (some (n + 1)) E (spec c arg4 harg4 arg5 harg5 x1 x2 q n S) n
        (fun u hu => by cases hu; exact Nat.lt_succ_self n) (hle' _ (by
          subst hS
          clear hle hle' hL ih hk hv
          refine rec_congr _ _ _ _ _ _ ?_ ?_ ?_ ?_ ?_ ?_ ?_ ?_ ?_ ?_ ?_ ?_ ?_ ?_ ?_ ?_ ?_ ?_
          · rfl
          · rfl
          · rfl
          · rfl
          · rfl
          · rfl
          · rfl
          · rfl
          · rfl
          · rfl
          · rfl
          · rfl
          · rfl
          · rfl
          · rfl
          · rfl
          · rfl
          · unfold lstepK; dsimp only
            refine top_congr _ ?_ ?_ ?_ ?_ ?_ ?_ ?_
            · exact rmax_congr rfl
            · exact (pay306_eq _).trans (rmax_congr rfl)
            · exact (pay307_eq _).trans (rmax_congr rfl)
            · exact (pay308_eq _).trans (rmax_congr rfl)
            · exact (pay309_eq _).trans (rmax_congr rfl)
            · exact (pay310_eq _ _).trans (rmax_congr rfl)
            · exact congrArg₂ k0_pay311 rfl rfl)))
      rw [spec_apply, hL]; unfold held
      isplitl [H1 H2]
      · isplitl [H1]; · iexact H1
        iexact H2
      iintro ⟨H1, H2⟩
      rw [wp_ret]; imodintro
      iapply Hk
      isplitl [H1]; · iexact H1
      iexact H2
    · simp only [sge_ofNat n hn, hj, one_andi, ht, ↓reduceIte, Prog.pure_eq_ret, lrun]
      iintro ⟨H, Hk⟩
      rw [wp_ret]; imodintro
      simp only [← hj]
      iapply Hk; iexact H

end Label

end Cert.Proof.SB

end
-- ==== Proof.SB.Body.lean ====
/-
  The kernel's body at any grid point: on whole staging buffers, the inputs' at their contents and the outputs' at
  anything, it ends with the attention's block at `outA` and the seven blocks of weights at their casts. The loop's
  call is answered by the label's specification (`spec_le`).
-/
module

public import proofs.«01_k».proof.Proof.SB.Loop
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tile before the diagonal one -/

theorem off2_eq : ∀ i : grid0.Coords, k0_off2 i = ![0, 256 * ((i 2).val - 1), 0] := by decide +kernel
theorem off4_eq : ∀ i : grid0.Coords, k0_off4 i = ![0, 256 * ((i 2).val - 1), 128] := by decide +kernel
theorem off6_eq : ∀ i : grid0.Coords, k0_off6 i = ![1, 256 * ((i 2).val - 1), 0] := by decide +kernel
theorem off8_eq : ∀ i : grid0.Coords, k0_off8 i = ![1, 256 * ((i 2).val - 1), 128] := by decide +kernel
theorem off10_eq : ∀ i : grid0.Coords, k0_off10 i = ![2, 256 * ((i 2).val - 1), 0] := by decide +kernel
theorem off12_eq : ∀ i : grid0.Coords, k0_off12 i = ![2, 256 * ((i 2).val - 1), 128] := by decide +kernel
theorem off14_eq : ∀ i : grid0.Coords, k0_off14 i = ![3, 256 * ((i 2).val - 1), 0] := by decide +kernel
theorem off16_eq : ∀ i : grid0.Coords, k0_off16 i = ![3, 256 * ((i 2).val - 1), 128] := by decide +kernel

/-- Records equal in the queries and in what the loop carries are equal. -/
theorem rec_congr' (i : grid0.Coords) (arg4 : Memref sig .tc .vmem S4x4096x256 .bf16) (harg4 : arg4.IsWhole)
    (arg5 : Memref sig .tc .vmem S4x4096x256 .bf16) (harg5 : arg5.IsWhole)
    {q0 q1 q2 q3 q4 q5 q6 q7 q0' q1' q2' q3' q4' q5' q6' q7' : QV F} {j j' : BitVec 32}
    {r0 a0 r1 a1 r2 a2 r3 a3 r4 a4 r5 a5 r6 a6 r7 a7 r0' a0' r1' a1' r2' a2' r3' a3' r4' a4' r5' a5' r6' a6' r7' a7' : RV F} {t t' : F .f32}
    (h_q0 : q0 = q0') (h_q1 : q1 = q1') (h_q2 : q2 = q2') (h_q3 : q3 = q3') (h_q4 : q4 = q4') (h_q5 : q5 = q5') (h_q6 : q6 = q6') (h_q7 : q7 = q7') (hj : j = j')
    (h_r0 : r0 = r0') (h_a0 : a0 = a0') (h_r1 : r1 = r1') (h_a1 : a1 = a1') (h_r2 : r2 = r2') (h_a2 : a2 = a2') (h_r3 : r3 = r3') (h_a3 : a3 = a3') (h_r4 : r4 = r4') (h_a4 : a4 = a4') (h_r5 : r5 = r5') (h_a5 : a5 = a5') (h_r6 : r6 = r6') (h_a6 : a6 = a6') (h_r7 : r7 = r7') (h_a7 : a7 = a7') (ht : t = t') :
    (⟨i, arg4, harg4, q0, k0_pay10, arg5, harg5, q1, q2, q3, q4, q5, q6, q7, j, r0, a0, r1, a1, r2, a2, r3, a3, r4, a4, r5, a5, r6, a6, r7, a7, t⟩ : Cc0While1 F)
      = ⟨i, arg4, harg4, q0', k0_pay10, arg5, harg5, q1', q2', q3', q4', q5', q6', q7', j', r0', a0', r1', a1', r2', a2', r3', a3', r4', a4', r5', a5', r6', a6', r7', a7', t'⟩ := by
  subst hj ht h_q0 h_q1 h_q2 h_q3 h_q4 h_q5 h_q6 h_q7 h_r0 h_a0 h_r1 h_a1 h_r2 h_a2 h_r3 h_a3 h_r4 h_a4 h_r5 h_a5 h_r6 h_a6 h_r7 h_a7; rfl

theorem top0_congr {r0 r1 r2 r3 r4 r5 r6 r7 : RV F} (run : Fin 8 → RV F) (h0 : r0 = run 0) (h1 : r1 = run 1) (h2 : r2 = run 2) (h3 : r3 = run 3) (h4 : r4 = run 4) (h5 : r5 = run 5) (h6 : r6 = run 6) (h7 : r7 = run 7) :
    k0_pay215 r3 r4 r5 r6 r7 (k0_pay212 r0) (k0_pay213 r1) (k0_pay214 r2) = topOf run := by
  rw [h0, h1, h2, h3, h4, h5, h6, h7]; exact pay_top run

/-! ## A block stored whole, the attention's block stored stream by stream -/

theorem read_store {s : Shape} {e : EltTy} (a : Memref sig .tc .vmem s e) (f : a.view.ty.Contents (Elt F))
    {off : Fin s.rank → ℕ} (hoff : off = fun _ => 0) (inb : ∀ a, off a + s.size a ≤ s.size a) (w : Vec F s e) :
    a.view.read (Elt F) (a.view.writes (Elt F) f [⟨Rect.unit (s := s) off s.size inb, w⟩]) = w := by
  subst hoff
  rw [View.read_writes_full]

/-- The whole block's load. -/
theorem readAt_whole {s : Shape} {e : EltTy} (a : Memref sig .tc .vmem s e) (ha : a.IsWhole) (x : Vec F s e)
    {off : Fin s.rank → ℕ} (hoff : off = fun _ => 0) (inb : ∀ a, off a + s.size a ≤ s.size a) :
    View.readAt (Elt F) a.view (Rect.unit (s := s) off s.size inb).toLoadRect (ha.unread x) = x := by
  rw [View.readAt_eq_ld, Memref.IsWhole.read_unread]
  exact View.ld_unit_zero hoff inb x

/-- The eight streams' slabs put together. -/
def outK (acc : Fin 8 → RV F) : Vec F S4x256x256 .bf16 := fun y =>
  k0_pay216 (acc ⟨2 * (y 0).val + (y 2).val / 128, by
      have h0 : (y 0).val < 4 := (y 0).isLt
      have h2 : (y 2).val < 256 := (y 2).isLt
      omega⟩)
    (ValueIdx.ix3 (n0 := 1) (n1 := 256) (n2 := 128) 0 (y 1) ⟨(y 2).val % 128, Nat.mod_lt _ (by decide)⟩)

/-- One stream's slab, where it holds `y`, holds the slabs' value there. -/
theorem tile_outK (acc : Fin 8 → RV F) (y : S4x256x256.Idx) (s : Fin 8) (off : Fin 3 → ℕ)
    (hoff : off = ![s.val / 2, 0, 128 * (s.val % 2)]) :
    View.TileAt y off S1x256x128.size (k0_pay216 (acc s) : Vec F S1x256x128 .bf16) (outK acc y) := by
  subst hoff
  intro x hx
  have h0 : (y 0).val = s.val / 2 + (x 0).val := hx 0
  have h1 : (y 1).val = 0 + (x 1).val := hx 1
  have h2 : (y 2).val = 128 * (s.val % 2) + (x 2).val := hx 2
  have b0 : (x 0).val < 1 := (x 0).isLt
  have b2 : (x 2).val < 128 := (x 2).isLt
  unfold outK
  have hs : (⟨2 * (y 0).val + (y 2).val / 128, by
      have h0 : (y 0).val < 4 := (y 0).isLt
      have h2 : (y 2).val < 256 := (y 2).isLt
      omega⟩ : Fin 8) = s := Fin.ext (by show 2 * (y 0).val + (y 2).val / 128 = s.val; omega)
  rw [hs]
  refine congrArg _ (funext fun a => Fin.ext ?_)
  match a with
  | ⟨0, _⟩ => show (x 0).val = 0; omega
  | ⟨1, _⟩ => show (x 1).val = (y 1).val; omega
  | ⟨2, _⟩ => show (x 2).val = (y 2).val % 128; omega

/-- The eight stores read back. -/
theorem read_outK (a : Memref sig .tc .vmem S4x256x256 .bf16) (f : a.view.ty.Contents (Elt F)) (L : LS F) :
    a.view.read (Elt F) (a.view.writes (Elt F) f [⟨Rect.unit (s := S4x256x256) ![3, 0, 128] S1x256x128.size inb_S4x256x256_S1x256x128_3_0_128, k0_pay216 (L.acc 7)⟩,
      ⟨Rect.unit (s := S4x256x256) ![3, 0, 0] S1x256x128.size inb_S4x256x256_S1x256x128_3_0_0, k0_pay216 (L.acc 6)⟩,
      ⟨Rect.unit (s := S4x256x256) ![2, 0, 128] S1x256x128.size inb_S4x256x256_S1x256x128_2_0_128, k0_pay216 (L.acc 5)⟩,
      ⟨Rect.unit (s := S4x256x256) ![2, 0, 0] S1x256x128.size inb_S4x256x256_S1x256x128_2_0_0, k0_pay216 (L.acc 4)⟩,
      ⟨Rect.unit (s := S4x256x256) ![1, 0, 128] S1x256x128.size inb_S4x256x256_S1x256x128_1_0_128, k0_pay216 (L.acc 3)⟩,
      ⟨Rect.unit (s := S4x256x256) ![1, 0, 0] S1x256x128.size inb_S4x256x256_S1x256x128_1_0_0, k0_pay216 (L.acc 2)⟩,
      ⟨Rect.unit (s := S4x256x256) ![0, 0, 128] S1x256x128.size inb_S4x256x256_S1x256x128_0_0_128, k0_pay216 (L.acc 1)⟩,
      ⟨Rect.unit (s := S4x256x256) ![0, 0, 0] S1x256x128.size inb_S4x256x256_S1x256x128_0_0_0, k0_pay216 (L.acc 0)⟩])
      = outK fun s => L.acc s := by
  rw [View.read_writes_eq_canon _ _ _ (View.cover_of_tiled_head _ _ _ rfl)]
  funext y
  refine View.canon_eq_of_allAt _ y _ ?_ ?_
  · exact View.cover_of_tiled_head _ _ _ rfl y
  · refine View.allAt_cons_unit _ _ _ _ _ (tile_outK (fun s => L.acc s) y 7 _ rfl) ?_
    refine View.allAt_cons_unit _ _ _ _ _ (tile_outK (fun s => L.acc s) y 6 _ rfl) ?_
    refine View.allAt_cons_unit _ _ _ _ _ (tile_outK (fun s => L.acc s) y 5 _ rfl) ?_
    refine View.allAt_cons_unit _ _ _ _ _ (tile_outK (fun s => L.acc s) y 4 _ rfl) ?_
    refine View.allAt_cons_unit _ _ _ _ _ (tile_outK (fun s => L.acc s) y 3 _ rfl) ?_
    refine View.allAt_cons_unit _ _ _ _ _ (tile_outK (fun s => L.acc s) y 2 _ rfl) ?_
    refine View.allAt_cons_unit _ _ _ _ _ (tile_outK (fun s => L.acc s) y 1 _ rfl) ?_
    refine View.allAt_cons_unit _ _ _ _ _ (tile_outK (fun s => L.acc s) y 0 _ rfl) ?_
    exact View.allAt_nil _ _

/-! ## The body -/

set_option maxHeartbeats 8000000 in
theorem body_run (c : Dev nD) (i : grid0.Coords) (arg3 : Memref sig .tc .vmem S4x256x256 .bf16) (harg3 : arg3.IsWhole)
  (arg4 : Memref sig .tc .vmem S4x4096x256 .bf16) (harg4 : arg4.IsWhole)
  (arg5 : Memref sig .tc .vmem S4x4096x256 .bf16) (harg5 : arg5.IsWhole)
  (arg6 : Memref sig .tc .vmem S1x32x5632 .f32) (harg6 : arg6.IsWhole)
  (arg7 : Memref sig .tc .vmem S1x32x5632 .f32) (harg7 : arg7.IsWhole)
  (arg8 : Memref sig .tc .vmem S1x16x2048 .f32) (harg8 : arg8.IsWhole)
  (arg9 : Memref sig .tc .vmem S1x16x2048 .f32) (harg9 : arg9.IsWhole)
  (arg10 : Memref sig .tc .vmem S1x16x2048 .f32) (harg10 : arg10.IsWhole)
  (arg11 : Memref sig .tc .vmem S1x32x2048 .f32) (harg11 : arg11.IsWhole)
  (arg12 : Memref sig .tc .vmem S1x32x13312 .f32) (harg12 : arg12.IsWhole)
  (arg13 : Memref sig .tc .vmem S4x256x256 .bf16) (harg13 : arg13.IsWhole)
  (arg14 : Memref sig .tc .vmem S32x5632 .bf16) (harg14 : arg14.IsWhole)
  (arg15 : Memref sig .tc .vmem S32x5632 .bf16) (harg15 : arg15.IsWhole)
  (arg16 : Memref sig .tc .vmem S16x2048 .bf16) (harg16 : arg16.IsWhole)
  (arg17 : Memref sig .tc .vmem S16x2048 .bf16) (harg17 : arg17.IsWhole)
  (arg18 : Memref sig .tc .vmem S16x2048 .bf16) (harg18 : arg18.IsWhole)
  (arg19 : Memref sig .tc .vmem S32x2048 .bf16) (harg19 : arg19.IsWhole)
  (arg20 : Memref sig .tc .vmem S32x13312 .bf16) (harg20 : arg20.IsWhole)
  (x0 : Vec F S4x256x256 .bf16) (x1 : Vec F S4x4096x256 .bf16) (x2 : Vec F S4x4096x256 .bf16) (x3 : Vec F S1x32x5632 .f32) (x4 : Vec F S1x32x5632 .f32) (x5 : Vec F S1x16x2048 .f32) (x6 : Vec F S1x16x2048 .f32) (x7 : Vec F S1x16x2048 .f32) (x8 : Vec F S1x32x2048 .f32) (x9 : Vec F S1x32x13312 .f32)
  (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (outA x0 x1 x2 (i 2).val) ∗ owns (c : Thread nD τ) arg14 fullShare (k0_pay3 x3) ∗ owns (c : Thread nD τ) arg15 fullShare (k0_pay4 x4) ∗ owns (c : Thread nD τ) arg16 fullShare (k0_pay5 x5) ∗ owns (c : Thread nD τ) arg17 fullShare (k0_pay6 x6) ∗ owns (c : Thread nD τ) arg18 fullShare (k0_pay7 x7) ∗ owns (c : Thread nD τ) arg19 fullShare (k0_pay8 x8) ∗ owns (c : Thread nD τ) arg20 fullShare (k0_pay9 x9)) -∗ K ⟨⟩))
      ⊢ wp frame (wpE (defs₀ (F := F)) 𝒱₀ c none) E (cc0_stick_breaking_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  have hn : (i 2).val < 16 := (i 2).isLt
  have hq : (fun s => qslab x0 s) = ![View.readAt (Elt F) arg3.view (Rect.unit (s := S4x256x256) ![0, 0, 0] S1x256x128.size inb_S4x256x256_S1x256x128_0_0_0).toLoadRect (harg3.unread x0),
      View.readAt (Elt F) arg3.view (Rect.unit (s := S4x256x256) ![0, 0, 128] S1x256x128.size inb_S4x256x256_S1x256x128_0_0_128).toLoadRect (harg3.unread x0),
      View.readAt (Elt F) arg3.view (Rect.unit (s := S4x256x256) ![1, 0, 0] S1x256x128.size inb_S4x256x256_S1x256x128_1_0_0).toLoadRect (harg3.unread x0),
      View.readAt (Elt F) arg3.view (Rect.unit (s := S4x256x256) ![1, 0, 128] S1x256x128.size inb_S4x256x256_S1x256x128_1_0_128).toLoadRect (harg3.unread x0),
      View.readAt (Elt F) arg3.view (Rect.unit (s := S4x256x256) ![2, 0, 0] S1x256x128.size inb_S4x256x256_S1x256x128_2_0_0).toLoadRect (harg3.unread x0),
      View.readAt (Elt F) arg3.view (Rect.unit (s := S4x256x256) ![2, 0, 128] S1x256x128.size inb_S4x256x256_S1x256x128_2_0_128).toLoadRect (harg3.unread x0),
      View.readAt (Elt F) arg3.view (Rect.unit (s := S4x256x256) ![3, 0, 0] S1x256x128.size inb_S4x256x256_S1x256x128_3_0_0).toLoadRect (harg3.unread x0),
      View.readAt (Elt F) arg3.view (Rect.unit (s := S4x256x256) ![3, 0, 128] S1x256x128.size inb_S4x256x256_S1x256x128_3_0_128).toLoadRect (harg3.unread x0)] := by
    funext s; fin_cases s
    · exact ((View.readAt_eq_ld _ _ _).trans ((congrArg (fun y => View.ld y _) (Memref.IsWhole.read_unread harg3 x0)).trans (ld_qslab x0 0 _ rfl _))).symm
    · exact ((View.readAt_eq_ld _ _ _).trans ((congrArg (fun y => View.ld y _) (Memref.IsWhole.read_unread harg3 x0)).trans (ld_qslab x0 1 _ rfl _))).symm
    · exact ((View.readAt_eq_ld _ _ _).trans ((congrArg (fun y => View.ld y _) (Memref.IsWhole.read_unread harg3 x0)).trans (ld_qslab x0 2 _ rfl _))).symm
    · exact ((View.readAt_eq_ld _ _ _).trans ((congrArg (fun y => View.ld y _) (Memref.IsWhole.read_unread harg3 x0)).trans (ld_qslab x0 3 _ rfl _))).symm
    · exact ((View.readAt_eq_ld _ _ _).trans ((congrArg (fun y => View.ld y _) (Memref.IsWhole.read_unread harg3 x0)).trans (ld_qslab x0 4 _ rfl _))).symm
    · exact ((View.readAt_eq_ld _ _ _).trans ((congrArg (fun y => View.ld y _) (Memref.IsWhole.read_unread harg3 x0)).trans (ld_qslab x0 5 _ rfl _))).symm
    · exact ((View.readAt_eq_ld _ _ _).trans ((congrArg (fun y => View.ld y _) (Memref.IsWhole.read_unread harg3 x0)).trans (ld_qslab x0 6 _ rfl _))).symm
    · exact ((View.readAt_eq_ld _ _ _).trans ((congrArg (fun y => View.ld y _) (Memref.IsWhole.read_unread harg3 x0)).trans (ld_qslab x0 7 _ rfl _))).symm
  have hk : (fun s => slab x1 s (256 * (i 2).val)) = ![View.readAt (Elt F) arg4.view (Rect.unit (s := S4x4096x256) (k0_off1 i) S1x256x128.size (k0_off1_inb i)).toLoadRect (harg4.unread x1),
      View.readAt (Elt F) arg4.view (Rect.unit (s := S4x4096x256) (k0_off3 i) S1x256x128.size (k0_off3_inb i)).toLoadRect (harg4.unread x1),
      View.readAt (Elt F) arg4.view (Rect.unit (s := S4x4096x256) (k0_off5 i) S1x256x128.size (k0_off5_inb i)).toLoadRect (harg4.unread x1),
      View.readAt (Elt F) arg4.view (Rect.unit (s := S4x4096x256) (k0_off7 i) S1x256x128.size (k0_off7_inb i)).toLoadRect (harg4.unread x1),
      View.readAt (Elt F) arg4.view (Rect.unit (s := S4x4096x256) (k0_off9 i) S1x256x128.size (k0_off9_inb i)).toLoadRect (harg4.unread x1),
      View.readAt (Elt F) arg4.view (Rect.unit (s := S4x4096x256) (k0_off11 i) S1x256x128.size (k0_off11_inb i)).toLoadRect (harg4.unread x1),
      View.readAt (Elt F) arg4.view (Rect.unit (s := S4x4096x256) (k0_off13 i) S1x256x128.size (k0_off13_inb i)).toLoadRect (harg4.unread x1),
      View.readAt (Elt F) arg4.view (Rect.unit (s := S4x4096x256) (k0_off15 i) S1x256x128.size (k0_off15_inb i)).toLoadRect (harg4.unread x1)] := by
    funext s; fin_cases s
    · exact readAt_slab arg4 harg4 x1 0 _ _ (k0_off1_eq i) (by omega) _
    · exact readAt_slab arg4 harg4 x1 1 _ _ (k0_off3_eq i) (by omega) _
    · exact readAt_slab arg4 harg4 x1 2 _ _ (k0_off5_eq i) (by omega) _
    · exact readAt_slab arg4 harg4 x1 3 _ _ (k0_off7_eq i) (by omega) _
    · exact readAt_slab arg4 harg4 x1 4 _ _ (k0_off9_eq i) (by omega) _
    · exact readAt_slab arg4 harg4 x1 5 _ _ (k0_off11_eq i) (by omega) _
    · exact readAt_slab arg4 harg4 x1 6 _ _ (k0_off13_eq i) (by omega) _
    · exact readAt_slab arg4 harg4 x1 7 _ _ (k0_off15_eq i) (by omega) _
  have hv : (fun s => slab x2 s (256 * (i 2).val)) = ![View.readAt (Elt F) arg5.view (Rect.unit (s := S4x4096x256) (k0_off1 i) S1x256x128.size (k0_off1_inb i)).toLoadRect (harg5.unread x2),
      View.readAt (Elt F) arg5.view (Rect.unit (s := S4x4096x256) (k0_off3 i) S1x256x128.size (k0_off3_inb i)).toLoadRect (harg5.unread x2),
      View.readAt (Elt F) arg5.view (Rect.unit (s := S4x4096x256) (k0_off5 i) S1x256x128.size (k0_off5_inb i)).toLoadRect (harg5.unread x2),
      View.readAt (Elt F) arg5.view (Rect.unit (s := S4x4096x256) (k0_off7 i) S1x256x128.size (k0_off7_inb i)).toLoadRect (harg5.unread x2),
      View.readAt (Elt F) arg5.view (Rect.unit (s := S4x4096x256) (k0_off9 i) S1x256x128.size (k0_off9_inb i)).toLoadRect (harg5.unread x2),
      View.readAt (Elt F) arg5.view (Rect.unit (s := S4x4096x256) (k0_off11 i) S1x256x128.size (k0_off11_inb i)).toLoadRect (harg5.unread x2),
      View.readAt (Elt F) arg5.view (Rect.unit (s := S4x4096x256) (k0_off13 i) S1x256x128.size (k0_off13_inb i)).toLoadRect (harg5.unread x2),
      View.readAt (Elt F) arg5.view (Rect.unit (s := S4x4096x256) (k0_off15 i) S1x256x128.size (k0_off15_inb i)).toLoadRect (harg5.unread x2)] := by
    funext s; fin_cases s
    · exact readAt_slab arg5 harg5 x2 0 _ _ (k0_off1_eq i) (by omega) _
    · exact readAt_slab arg5 harg5 x2 1 _ _ (k0_off3_eq i) (by omega) _
    · exact readAt_slab arg5 harg5 x2 2 _ _ (k0_off5_eq i) (by omega) _
    · exact readAt_slab arg5 harg5 x2 3 _ _ (k0_off7_eq i) (by omega) _
    · exact readAt_slab arg5 harg5 x2 4 _ _ (k0_off9_eq i) (by omega) _
    · exact readAt_slab arg5 harg5 x2 5 _ _ (k0_off11_eq i) (by omega) _
    · exact readAt_slab arg5 harg5 x2 6 _ _ (k0_off13_eq i) (by omega) _
    · exact readAt_slab arg5 harg5 x2 7 _ _ (k0_off15_eq i) (by omega) _
  have hkp : (fun s => slab x1 s (256 * ((i 2).val - 1))) = ![View.readAt (Elt F) arg4.view (Rect.unit (s := S4x4096x256) (k0_off2 i) S1x256x128.size (k0_off2_inb i)).toLoadRect (harg4.unread x1),
      View.readAt (Elt F) arg4.view (Rect.unit (s := S4x4096x256) (k0_off4 i) S1x256x128.size (k0_off4_inb i)).toLoadRect (harg4.unread x1),
      View.readAt (Elt F) arg4.view (Rect.unit (s := S4x4096x256) (k0_off6 i) S1x256x128.size (k0_off6_inb i)).toLoadRect (harg4.unread x1),
      View.readAt (Elt F) arg4.view (Rect.unit (s := S4x4096x256) (k0_off8 i) S1x256x128.size (k0_off8_inb i)).toLoadRect (harg4.unread x1),
      View.readAt (Elt F) arg4.view (Rect.unit (s := S4x4096x256) (k0_off10 i) S1x256x128.size (k0_off10_inb i)).toLoadRect (harg4.unread x1),
      View.readAt (Elt F) arg4.view (Rect.unit (s := S4x4096x256) (k0_off12 i) S1x256x128.size (k0_off12_inb i)).toLoadRect (harg4.unread x1),
      View.readAt (Elt F) arg4.view (Rect.unit (s := S4x4096x256) (k0_off14 i) S1x256x128.size (k0_off14_inb i)).toLoadRect (harg4.unread x1),
      View.readAt (Elt F) arg4.view (Rect.unit (s := S4x4096x256) (k0_off16 i) S1x256x128.size (k0_off16_inb i)).toLoadRect (harg4.unread x1)] := by
    funext s; fin_cases s
    · exact readAt_slab arg4 harg4 x1 0 _ _ (off2_eq i) (by omega) _
    · exact readAt_slab arg4 harg4 x1 1 _ _ (off4_eq i) (by omega) _
    · exact readAt_slab arg4 harg4 x1 2 _ _ (off6_eq i) (by omega) _
    · exact readAt_slab arg4 harg4 x1 3 _ _ (off8_eq i) (by omega) _
    · exact readAt_slab arg4 harg4 x1 4 _ _ (off10_eq i) (by omega) _
    · exact readAt_slab arg4 harg4 x1 5 _ _ (off12_eq i) (by omega) _
    · exact readAt_slab arg4 harg4 x1 6 _ _ (off14_eq i) (by omega) _
    · exact readAt_slab arg4 harg4 x1 7 _ _ (off16_eq i) (by omega) _
  have hvp : (fun s => slab x2 s (256 * ((i 2).val - 1))) = ![View.readAt (Elt F) arg5.view (Rect.unit (s := S4x4096x256) (k0_off2 i) S1x256x128.size (k0_off2_inb i)).toLoadRect (harg5.unread x2),
      View.readAt (Elt F) arg5.view (Rect.unit (s := S4x4096x256) (k0_off4 i) S1x256x128.size (k0_off4_inb i)).toLoadRect (harg5.unread x2),
      View.readAt (Elt F) arg5.view (Rect.unit (s := S4x4096x256) (k0_off6 i) S1x256x128.size (k0_off6_inb i)).toLoadRect (harg5.unread x2),
      View.readAt (Elt F) arg5.view (Rect.unit (s := S4x4096x256) (k0_off8 i) S1x256x128.size (k0_off8_inb i)).toLoadRect (harg5.unread x2),
      View.readAt (Elt F) arg5.view (Rect.unit (s := S4x4096x256) (k0_off10 i) S1x256x128.size (k0_off10_inb i)).toLoadRect (harg5.unread x2),
      View.readAt (Elt F) arg5.view (Rect.unit (s := S4x4096x256) (k0_off12 i) S1x256x128.size (k0_off12_inb i)).toLoadRect (harg5.unread x2),
      View.readAt (Elt F) arg5.view (Rect.unit (s := S4x4096x256) (k0_off14 i) S1x256x128.size (k0_off14_inb i)).toLoadRect (harg5.unread x2),
      View.readAt (Elt F) arg5.view (Rect.unit (s := S4x4096x256) (k0_off16 i) S1x256x128.size (k0_off16_inb i)).toLoadRect (harg5.unread x2)] := by
    funext s; fin_cases s
    · exact readAt_slab arg5 harg5 x2 0 _ _ (off2_eq i) (by omega) _
    · exact readAt_slab arg5 harg5 x2 1 _ _ (off4_eq i) (by omega) _
    · exact readAt_slab arg5 harg5 x2 2 _ _ (off6_eq i) (by omega) _
    · exact readAt_slab arg5 harg5 x2 3 _ _ (off8_eq i) (by omega) _
    · exact readAt_slab arg5 harg5 x2 4 _ _ (off10_eq i) (by omega) _
    · exact readAt_slab arg5 harg5 x2 5 _ _ (off12_eq i) (by omega) _
    · exact readAt_slab arg5 harg5 x2 6 _ _ (off14_eq i) (by omega) _
    · exact readAt_slab arg5 harg5 x2 7 _ _ (off16_eq i) (by omega) _
  have hQ : qs x0 = fun s => k0_pay11 ((fun s => qslab x0 s) s) := rfl
  have hout : outA x0 x1 x2 (i 2).val = outK (fun s => (lrun (qs x0) x1 x2 ((i 2).val - 1) (start x0 x1 x2 (i 2).val)).acc s) := rfl
  rw [hout]
  have hle := spec_le (F := F) c i arg4 harg4 arg5 harg5 x1 x2 (qs x0) E ((i 2).val - 1) (start x0 x1 x2 (i 2).val) (ctr_start _ hn)
  generalize hL : lrun (qs x0) x1 x2 ((i 2).val - 1) (start x0 x1 x2 (i 2).val) = L
  unfold start at hle hL
  generalize hS : startK (qs x0) _ _ _ _ _ _ = S at hle hL
  rw [hk, hv, hkp, hvp, hQ, hq] at hS
  have hle' : ∀ R, R = rec_ i arg4 harg4 arg5 harg5 (fun s => k0_pay11 ((fun s => qslab x0 s) s)) S → ∀ K, spec c arg4 harg4 arg5 harg5 x1 x2 (qs x0) ((i 2).val - 1) S K
      ⊢ wp frame (wpE (defs₀ (F := F)) 𝒱₀ (c : Thread nD τ) (some ((i 2).val - 1))) E (defs₀ (F := F) .tc 1 R) K := by
    rintro _ rfl; exact hle
  rw [hq] at hle'
  simp only [cc0_stick_breaking_attention_eq_skeleton]; unfold cc0_stick_breaking_attention_skel
  simp only [k0_part24_eq_skeleton]; unfold k0_part24_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
  sl_exec
  iapply (wp_call_spec 𝒱₀ (c : Thread nD τ) none E (spec c arg4 harg4 arg5 harg5 x1 x2 (qs x0) ((i 2).val - 1) S) ((i 2).val - 1)
    (fun u hu => nomatch hu) (hle' _ (by
      subst hS
      clear hle hle' hL hk hv hkp hvp hq hQ
      refine rec_congr' _ _ _ _ _ ?_ ?_ ?_ ?_ ?_ ?_ ?_ ?_ ?_ ?_ ?_ ?_ ?_ ?_ ?_ ?_ ?_ ?_ ?_ ?_ ?_ ?_ ?_ ?_ ?_ ?_
      · rfl
      · rfl
      · rfl
      · rfl
      · rfl
      · rfl
      · rfl
      · rfl
      · rfl
      · rfl
      · rfl
      · rfl
      · rfl
      · rfl
      · rfl
      · rfl
      · rfl
      · rfl
      · rfl
      · rfl
      · rfl
      · rfl
      · rfl
      · rfl
      · rfl
      · unfold startK; dsimp only
        refine top0_congr _ ?_ ?_ ?_ ?_ ?_ ?_ ?_ ?_
        · rfl
        · rfl
        · rfl
        · rfl
        · rfl
        · rfl
        · rfl
        · rfl
)))
  rw [spec_apply, hL]; unfold held
  isplitl [H1 H2]
  · isplitl [H1]; · iexact H1
    iexact H2
  iintro ⟨H1, H2⟩
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; swap; · iexact H10
    ipureintro; exact read_outK arg13 _ L
  isplitl [H11]
  · iexists _; isplitr; swap; · iexact H11
    ipureintro
    exact (read_store arg14 _ (funext fun a => by fin_cases a <;> rfl) _ _).trans (congrArg k0_pay3 (readAt_whole arg6 harg6 x3 (funext fun a => by fin_cases a <;> rfl) _))
  isplitl [H12]
  · iexists _; isplitr; swap; · iexact H12
    ipureintro
    exact (read_store arg15 _ (funext fun a => by fin_cases a <;> rfl) _ _).trans (congrArg k0_pay4 (readAt_whole arg7 harg7 x4 (funext fun a => by fin_cases a <;> rfl) _))
  isplitl [H13]
  · iexists _; isplitr; swap; · iexact H13
    ipureintro
    exact (read_store arg16 _ (funext fun a => by fin_cases a <;> rfl) _ _).trans (congrArg k0_pay5 (readAt_whole arg8 harg8 x5 (funext fun a => by fin_cases a <;> rfl) _))
  isplitl [H14]
  · iexists _; isplitr; swap; · iexact H14
    ipureintro
    exact (read_store arg17 _ (funext fun a => by fin_cases a <;> rfl) _ _).trans (congrArg k0_pay6 (readAt_whole arg9 harg9 x6 (funext fun a => by fin_cases a <;> rfl) _))
  isplitl [H15]
  · iexists _; isplitr; swap; · iexact H15
    ipureintro
    exact (read_store arg18 _ (funext fun a => by fin_cases a <;> rfl) _ _).trans (congrArg k0_pay7 (readAt_whole arg10 harg10 x7 (funext fun a => by fin_cases a <;> rfl) _))
  isplitl [H16]
  · iexists _; isplitr; swap; · iexact H16
    ipureintro
    exact (read_store arg19 _ (funext fun a => by fin_cases a <;> rfl) _ _).trans (congrArg k0_pay8 (readAt_whole arg11 harg11 x8 (funext fun a => by fin_cases a <;> rfl) _))
  · iexists _; isplitr; swap; · iexact H17
    ipureintro
    exact (read_store arg20 _ (funext fun a => by fin_cases a <;> rfl) _ _).trans (congrArg k0_pay9 (readAt_whole arg12 harg12 x9 (funext fun a => by fin_cases a <;> rfl) _))

end Cert.Proof.SB

end
-- ==== Proof.SB.Run.lean ====
/-
  The run of the attention's program: its proof data, the body's obligation at every point, the launch, and from it
  the frame at any value type.
-/
module

public import proofs.«01_k».proof.Proof.SB.Kit
public import proofs.«01_k».proof.Proof.SB.Body
public import Idealize.ShloMosaic.Lib.Claim

@[expose] public section

set_option maxRecDepth 16384

noncomputable section

namespace Cert.Proof.SB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the outputs' staging buffers hold after the body at point `t`. -/
def outsAt0 (c : Dev nD) (t : Fin (cfg0 (F := F)).N) : Vec F S4x256x256 .bf16 × Vec F S32x5632 .bf16 × Vec F S32x5632 .bf16 × Vec F S16x2048 .bf16 × Vec F S16x2048 .bf16 × Vec F S16x2048 .bf16 × Vec F S32x2048 .bf16 × Vec F S32x13312 .bf16 :=
  (outA (iblk m c 0 t) (iblk m c 1 t) (iblk m c 2 t) (grid0.coords t 2).val, k0_pay3 (iblk m c 3 t), k0_pay4 (iblk m c 4 t), k0_pay5 (iblk m c 5 t), k0_pay6 (iblk m c 6 t), k0_pay7 (iblk m c 7 t), k0_pay8 (iblk m c 8 t), k0_pay9 (iblk m c 9 t))

/-- The pipeline's proof data: the arrays as the region finds them; after the body at point `t` each input's buffer
    at its block and the outputs' at `outsAt0`; the scoped rest kept; nothing owed; each input's share of its array. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t).1
    | ⟨11, _⟩ => (outsAt0 m c t).2.1
    | ⟨12, _⟩ => (outsAt0 m c t).2.2.1
    | ⟨13, _⟩ => (outsAt0 m c t).2.2.2.1
    | ⟨14, _⟩ => (outsAt0 m c t).2.2.2.2.1
    | ⟨15, _⟩ => (outsAt0 m c t).2.2.2.2.2.1
    | ⟨16, _⟩ => (outsAt0 m c t).2.2.2.2.2.2.1
    | ⟨17, _⟩ => (outsAt0 m c t).2.2.2.2.2.2.2
    | ⟨_ + 18, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = iblk m c 6 t := rfl
theorem after0_7 (c : Dev nD) (t : Fin (cfg0 (F := F)).N) : (dats m 0 c).after 7 t = iblk m c 7 t := rfl
theorem after0_8 (c : Dev nD) (t : Fin (cfg0 (F := F)).N) : (dats m 0 c).after 8 t = iblk m c 8 t := rfl
theorem after0_9 (c : Dev nD) (t : Fin (cfg0 (F := F)).N) : (dats m 0 c).after 9 t = iblk m c 9 t := rfl
theorem after0_10 (c : Dev nD) (t : Fin (cfg0 (F := F)).N) : (dats m 0 c).after 10 t = (outsAt0 m c t).1 := rfl
theorem after0_11 (c : Dev nD) (t : Fin (cfg0 (F := F)).N) : (dats m 0 c).after 11 t = (outsAt0 m c t).2.1 := rfl
theorem after0_12 (c : Dev nD) (t : Fin (cfg0 (F := F)).N) : (dats m 0 c).after 12 t = (outsAt0 m c t).2.2.1 := rfl
theorem after0_13 (c : Dev nD) (t : Fin (cfg0 (F := F)).N) : (dats m 0 c).after 13 t = (outsAt0 m c t).2.2.2.1 := rfl
theorem after0_14 (c : Dev nD) (t : Fin (cfg0 (F := F)).N) : (dats m 0 c).after 14 t = (outsAt0 m c t).2.2.2.2.1 := rfl
theorem after0_15 (c : Dev nD) (t : Fin (cfg0 (F := F)).N) : (dats m 0 c).after 15 t = (outsAt0 m c t).2.2.2.2.2.1 := rfl
theorem after0_16 (c : Dev nD) (t : Fin (cfg0 (F := F)).N) : (dats m 0 c).after 16 t = (outsAt0 m c t).2.2.2.2.2.2.1 := rfl
theorem after0_17 (c : Dev nD) (t : Fin (cfg0 (F := F)).N) : (dats m 0 c).after 17 t = (outsAt0 m c t).2.2.2.2.2.2.2 := rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d
theorem before0_7 (c : Dev nD) (t : Fin (cfg0 (F := F)).N) (d) : (dats m 0 c).before 7 t d = iblk m c 7 t :=
  before0_7_of m (dats m 0 c) (A_eq m c 7) (after0_7 m c) t d
theorem before0_8 (c : Dev nD) (t : Fin (cfg0 (F := F)).N) (d) : (dats m 0 c).before 8 t d = iblk m c 8 t :=
  before0_8_of m (dats m 0 c) (A_eq m c 8) (after0_8 m c) t d
theorem before0_9 (c : Dev nD) (t : Fin (cfg0 (F := F)).N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 1600000 in
/-- The body at any point: the inputs' memrefs hold their blocks (`before0_W`); so the
    run applies; the invariant passes through unread; the core owes nothing throughout. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  unfold outsAt0
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body_run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt0` spells it. -/
theorem defs₀_row (t : Fin (cfg0 (F := F)).N) :
    defs₀ (F := F) .tc cfg0.body (cfg0.bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end unchanged and every semaphore counter is zero, at any value type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proof.SB

end
-- ==== Proof.SB.Frames.lean ====
/-
  The frames and the ledger: the runs over any value type at bits and at the ideal values; the reference's frame is its run's.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.SB.Run
public import proofs.«01_k».proof.Proof.SBK.Run

@[expose] public section

set_option maxRecDepth 16384

noncomputable section

namespace Cert.Proof.SB

open Idealize.ShloMosaic Idealize.ShloMosaic.TcCoe Idealize.SL Idealize.SL.Sem

attribute [local instance] Cert.Kernel.Gen.facts Cert.KernelIdeal.Gen.facts Cert.ReferenceIdeal.Gen.facts

theorem frame_kernel : Cert.quiescent_Kernel := fun m ρ _ => SBK.frame (F := Bits) m ρ

theorem frame_ideal : Cert.quiescent_KernelIdeal := fun m ρ _ => frame (F := Ideal) m ρ

theorem frame_ref : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Proof.SB

end
-- ==== Proof.SB.Tile.lean ====
module

public import proofs.«01_k».proof.Proof.SB.Defs
public import Idealize.ShloMosaic.Lib.Pointwise
public import Idealize.ShloMosaic.Lib.WordCmp
public import Idealize.ShloMosaic.Lib.IdealHost

@[expose] public section

set_option maxRecDepth 16384

noncomputable section

namespace Cert.Proof.SB

open Cert.KernelIdeal Cert.KernelIdeal.Gen
open Idealize.ShloMosaic

/-! ## Real numbers -/

theorem coeS {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

theorem exp2_coe' (x : ℝ) : FloatOps.exp2 (F := Ideal) (φ := .f32) (x : EReal) = (((2 : ℝ) ^ x : ℝ) : EReal) := rfl

/-- `log₂ (1 + 2 ^ z)` of a real number, as the kernel writes it. -/
def sp2 (z : ℝ) : ℝ := max z 0 + Real.log (1 + 2 ^ (-|z|)) * (Real.log 2)⁻¹

theorem inv_ln2_eq : (Named.named (F := Ideal) (φ := .f32) κ "inv_ln2" 1069066811#32 : Ideal .f32) = (((Real.log 2)⁻¹ : ℝ) : EReal) := rfl
theorem q_scale_eq : (Named.named (F := Ideal) κ "q_scale" 1040356334#32 : Ideal .f32) =
    (((Real.sqrt 128)⁻¹ * (Real.log 2)⁻¹ : ℝ) : EReal) := rfl
theorem no_prev_eq : (Named.named (F := Ideal) κ "no_prev" 3289907200#32 : Ideal .f32) = (⊥ : EReal) := rfl
theorem exp2_zero_below_eq : (Named.named (F := Ideal) κ "exp2_zero_below" 0xC3180000#32 : Ideal .f32) = (⊥ : EReal) := rfl

theorem coe_max' (x y : ℝ) : ((max x y : ℝ) : EReal) = max (x : EReal) (y : EReal) :=
  EReal.coe_strictMono.monotone.map_max

theorem absf_coe' (x : ℝ) : FloatOps.absf (F := Ideal) (φ := .f32) (x : EReal) = ((|x| : ℝ) : EReal) := by
  show max (x : EReal) (-(x : EReal)) = _
  rw [abs_eq_max_neg, coe_max', EReal.coe_neg]

theorem log_pos_coe {x : ℝ} (h : 0 < x) : Ideal.log (x : EReal) = ((Real.log x : ℝ) : EReal) := by
  rw [Ideal.log_coe, if_neg (not_le.mpr h)]

/-- `log₂ (1 + 2 ^ z)`, as the kernel writes it. -/
def spE (z : EReal) : EReal := max z 0 +
  Ideal.log (1 + FloatOps.exp2 (F := Ideal) (φ := .f32) (0 - FloatOps.absf (F := Ideal) (φ := .f32) z)) *
    Named.named (F := Ideal) (φ := .f32) κ "inv_ln2" 1069066811#32

/-- What a key leaves to the keys before it, in logarithms. -/
def lr (z : EReal) : EReal := -(spE z)

/-- The weight of a key of score `z`, when the keys after it leave `S`. -/
def wE (z S : EReal) : EReal := FloatOps.exp2 (F := Ideal) (φ := .f32) ((z - spE z) + S)

theorem spE_coe (z : ℝ) : spE ((z : ℝ) : EReal) = ((sp2 z : ℝ) : EReal) := by
  unfold spE
  rw [inv_ln2_eq, absf_coe', ← EReal.coe_zero, ← EReal.coe_sub, exp2_coe', ← EReal.coe_one, ← EReal.coe_add,
    log_pos_coe (by positivity), ← coe_max', ← EReal.coe_mul, ← EReal.coe_add, zero_sub]
  rfl

theorem exp2_bot : FloatOps.exp2 (F := Ideal) (φ := .f32) (⊥ : EReal) = (0 : EReal) := rfl

theorem log_one : Ideal.log (1 : EReal) = 0 := by
  rw [← EReal.coe_one, log_pos_coe one_pos, Real.log_one, EReal.coe_zero]

theorem spE_top : spE ⊤ = ⊤ := by
  have h : FloatOps.absf (F := Ideal) (φ := .f32) (⊤ : EReal) = (⊤ : EReal) := by
    show max (⊤ : EReal) (-⊤) = ⊤
    simp
  unfold spE
  rw [h, show (0 : EReal) - ⊤ = ⊥ from rfl, exp2_bot, add_zero, log_one, zero_mul, add_zero]
  simp

theorem spE_bot : spE ⊥ = 0 := by
  have h : FloatOps.absf (F := Ideal) (φ := .f32) (⊥ : EReal) = (⊤ : EReal) := by
    show max (⊥ : EReal) (-⊥) = ⊤
    simp
  unfold spE
  rw [h, show (0 : EReal) - ⊤ = ⊥ from rfl, exp2_bot, add_zero, log_one, zero_mul, add_zero]
  simp

theorem spE_ne_bot (z : EReal) : spE z ≠ ⊥ := by
  induction z with
  | bot => rw [spE_bot]; simp
  | top => rw [spE_top]; simp
  | coe r => rw [spE_coe]; exact EReal.coe_ne_bot _

theorem wE_bot (z : EReal) : wE z ⊥ = 0 := by
  unfold wE
  rw [EReal.add_bot, exp2_bot]

/-- The high part and the rest, both taken with minus one. -/
theorem neg_split (p : EReal) (h : p ≠ ⊥) : p * ((-1 : ℝ) : EReal) + (p - p) * ((-1 : ℝ) : EReal) = -p := by
  induction p with
  | bot => exact absurd rfl h
  | top =>
    rw [show (⊤ : EReal) - ⊤ = ⊥ from rfl, EReal.top_mul_coe_of_neg (by norm_num), EReal.bot_add]
    rfl
  | coe r =>
    rw [← EReal.coe_sub, ← EReal.coe_mul, ← EReal.coe_mul, ← EReal.coe_add, ← EReal.coe_neg]
    congr 1
    ring

/-! ## The tiles' matrix -/

def mM (r c : ℕ) : ℝ := if 128 ≤ c ∨ c < r % 128 then -1 else 0

theorem remsi_val : ∀ i : Fin 256, (Scalar.select
            (IntOp.andi
              (IntOp.xori
                (IntOp.cmpi CmpIPredicate.slt
                  (IntOp.remsi ArithUnit.vector (BitVec.ofNat 32 i.val)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 i.val)
                  (Scalar.select (Scalar.cmpi CmpIPredicate.eq 128#32 0#32) 1#32 128#32))
                0#32))
            (IntOp.addi
              (IntOp.remsi ArithUnit.vector (BitVec.ofNat 32 i.val)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 i.val)
              (Scalar.select (Scalar.cmpi CmpIPredicate.eq 128#32 0#32) 1#32 128#32))) = BitVec.ofNat 32 (i.val % 128) := by
  decide +kernel

theorem neg_one_f32 : Ideal.ofBits FTy.f32 3212836864#32 = ((-1 : ℝ) : EReal) := by
  simp [Ideal.ofBits, Ideal.ieee, -EReal.coe_mul, -EReal.coe_neg]; norm_num

theorem M_val (r c : Fin 256) : k0_pay10 (F := Ideal) (ix2 r c) = ((mM r.val c.val : ℝ) : EReal) := by
  pointwise [k0_pay10]
  rw [remsi_val, WordCmp.cmpi_sgt_ofNat (by omega) (by omega), show (128#32) = BitVec.ofNat 32 128 from rfl,
    WordCmp.cmpi_sge_ofNat (by omega) (by omega), neg_one_f32]
  unfold mM
  by_cases h1 : 128 ≤ c.val <;> by_cases h2 : c.val < r.val % 128 <;> simp [h1, h2, IntOp.ori, Scalar.select]

/-- One half of a tile against a column of the matrix. -/
theorem half (f : ℕ → EReal) (hf : ∀ j, f j ≠ ⊥) (o c : ℕ) :
    (∑ x : Fin 128, f (o + x.val) * ((mM x.val c : ℝ) : EReal)) +
      (∑ x : Fin 128, (f (o + x.val) - f (o + x.val)) * ((mM (128 + x.val) c : ℝ) : EReal)) =
    ∑ j ∈ Finset.Ico (o + if c < 128 then c + 1 else 0) (o + 128), -f j := by
  rw [← Finset.sum_add_distrib, Fin.sum_univ_eq_sum_range (fun x => f (o + x) * ((mM x c : ℝ) : EReal) +
      (f (o + x) - f (o + x)) * ((mM (128 + x) c : ℝ) : EReal)) 128, add_comm o (128 : ℕ), add_comm o (if c < 128 then c + 1 else 0),
    ← Finset.sum_Ico_add (fun j => -f j) (if c < 128 then c + 1 else 0) 128 o, Finset.range_eq_Ico]
  have h : ∀ x ∈ Finset.Ico 0 128, f (o + x) * ((mM x c : ℝ) : EReal) + (f (o + x) - f (o + x)) * ((mM (128 + x) c : ℝ) : EReal) =
      if x ∈ Finset.Ico (if c < 128 then c + 1 else 0) 128 then -f (o + x) else 0 := by
    intro x hx
    have hx : x < 128 := (Finset.mem_Ico.mp hx).2
    unfold mM
    rw [Nat.add_mod_left, Nat.mod_eq_of_lt hx]
    by_cases h1 : c < 128
    · by_cases h2 : c < x
      · rw [if_pos (Or.inr h2), if_pos (by simp [h1]; omega)]; exact neg_split _ (hf _)
      · rw [if_neg (by omega), if_neg (by simp [h1]; omega)]; simp
    · rw [if_pos (Or.inl (by omega)), if_pos (by simp [h1]; omega)]; exact neg_split _ (hf _)
  rw [Finset.sum_congr rfl h, Finset.sum_ite_mem]
  congr 1
  ext x
  simp only [Finset.mem_inter, Finset.mem_Ico]
  omega

theorem Ico_split (f : ℕ → EReal) {a b c : ℕ} (h : a ≤ b) (h' : b ≤ c) :
    ∑ j ∈ Finset.Ico a c, f j = (∑ j ∈ Finset.Ico a b, f j) + ∑ j ∈ Finset.Ico b c, f j :=
  (Finset.sum_Ico_consecutive f h h').symm

theorem sum_tile (g : ℕ → EReal) (o : ℕ) : (∑ x : Fin 128, g (o + x.val)) + (∑ x : Fin 128, g (o + (128 + x.val))) =
    ∑ j ∈ Finset.Ico o (o + 256), g j := by
  rw [Fin.sum_univ_eq_sum_range (fun x => g (o + x)) 128, Fin.sum_univ_eq_sum_range (fun x => g (o + (128 + x))) 128,
    Finset.sum_Ico_eq_sum_range, show o + 256 - o = 128 + 128 by omega, Finset.sum_range_add]

/-! ## A tile below the diagonal, at one row -/

section Row

variable (q : QV Ideal) (k v : KV Ideal) (run acc : RV Ideal) (i : Fin 256) (o : ℕ) (z : ℕ → EReal)

section

variable (hz : ∀ c : Fin 256, k0_pay224 (F := Ideal) q k (ix2 i c) = z (o + c.val))

include hz

theorem sp_row (c : Fin 256) : k0_pay225 (F := Ideal) q k (ix2 i c) = spE (z (o + c.val)) := by
  pointwise [k0_pay225]
  rw [hz]
  rfl

theorem hi_row (c : Fin 256) : k0_pay226 (F := Ideal) q k (ix2 i c) = spE (z (o + c.val)) := by
  pointwise [k0_pay226]
  rw [sp_row q k i o z hz]

theorem lo_row (c : Fin 256) : k0_pay227 (F := Ideal) q k (ix2 i c) = spE (z (o + c.val)) - spE (z (o + c.val)) := by
  pointwise [k0_pay227, k0_pay226]
  rw [sp_row q k i o z hz]

theorem left_row (c : Fin 256) :
    k0_pay229 (F := Ideal) q k0_pay10 k (ix2 i c) =
      ∑ j ∈ Finset.Ico (o + if c.val < 128 then c.val + 1 else 0) (o + 128), lr (z j) := by
  pointwise [k0_pay229]
  simp only [hi_row q k i o z hz, lo_row q k i o z hz, M_val]
  exact half (fun j => spE (z j)) (fun _ => spE_ne_bot _) o c.val

theorem right_row (c : Fin 256) :
    k0_pay228 (F := Ideal) q k0_pay10 k (ix2 i c) =
      ∑ j ∈ Finset.Ico (o + 128 + if c.val < 128 then c.val + 1 else 0) (o + 256), lr (z j) := by
  pointwise [k0_pay228]
  simp only [hi_row q k i o z hz, lo_row q k i o z hz, M_val, ← Nat.add_assoc]
  exact half (fun j => spE (z j)) (fun _ => spE_ne_bot _) (o + 128) c.val

theorem runStep_row (ρ : EReal) (hr : ∀ c : Fin 128, run (ix2 i c) = ρ) (c : Fin 128) :
    runStep (F := Ideal) q k run (ix2 i c) = (∑ j ∈ Finset.Ico o (o + 256), lr (z j)) + ρ := by
  pointwise [runStep, k0_pay232, k0_pay230]
  rw [hr, left_row q k i o z hz, right_row q k i o z hz, if_neg (by simp),
    Ico_split _ (show o ≤ o + 128 by omega) (show o + 128 ≤ o + 256 by omega)]
  simp only [Nat.add_zero]
  ac_rfl

theorem accStep_row (ρ : EReal) (V : ℕ → EReal) (d : Fin 128) (hr : ∀ c : Fin 128, run (ix2 i c) = ρ)
    (hv : ∀ c : Fin 256, v (ix3 0 c d) = V (o + c.val)) :
    accStep (F := Ideal) q k v run acc (ix2 i d) =
      acc (ix2 i d) + ∑ j ∈ Finset.Ico o (o + 256), wE (z j) ((∑ l ∈ Finset.Ico (j + 1) (o + 256), lr (z l)) + ρ) * V j := by
  pointwise [accStep, k0_pay231, k0_pay230]
  simp only [hr, hz, hv, sp_row q k i o z hz, left_row q k i o z hz, right_row q k i o z hz]
  rw [← sum_tile]
  congr 2
  · refine Finset.sum_congr rfl fun x _ => ?_
    have hx := x.isLt
    rw [if_pos hx, if_neg (by simp), Ico_split _ (show o + x.val + 1 ≤ o + 128 by omega) (show o + 128 ≤ o + 256 by omega)]
    unfold wE
    congr 3
    simp only [Nat.add_zero, Nat.add_assoc]
    ac_rfl
  · refine Finset.sum_congr rfl fun x _ => ?_
    have hx := x.isLt
    rw [if_pos hx]
    unfold wE
    congr 3
    simp only [Nat.add_assoc]
    ac_rfl

end

/-- With nothing left the tile adds nothing. -/
theorem accStep_bot (d : Fin 128) (hr : ∀ c : Fin 128, run (ix2 i c) = (⊥ : EReal)) :
    accStep (F := Ideal) q k v run acc (ix2 i d) = acc (ix2 i d) := by
  pointwise [accStep, k0_pay231, k0_pay230]
  simp only [hr, EReal.bot_add, EReal.add_bot, exp2_bot, zero_mul, Finset.sum_const_zero, add_zero]

/-! ## The tile on the diagonal, at one row -/

/-- What the diagonal tile sums: the keys before the row. -/
def spm (z : ℕ → EReal) (t j : ℕ) : EReal := if j < t then spE (z j) else 0

theorem spm_ne_bot (t j : ℕ) : spm z t j ≠ ⊥ := by
  unfold spm
  split
  · exact spE_ne_bot _
  · simp

theorem sel_slt (a b : EReal) (c i : ℕ) (hc : c < 256) (hi : i < 256) :
    Scalar.select (IntOp.cmpi CmpIPredicate.slt (BitVec.ofNat 32 c) (BitVec.ofNat 32 i)) a b = if c < i then a else b := by
  rw [WordCmp.cmpi_slt_ofNat (by omega) (by omega)]
  by_cases h : c < i <;> simp [h, Scalar.select]

theorem sum_spm (t a b : ℕ) (ht : t ≤ b) :
    ∑ j ∈ Finset.Ico a b, -spm z t j = ∑ j ∈ Finset.Ico a t, lr (z j) := by
  have h : ∀ j, -spm z t j = if j < t then lr (z j) else 0 := fun j => by
    unfold spm lr
    split <;> simp
  simp only [h]
  rw [← Finset.sum_filter]
  congr 1
  ext x
  simp only [Finset.mem_filter, Finset.mem_Ico]
  omega

section

variable (hz : ∀ c : Fin 256, k0_pay224 (F := Ideal) q k (ix2 i c) = z (o + c.val))

include hz

theorem him_row (c : Fin 256) : k0_pay26 (F := Ideal) q k (ix2 i c) = spm z (o + i.val) (o + c.val) := by
  pointwise [k0_pay26, k0_pay25, k0_pay22]
  rw [show k0_pay24 (F := Ideal) q k = k0_pay225 q k from rfl, sp_row q k i o z hz, sel_slt _ _ _ _ c.isLt i.isLt]
  unfold spm
  by_cases h : c.val < i.val
  · rw [if_pos h, if_pos (by omega)]
  · rw [if_neg h, if_neg (by omega)]

theorem lom_row (c : Fin 256) : k0_pay27 (F := Ideal) q k (ix2 i c) =
    spm z (o + i.val) (o + c.val) - spm z (o + i.val) (o + c.val) := by
  have h := him_row q k i o z hz c
  rw [show k0_pay27 (F := Ideal) q k (ix2 i c) = k0_pay26 (F := Ideal) q k (ix2 i c) - k0_pay26 (F := Ideal) q k (ix2 i c) from by
    pointwise [k0_pay27, k0_pay26], h]

theorem rightm_row (c : Fin 256) :
    k0_pay28 (F := Ideal) k0_pay10 q k (ix2 i c) =
      ∑ j ∈ Finset.Ico (o + 128 + if c.val < 128 then c.val + 1 else 0) (o + 256), -spm z (o + i.val) j := by
  pointwise [k0_pay28]
  simp only [him_row q k i o z hz, lom_row q k i o z hz, M_val, ← Nat.add_assoc]
  exact half (fun j => spm z (o + i.val) j) (spm_ne_bot z _) (o + 128) c.val

theorem leftm_row (c : Fin 256) :
    k0_pay31 (F := Ideal) k0_pay10 (k0_pay29 q k) (k0_pay30 q k) (ix2 i c) =
      ∑ j ∈ Finset.Ico (o + if c.val < 128 then c.val + 1 else 0) (o + 128), -spm z (o + i.val) j := by
  pointwise [k0_pay31, k0_pay29, k0_pay30]
  simp only [him_row q k i o z hz, lom_row q k i o z hz, M_val]
  exact half (fun j => spm z (o + i.val) j) (spm_ne_bot z _) o c.val

theorem runDiag_row (np : Ideal .f32) (c : Fin 128) :
    runDiag (F := Ideal) q k np (ix2 i c) = (∑ j ∈ Finset.Ico o (o + i.val), lr (z j)) + np := by
  have hi := i.isLt
  have h0 : k0_pay20 (F := Ideal) (ix2 i c) = (0 : EReal) := by pointwise [k0_pay20]
  pointwise [runDiag, k0_pay34, k0_pay32]
  rw [h0, leftm_row q k i o z hz, rightm_row q k i o z hz, if_neg (by simp),
    ← sum_spm z (o + i.val) o (o + 256) (by omega),
    Ico_split _ (show o ≤ o + 128 by omega) (show o + 128 ≤ o + 256 by omega)]
  simp only [Nat.add_zero, zero_add]
  ac_rfl

end

theorem pay33_row (M : FVec Ideal S256x256 .bf16) (b : IVec S256x256 1) (zz ss R : FVec Ideal S256x256 .f32)
    (x y : FVec Ideal S256x128 .bf16) (S : ℕ → EReal) (V : ℕ → EReal) (d : Fin 128)
    (hb : b = k0_pay22)
    (hz : ∀ c : Fin 256, zz (ix2 i c) = z (o + c.val))
    (hs : ∀ c : Fin 256, ss (ix2 i c) = spE (z (o + c.val)))
    (hL : ∀ c : Fin 256, k0_pay31 (F := Ideal) M x y (ix2 i c) =
      ∑ j ∈ Finset.Ico (o + if c.val < 128 then c.val + 1 else 0) (o + 128), S j)
    (hR : ∀ c : Fin 256, R (ix2 i c) =
      ∑ j ∈ Finset.Ico (o + 128 + if c.val < 128 then c.val + 1 else 0) (o + 256), S j)
    (hv : ∀ c : Fin 256, v (ix3 0 c d) = V (o + c.val)) :
    k0_pay33 (F := Ideal) M k0_pay20 k0_pay21 b zz ss R x y v (ix2 i d) =
      ∑ j ∈ Finset.Ico o (o + 256), if j < o + i.val then
          wE (z j) (∑ l ∈ Finset.Ico (j + 1) (o + 256), S l) * V j else 0 := by
  have hi := i.isLt
  have h0 : ∀ c, k0_pay20 (F := Ideal) (ix2 i c) = (0 : EReal) := fun c => by pointwise [k0_pay20]
  have h1 : ∀ c, k0_pay21 (F := Ideal) (ix2 i c) = (0 : EReal) := fun c => by pointwise [k0_pay21]
  subst hb
  pointwise [k0_pay33, k0_pay32, k0_pay22]
  have hlt : ∀ x : Fin 128, x.val < 256 := fun x => by omega
  have hlt' : ∀ x : Fin 128, 128 + x.val < 256 := fun x => by omega
  simp only [h0, h1, hz, hv, hs, hL, hR, sel_slt _ _ _ _ (hlt _) hi, sel_slt _ _ _ _ (hlt' _) hi]
  rw [← sum_tile, zero_add]
  congr 1
  · refine Finset.sum_congr rfl fun x _ => ?_
    have hx := x.isLt
    by_cases h : x.val < i.val
    · rw [if_pos h, if_pos (show o + x.val < o + i.val by omega), if_neg (show ¬ 128 + x.val < 128 by omega), if_pos hx,
        Ico_split _ (show o + x.val + 1 ≤ o + 128 by omega) (show o + 128 ≤ o + 256 by omega)]
      unfold wE
      congr 3
      simp only [Nat.add_zero, Nat.add_assoc, zero_add]
      ac_rfl
    · rw [if_neg h, if_neg (show ¬ o + x.val < o + i.val by omega)]
  · refine Finset.sum_congr rfl fun x _ => ?_
    have hx := x.isLt
    by_cases h : 128 + x.val < i.val
    · rw [if_pos h, if_pos (show o + (128 + x.val) < o + i.val by omega), if_pos hx]
      unfold wE
      congr 3
      simp only [Nat.add_assoc, zero_add]
    · rw [if_neg h, if_neg (show ¬ o + (128 + x.val) < o + i.val by omega)]

theorem accDiag_row (V : ℕ → EReal) (d : Fin 128)
    (hz : ∀ c : Fin 256, k0_pay224 (F := Ideal) q k (ix2 i c) = z (o + c.val))
    (hv : ∀ c : Fin 256, v (ix3 0 c d) = V (o + c.val)) :
    accDiag (F := Ideal) q k v (ix2 i d) =
      ∑ j ∈ Finset.Ico o (o + i.val), wE (z j) (∑ l ∈ Finset.Ico (j + 1) (o + i.val), lr (z l)) * V j := by
  have hi := i.isLt
  unfold accDiag
  rw [pay33_row v i o z k0_pay10 k0_pay22 (k0_pay23 q k) (k0_pay24 q k) (k0_pay28 k0_pay10 q k) (k0_pay29 q k) (k0_pay30 q k)
    (fun j => -spm z (o + i.val) j) V d rfl hz (sp_row q k i o z hz) (leftm_row q k i o z hz) (rightm_row q k i o z hz) hv]
  rw [← Finset.sum_filter]
  refine Finset.sum_congr ?_ fun j _ => ?_
  · ext x
    simp only [Finset.mem_filter, Finset.mem_Ico]
    omega
  · rw [sum_spm _ _ _ _ (by omega)]

end Row

end Cert.Proof.SB
end
-- ==== Proof.SB.Sum.lean ====
module

public import proofs.«01_k».proof.Proof.SB.Tile

@[expose] public section

set_option maxRecDepth 16384

noncomputable section

namespace Cert.Proof.SB

open Cert.KernelIdeal Cert.KernelIdeal.Gen
open Idealize.ShloMosaic

/-- The scale of the queries: `1 / (√128 · log 2)`. -/
def qc : ℝ := (Real.sqrt 128)⁻¹ * (Real.log 2)⁻¹

section

variable (Q : Fin 8 → Fin 256 → Fin 128 → EReal) (K V : Fin 8 → ℕ → Fin 128 → EReal)

/-- A score, in base two. -/
def zz (s : Fin 8) (i : Fin 256) (j : ℕ) : EReal := ∑ d, Q s i d * (qc : EReal) * K s j d

/-- The weight of key `j` for the row `i` of query tile `n`. -/
def ww (n : ℕ) (s : Fin 8) (i : Fin 256) (j : ℕ) : EReal :=
  wE (zz Q K s i j) (∑ l ∈ Finset.Ico (j + 1) (256 * n + i.val), lr (zz Q K s i l))

/-- The loop's state when the tiles from number `m` on are done. -/
structure Inv (n m : ℕ) (st : LS Ideal) : Prop where
  run : ∀ s i c, st.run s (ix2 i c) = ∑ j ∈ Finset.Ico (256 * m) (256 * n + i.val), lr (zz Q K s i j)
  acc : ∀ s i d, st.acc s (ix2 i d) = ∑ j ∈ Finset.Ico (256 * m) (256 * n + i.val), ww Q K n s i j * V s j d
  top : ¬ ⊥ < (st.top : EReal) → ∀ s i c, st.run s (ix2 i c) = (⊥ : EReal)

variable (x0 : Vec Ideal S4x256x256 .bf16) (x1 x2 : Vec Ideal S4x4096x256 .bf16)

variable (hq : ∀ s i d, qslab (F := Ideal) x0 s (ix3 0 i d) = Q s i d)
  (hk : ∀ s o (c : Fin 256) d, o + 256 ≤ 4096 → slab (F := Ideal) x1 s o (ix3 0 c d) = K s (o + c.val) d)
  (hv : ∀ s o (c : Fin 256) d, o + 256 ≤ 4096 → slab (F := Ideal) x2 s o (ix3 0 c d) = V s (o + c.val) d)

include hq hk in
theorem z_row (s : Fin 8) (i : Fin 256) (o : ℕ) (ho : o + 256 ≤ 4096) (c : Fin 256) :
    k0_pay224 (F := Ideal) (qs x0 s) (slab x1 s o) (ix2 i c) = zz Q K s i (o + c.val) := by
  pointwise [k0_pay224]
  have h : ∀ x, qs (F := Ideal) x0 s (ix2 i x) = Q s i x * (qc : EReal) := fun x => by
    pointwise [qs, k0_pay11]
    rw [hq, q_scale_eq]
    rfl
  simp only [h, hk _ _ _ _ ho]
  rfl

/-- The bound on what is left bounds every row. -/
theorem le_top (run : Fin 8 → RV Ideal) (s : Fin 8) (i : Fin 256) (c : Fin 128) :
    (run s (ix2 i c) : EReal) ≤ topOf (F := Ideal) run := by
  have h1 : (run s (ix2 i c) : EReal) ≤ rmax (F := Ideal) (run s) := by
    pointwise [rmax, k0_pay305]
    rw [Finset.le_fold_max]
    exact Or.inr ⟨(i, c), Finset.mem_univ _, le_rfl⟩
  refine h1.trans ?_
  have h3 : k0_pay311 (F := Ideal) (run 0) (run 1) = (max (rmax (F := Ideal) (run 0) : EReal) (rmax (F := Ideal) (run 1)) : EReal) := rfl
  have h4 : ∀ a b c d e f g : EReal, k0_pay2 (F := Ideal) a b c d e f g =
      max (max (max (max (max (max g a) b) c) d) e) f := fun _ _ _ _ _ _ _ => rfl
  unfold topOf
  rw [h4, h3]
  simp only [le_max_iff]
  fin_cases s
  · exact Or.inl (Or.inl (Or.inl (Or.inl (Or.inl (Or.inl (Or.inl le_rfl))))))
  · exact Or.inl (Or.inl (Or.inl (Or.inl (Or.inl (Or.inl (Or.inr le_rfl))))))
  · exact Or.inl (Or.inl (Or.inl (Or.inl (Or.inl (Or.inr le_rfl)))))
  · exact Or.inl (Or.inl (Or.inl (Or.inl (Or.inr le_rfl))))
  · exact Or.inl (Or.inl (Or.inl (Or.inr le_rfl)))
  · exact Or.inl (Or.inl (Or.inr le_rfl))
  · exact Or.inl (Or.inr le_rfl)
  · exact Or.inr le_rfl

include hq hk hv in
theorem step_inv (n m : ℕ) (hm : m < n) (hn : n < 16) (st : LS Ideal) (h : Inv Q K V n (m + 1) st) :
    Inv Q K V n m (lstep (qs x0) x1 x2 m st) := by
  have ho : 256 * m + 256 ≤ 4096 := by omega
  have hr : ∀ s i c, runStep (F := Ideal) (qs x0 s) (slab x1 s (256 * m)) (st.run s) (ix2 i c) =
      ∑ j ∈ Finset.Ico (256 * m) (256 * n + i.val), lr (zz Q K s i j) := fun s i c => by
    rw [runStep_row (qs x0 s) (slab x1 s (256 * m)) (st.run s) i (256 * m) (zz Q K s i)
      (z_row Q K x0 x1 hq hk s i (256 * m) ho) _ (h.run s i) c,
      Ico_split _ (show 256 * m ≤ 256 * m + 256 by omega) (show 256 * m + 256 ≤ 256 * n + i.val by omega),
      show 256 * (m + 1) = 256 * m + 256 by omega]
  refine ⟨hr, fun s i d => ?_, fun ht s i c => ?_⟩
  · refine (accStep_row (qs x0 s) (slab x1 s (256 * m)) (slab x2 s (256 * m)) (st.run s) (st.acc s) i (256 * m) (zz Q K s i)
      (z_row Q K x0 x1 hq hk s i (256 * m) ho) _ (fun j => V s j d) d (h.run s i) (fun c => hv s _ c d ho)).trans ?_
    rw [h.acc s i d, Ico_split _ (show 256 * m ≤ 256 * m + 256 by omega) (show 256 * m + 256 ≤ 256 * n + i.val by omega),
      show 256 * (m + 1) = 256 * m + 256 by omega, add_comm]
    congr 1
    refine Finset.sum_congr rfl fun j hj => ?_
    have hj := Finset.mem_Ico.mp hj
    unfold ww
    rw [Ico_split _ (show j + 1 ≤ 256 * m + 256 by omega) (show 256 * m + 256 ≤ 256 * n + i.val by omega)]
  · have h1 := le_top (fun s => runStep (F := Ideal) (qs x0 s) (slab x1 s (256 * m)) (st.run s)) s i c
    rw [not_lt, le_bot_iff] at ht
    exact le_bot_iff.mp (h1.trans (le_of_eq ht))

include hq hk hv in
theorem lrun_acc (n m : ℕ) (hm : m ≤ n) (hn : n < 16) (st : LS Ideal) (h : Inv Q K V n m st) (s : Fin 8) (i : Fin 256) (d : Fin 128) :
    (lrun (qs x0) x1 x2 m st).acc s (ix2 i d) = ∑ j ∈ Finset.Ico 0 (256 * n + i.val), ww Q K n s i j * V s j d := by
  induction m generalizing st with
  | zero => exact h.acc s i d
  | succ m ih =>
    by_cases hb : ⊥ < (st.top : EReal)
    · have ht : Scalar.cmpf (F := Ideal) .ogt st.top (Named.named (F := Ideal) κ "exp2_zero_below" 0xC3180000#32) = 1#1 := by
        rw [exp2_zero_below_eq]
        show Ideal.cmp .ogt st.top ⊥ = 1#1
        simp [Ideal.cmp, hb]
      show LS.acc (if _ then _ else _) s (ix2 i d) = _
      rw [if_pos ht]
      exact ih (by omega) _ (step_inv Q K V x0 x1 x2 hq hk hv n m (by omega) hn st h)
    · have ht : ¬ Scalar.cmpf (F := Ideal) .ogt st.top (Named.named (F := Ideal) κ "exp2_zero_below" 0xC3180000#32) = 1#1 := by
        rw [exp2_zero_below_eq]
        show ¬ Ideal.cmp .ogt st.top ⊥ = 1#1
        simp [Ideal.cmp, hb]
      show LS.acc (if _ then _ else _) s (ix2 i d) = _
      rw [if_neg ht, h.acc s i d,
        Ico_split _ (show 0 ≤ 256 * (m + 1) by omega) (show 256 * (m + 1) ≤ 256 * n + i.val by omega)]
      have hrun := h.top hb s i 0
      rw [h.run s i 0] at hrun
      have hz : ∑ j ∈ Finset.Ico 0 (256 * (m + 1)), ww Q K n s i j * V s j d = 0 := Finset.sum_eq_zero fun j hj => by
        have hj := (Finset.mem_Ico.mp hj).2
        unfold ww
        rw [Ico_split _ (show j + 1 ≤ 256 * (m + 1) by omega) (show 256 * (m + 1) ≤ 256 * n + i.val by omega), hrun, EReal.add_bot,
          wE_bot, zero_mul]
      rw [hz, zero_add]

theorem np_zero : k0_pay19 (F := Ideal) (BitVec.ofNat 32 0) = (⊥ : EReal) := by
  pointwise [k0_pay19]
  rw [show Scalar.cmpi CmpIPredicate.sgt (BitVec.ofNat 32 0) 0#32 = 0#1 from by decide, no_prev_eq]
  rfl

theorem np_pos (n : ℕ) (h : 0 < n) (hn : n < 16) : k0_pay19 (F := Ideal) (BitVec.ofNat 32 n) = (0 : EReal) := by
  have h1 : ∀ n : Fin 16, 0 < n.val → Scalar.cmpi CmpIPredicate.sgt (BitVec.ofNat 32 n.val) 0#32 = 1#1 := by decide
  pointwise [k0_pay19]
  rw [h1 ⟨n, hn⟩ h]
  rfl

include hq hk hv in
/-- The accumulators at the end. -/
theorem final_acc (n : ℕ) (hn : n < 16) (s : Fin 8) (i : Fin 256) (d : Fin 128) :
    (final (F := Ideal) x0 x1 x2 n).acc s (ix2 i d) = ∑ j ∈ Finset.Ico 0 (256 * n + i.val), ww Q K n s i j * V s j d := by
  have hd : ∀ s i d, accDiag (F := Ideal) (qs x0 s) (slab x1 s (256 * n)) (slab x2 s (256 * n)) (ix2 i d) =
      ∑ j ∈ Finset.Ico (256 * n) (256 * n + i.val), ww Q K n s i j * V s j d := fun s i d =>
    accDiag_row (qs x0 s) (slab x1 s (256 * n)) (slab x2 s (256 * n)) i (256 * n) (zz Q K s i) (fun j => V s j d) d
      (z_row Q K x0 x1 hq hk s i (256 * n) (by omega)) (fun c => hv s _ c d (by omega))
  have hrd : ∀ np s i c, runDiag (F := Ideal) (qs x0 s) (slab x1 s (256 * n)) np (ix2 i c) =
      (∑ j ∈ Finset.Ico (256 * n) (256 * n + i.val), lr (zz Q K s i j)) + np := fun np s i c =>
    runDiag_row (qs x0 s) (slab x1 s (256 * n)) i (256 * n) (zz Q K s i)
      (z_row Q K x0 x1 hq hk s i (256 * n) (by omega)) np c
  rcases Nat.eq_zero_or_pos n with h0 | h0
  · subst h0
    show (start (F := Ideal) x0 x1 x2 0).acc s (ix2 i d) = _
    unfold start startK
    refine (accStep_bot _ _ _ _ _ i d fun c => ?_).trans (hd s i d)
    rw [hrd, np_zero, EReal.add_bot]
  · have hp : 256 * n = 256 * (n - 1) + 256 := by omega
    have hst : Inv Q K V n (n - 1) (start (F := Ideal) x0 x1 x2 n) := by
      have h1 : Inv Q K V n (n - 1 + 1) (⟨0, fun s => runDiag (F := Ideal) (qs x0 s) (slab x1 s (256 * n)) (k0_pay19 (BitVec.ofNat 32 n)),
          fun s => accDiag (F := Ideal) (qs x0 s) (slab x1 s (256 * n)) (slab x2 s (256 * n)), ((0 : ℝ) : EReal)⟩ : LS Ideal) := by
        rw [Nat.sub_add_cancel h0]
        refine ⟨fun s i c => ?_, hd, fun ht => absurd (EReal.bot_lt_coe 0) ht⟩
        refine (hrd _ s i c).trans ?_
        rw [np_pos n h0 hn, add_zero]
      have h2 := step_inv Q K V x0 x1 x2 hq hk hv n (n - 1) (by omega) hn _ h1
      exact ⟨h2.run, h2.acc, h2.top⟩
    exact lrun_acc Q K V x0 x1 x2 hq hk hv n (n - 1) (by omega) hn _ hst s i d

end

end Cert.Proof.SB
end
-- ==== Proof.SB.Value.lean ====
/-
  What the attention's program leaves in its result arrays, over the ideal floats.
-/
module

public import proofs.«01_k».proof.Proof.SB.Run
public import proofs.«01_k».proof.Proof.SB.Sum
public import Idealize.ShloMosaic.Lib.Pipeline.ValueKit

@[expose] public section

set_option maxRecDepth 16384

noncomputable section

namespace Cert.Proof.SB

open Cert.KernelIdeal Cert.KernelIdeal.Gen
open Idealize.ShloMosaic
open Idealize.ShloMosaic.TcCoe Idealize.ShloMosaic.Tactic
open Idealize.ShloMosaic.Pipeline (Dat Cfg Window)

/-- The arguments after the run. -/
theorem kept (m : (ℓ : Loc nD τ sig) → Buf (Elt Ideal) ℓ) (r : PUnit × MemSt nD τ sig (Elt Ideal))
    (h : Pipeline.FramePost (cfgs (F := Ideal)) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (fun w => (by decide : ∀ w : Fin 18, (spec0 w).arr.view.ref ≠ main_arg0) w))).trans (V_main_arg0 m c),
    ((h c).1 3).trans (((dats m 0 c).arrAt_in 3 rfl _).trans ((A_eq m c 3).trans (V_main_arg1 m c))),
    ((h c).1 4).trans (((dats m 0 c).arrAt_in 4 rfl _).trans ((A_eq m c 4).trans (V_main_arg2 m c))),
    ((h c).1 5).trans (((dats m 0 c).arrAt_in 5 rfl _).trans ((A_eq m c 5).trans (V_main_arg3 m c))),
    ((h c).1 6).trans (((dats m 0 c).arrAt_in 6 rfl _).trans ((A_eq m c 6).trans (V_main_arg4 m c))),
    ((h c).1 7).trans (((dats m 0 c).arrAt_in 7 rfl _).trans ((A_eq m c 7).trans (V_main_arg5 m c))),
    ((h c).1 8).trans (((dats m 0 c).arrAt_in 8 rfl _).trans ((A_eq m c 8).trans (V_main_arg6 m c))),
    ((h c).1 9).trans (((dats m 0 c).arrAt_in 9 rfl _).trans ((A_eq m c 9).trans (V_main_arg7 m c)))⟩

/-! ## Index maps -/

theorem idx_in : ∀ t : Fin grid0.N,
    win0_0.index t = ![(grid0.coords t 1).val, (grid0.coords t 2).val, 16 + (grid0.coords t 0).val]
    ∧ win0_1.index t = ![(grid0.coords t 1).val, 0, 20 + (grid0.coords t 0).val]
    ∧ win0_2.index t = ![(grid0.coords t 1).val, 0, 24 + (grid0.coords t 0).val]
    ∧ win0_10.index t = ![(grid0.coords t 1).val, (grid0.coords t 2).val, (grid0.coords t 0).val]
    ∧ (grid0.coords t 1).val = 0 := by decide +kernel

theorem idx_w1 : ∀ t : Fin grid0.N,
    win0_3.index t = ![0, t.val, 0] ∧ win0_11.index t = ![t.val, 0]
    ∧ win0_4.index t = ![0, t.val, 0] ∧ win0_12.index t = ![t.val, 0] := by decide +kernel
theorem idx_w2 : ∀ t : Fin grid0.N,
    win0_5.index t = ![0, t.val, 0] ∧ win0_13.index t = ![t.val, 0]
    ∧ win0_6.index t = ![0, t.val, 0] ∧ win0_14.index t = ![t.val, 0]
    ∧ win0_7.index t = ![0, t.val, 0] ∧ win0_15.index t = ![t.val, 0] := by decide +kernel
theorem idx_w3 : ∀ t : Fin grid0.N,
    win0_8.index t = ![0, t.val, 0] ∧ win0_16.index t = ![t.val, 0]
    ∧ win0_9.index t = ![1, t.val, 0] ∧ win0_17.index t = ![t.val, 0] := by decide +kernel

variable (m : (ℓ : Loc nD τ sig) → Buf (Elt Ideal) ℓ) (c : Dev nD)

theorem arr11 (G : Vec Ideal S2048x5632 .bf16)
    (hG : ∀ (a : Fin 2048) (b : Fin 5632), G (ix2 a b) = (m ((c.tc : Thread nD τ).loc main_arg1) : Vec Ideal S2x2048x5632 .f32) (ix3 0 a b)) :
    (dats (F := Ideal) m 0 c).arrAt 11 (cfg0 (F := Ideal)).N = G := by
  refine (dats (F := Ideal) m 0 c).arrAt_eq_of_covers 11 _ (by decide +kernel) fun t hf y => ?_
  blk_simp
  rw [after0_11]
  obtain ⟨y0, y1, rfl⟩ : ∃ a b, y = ix2 a b := ⟨y 0, y 1, by funext i; fin_cases i <;> rfl⟩
  unfold outsAt0
  dsimp only
  pointwise [k0_pay3]
  have ht : t.val < 64 := t.isLt
  have he : ((View.whole main_v1_1).slice (win0_11.rect t)).emb (ix2 y0 y1) = ix2 ⟨32 * t.val + y0.val, by omega⟩ y1 := by
    blk_ext [(idx_w1 t).2.1]
  rw [he, hG]
  blk_ext [iblk, V, (idx_w1 t).1]

theorem arr12 (G : Vec Ideal S2048x5632 .bf16)
    (hG : ∀ (a : Fin 2048) (b : Fin 5632), G (ix2 a b) = (m ((c.tc : Thread nD τ).loc main_arg2) : Vec Ideal S2x2048x5632 .f32) (ix3 0 a b)) :
    (dats (F := Ideal) m 0 c).arrAt 12 (cfg0 (F := Ideal)).N = G := by
  refine (dats (F := Ideal) m 0 c).arrAt_eq_of_covers 12 _ (by decide +kernel) fun t hf y => ?_
  blk_simp
  rw [after0_12]
  obtain ⟨y0, y1, rfl⟩ : ∃ a b, y = ix2 a b := ⟨y 0, y 1, by funext i; fin_cases i <;> rfl⟩
  unfold outsAt0
  dsimp only
  pointwise [k0_pay4]
  have ht : t.val < 64 := t.isLt
  have he : ((View.whole main_v1_2).slice (win0_12.rect t)).emb (ix2 y0 y1) = ix2 ⟨32 * t.val + y0.val, by omega⟩ y1 := by
    blk_ext [(idx_w1 t).2.2.2]
  rw [he, hG]
  blk_ext [iblk, V, (idx_w1 t).2.2.1]

theorem arr13 (G : Vec Ideal S1024x2048 .bf16)
    (hG : ∀ (a : Fin 1024) (b : Fin 2048), G (ix2 a b) = (m ((c.tc : Thread nD τ).loc main_arg3) : Vec Ideal S2x1024x2048 .f32) (ix3 0 a b)) :
    (dats (F := Ideal) m 0 c).arrAt 13 (cfg0 (F := Ideal)).N = G := by
  refine (dats (F := Ideal) m 0 c).arrAt_eq_of_covers 13 _ (by decide +kernel) fun t hf y => ?_
  blk_simp
  rw [after0_13]
  obtain ⟨y0, y1, rfl⟩ : ∃ a b, y = ix2 a b := ⟨y 0, y 1, by funext i; fin_cases i <;> rfl⟩
  unfold outsAt0
  dsimp only
  pointwise [k0_pay5]
  have ht : t.val < 64 := t.isLt
  have he : ((View.whole main_v1_3).slice (win0_13.rect t)).emb (ix2 y0 y1) = ix2 ⟨16 * t.val + y0.val, by omega⟩ y1 := by
    blk_ext [(idx_w2 t).2.1]
  rw [he, hG]
  blk_ext [iblk, V, (idx_w2 t).1]

theorem arr14 (G : Vec Ideal S1024x2048 .bf16)
    (hG : ∀ (a : Fin 1024) (b : Fin 2048), G (ix2 a b) = (m ((c.tc : Thread nD τ).loc main_arg4) : Vec Ideal S2x1024x2048 .f32) (ix3 0 a b)) :
    (dats (F := Ideal) m 0 c).arrAt 14 (cfg0 (F := Ideal)).N = G := by
  refine (dats (F := Ideal) m 0 c).arrAt_eq_of_covers 14 _ (by decide +kernel) fun t hf y => ?_
  blk_simp
  rw [after0_14]
  obtain ⟨y0, y1, rfl⟩ : ∃ a b, y = ix2 a b := ⟨y 0, y 1, by funext i; fin_cases i <;> rfl⟩
  unfold outsAt0
  dsimp only
  pointwise [k0_pay6]
  have ht : t.val < 64 := t.isLt
  have he : ((View.whole main_v1_4).slice (win0_14.rect t)).emb (ix2 y0 y1) = ix2 ⟨16 * t.val + y0.val, by omega⟩ y1 := by
    blk_ext [(idx_w2 t).2.2.2.1]
  rw [he, hG]
  blk_ext [iblk, V, (idx_w2 t).2.2.1]

theorem arr15 (G : Vec Ideal S1024x2048 .bf16)
    (hG : ∀ (a : Fin 1024) (b : Fin 2048), G (ix2 a b) = (m ((c.tc : Thread nD τ).loc main_arg5) : Vec Ideal S2x1024x2048 .f32) (ix3 0 a b)) :
    (dats (F := Ideal) m 0 c).arrAt 15 (cfg0 (F := Ideal)).N = G := by
  refine (dats (F := Ideal) m 0 c).arrAt_eq_of_covers 15 _ (by decide +kernel) fun t hf y => ?_
  blk_simp
  rw [after0_15]
  obtain ⟨y0, y1, rfl⟩ : ∃ a b, y = ix2 a b := ⟨y 0, y 1, by funext i; fin_cases i <;> rfl⟩
  unfold outsAt0
  dsimp only
  pointwise [k0_pay7]
  have ht : t.val < 64 := t.isLt
  have he : ((View.whole main_v1_5).slice (win0_15.rect t)).emb (ix2 y0 y1) = ix2 ⟨16 * t.val + y0.val, by omega⟩ y1 := by
    blk_ext [(idx_w2 t).2.2.2.2.2]
  rw [he, hG]
  blk_ext [iblk, V, (idx_w2 t).2.2.2.2.1]

theorem arr16 (G : Vec Ideal S2048x2048 .bf16)
    (hG : ∀ (a : Fin 2048) (b : Fin 2048), G (ix2 a b) = (m ((c.tc : Thread nD τ).loc main_arg6) : Vec Ideal S2x2048x2048 .f32) (ix3 0 a b)) :
    (dats (F := Ideal) m 0 c).arrAt 16 (cfg0 (F := Ideal)).N = G := by
  refine (dats (F := Ideal) m 0 c).arrAt_eq_of_covers 16 _ (by decide +kernel) fun t hf y => ?_
  blk_simp
  rw [after0_16]
  obtain ⟨y0, y1, rfl⟩ : ∃ a b, y = ix2 a b := ⟨y 0, y 1, by funext i; fin_cases i <;> rfl⟩
  unfold outsAt0
  dsimp only
  pointwise [k0_pay8]
  have ht : t.val < 64 := t.isLt
  have he : ((View.whole main_v1_6).slice (win0_16.rect t)).emb (ix2 y0 y1) = ix2 ⟨32 * t.val + y0.val, by omega⟩ y1 := by
    blk_ext [(idx_w3 t).2.1]
  rw [he, hG]
  blk_ext [iblk, V, (idx_w3 t).1]

theorem arr17 (G : Vec Ideal S2048x13312 .bf16)
    (hG : ∀ (a : Fin 2048) (b : Fin 13312), G (ix2 a b) = (m ((c.tc : Thread nD τ).loc main_arg7) : Vec Ideal S2x2048x13312 .f32) (ix3 1 a b)) :
    (dats (F := Ideal) m 0 c).arrAt 17 (cfg0 (F := Ideal)).N = G := by
  refine (dats (F := Ideal) m 0 c).arrAt_eq_of_covers 17 _ (by decide +kernel) fun t hf y => ?_
  blk_simp
  rw [after0_17]
  obtain ⟨y0, y1, rfl⟩ : ∃ a b, y = ix2 a b := ⟨y 0, y 1, by funext i; fin_cases i <;> rfl⟩
  unfold outsAt0
  dsimp only
  pointwise [k0_pay9]
  have ht : t.val < 64 := t.isLt
  have he : ((View.whole main_v1_7).slice (win0_17.rect t)).emb (ix2 y0 y1) = ix2 ⟨32 * t.val + y0.val, by omega⟩ y1 := by
    blk_ext [(idx_w3 t).2.2.2]
  rw [he, hG]
  blk_ext [iblk, V, (idx_w3 t).2.2.1]

theorem outA_apply (x0 : Vec Ideal S4x256x256 .bf16) (x1 x2 : Vec Ideal S4x4096x256 .bf16) (n : ℕ) (y0 : Fin 4) (y1 y2 : Fin 256) :
    outA (F := Ideal) x0 x1 x2 n (ix3 y0 y1 y2) =
      (final (F := Ideal) x0 x1 x2 n).acc ⟨2 * y0.val + y2.val / 128, by omega⟩ (ix2 y1 ⟨y2.val % 128, Nat.mod_lt _ (by decide)⟩) := by
  show k0_pay216 ((final (F := Ideal) x0 x1 x2 n).acc ⟨2 * y0.val + y2.val / 128, by omega⟩)
    (ValueIdx.ix3 0 y1 ⟨y2.val % 128, Nat.mod_lt _ (by decide)⟩) = _
  rw [← ix3_eq_valueIdx]
  generalize (final (F := Ideal) x0 x1 x2 n).acc ⟨2 * y0.val + y2.val / 128, by omega⟩ = X
  pointwise [k0_pay216]

/-- The attention's array: `a` is the first operand's entry. -/
theorem arr10 (a : ℕ → ℕ → EReal)
    (hA : ∀ (r : Fin 16384) (k : Fin 13312), (m ((c.tc : Thread nD τ).loc main_arg0) : Vec Ideal S16384x13312 .bf16) (ix2 r k) = a r.val k.val)
    (G : Vec Ideal S4x4096x1024 .bf16)
    (hG : ∀ (b : Fin 4) (t : Fin 4096) (j : Fin 1024) (y : ℕ → EReal),
      (∀ s, s < 4096 → y s = ∑ d : Fin 128, a (4096 * b.val + t.val) (4096 + 128 * (j.val / 128) + d.val) * (qc : EReal) *
        a (4096 * b.val + s) (5120 + 128 * (j.val / 128) + d.val)) →
      G (ix3 b t j) = ∑ s ∈ Finset.Ico 0 t.val,
        wE (y s) (∑ l ∈ Finset.Ico (s + 1) t.val, lr (y l)) * a (4096 * b.val + s) (6144 + j.val)) :
    (dats (F := Ideal) m 0 c).arrAt 10 (cfg0 (F := Ideal)).N = G := by
  have hV : ∀ (b : Fin 4) (t : Fin 4096) (k : Fin 13312), (V (F := Ideal) m c main_v0 : Vec Ideal S4x4096x13312 .bf16) (ix3 b t k) =
      a (4096 * b.val + t.val) k.val := fun b t k => by
    rw [show a (4096 * b.val + t.val) k.val = a (⟨4096 * b.val + t.val, by omega⟩ : Fin 16384).val k.val from rfl, ← hA]
    entry_read
    pointwise
    simp only [Nat.mul_comm b.val 4096]
  refine (dats (F := Ideal) m 0 c).arrAt_eq_of_covers 10 _ (by decide +kernel) fun t hf y => ?_
  blk_simp
  rw [after0_10]
  obtain ⟨y0, y1, y2, rfl⟩ : ∃ a b d, y = ix3 a b d := ⟨y 0, y 1, y 2, by funext i; fin_cases i <;> rfl⟩
  unfold outsAt0
  dsimp only
  obtain ⟨i0, i1, i2, i10, hz⟩ := idx_in t
  have h0 : (grid0.coords t 0).val < 4 := (grid0.coords t 0).isLt
  have h2 : (grid0.coords t 2).val < 16 := (grid0.coords t 2).isLt
  generalize hh : (grid0.coords t 0).val = h at *
  generalize hn : (grid0.coords t 2).val = n at *
  have he : ((View.whole main_v1_0).slice (win0_10.rect t)).emb (ix3 y0 y1 y2) =
      ix3 y0 ⟨256 * n + y1.val, by omega⟩ ⟨256 * h + y2.val, by omega⟩ := by
    blk_ext [i10]
  rw [he]
  let Q : Fin 8 → Fin 256 → Fin 128 → EReal := fun s i d => a (4096 * (s.val / 2) + (256 * n + i.val)) (4096 + 256 * h + 128 * (s.val % 2) + d.val)
  let K : Fin 8 → ℕ → Fin 128 → EReal := fun s j d => a (4096 * (s.val / 2) + j) (5120 + 256 * h + 128 * (s.val % 2) + d.val)
  let U : Fin 8 → ℕ → Fin 128 → EReal := fun s j d => a (4096 * (s.val / 2) + j) (6144 + 256 * h + 128 * (s.val % 2) + d.val)
  have e0 : ∀ (b : Fin 4) (i : Fin 256) (k : Fin 256), (iblk (F := Ideal) m c 0 t : Vec Ideal S4x256x256 .bf16) (ix3 b i k) =
      a (4096 * b.val + (256 * n + i.val)) (4096 + 256 * h + k.val) := fun b i k => by
    refine Eq.trans ?_ (hV b ⟨256 * n + i.val, by omega⟩ ⟨4096 + 256 * h + k.val, by omega⟩)
    blk_ext [iblk, i0]
  have e1 : ∀ (b : Fin 4) (i : Fin 4096) (k : Fin 256), (iblk (F := Ideal) m c 1 t : Vec Ideal S4x4096x256 .bf16) (ix3 b i k) =
      a (4096 * b.val + i.val) (5120 + 256 * h + k.val) := fun b i k => by
    refine Eq.trans ?_ (hV b i ⟨5120 + 256 * h + k.val, by omega⟩)
    blk_ext [iblk, i1]
  have e2 : ∀ (b : Fin 4) (i : Fin 4096) (k : Fin 256), (iblk (F := Ideal) m c 2 t : Vec Ideal S4x4096x256 .bf16) (ix3 b i k) =
      a (4096 * b.val + i.val) (6144 + 256 * h + k.val) := fun b i k => by
    refine Eq.trans ?_ (hV b i ⟨6144 + 256 * h + k.val, by omega⟩)
    blk_ext [iblk, i2]
  have hq : ∀ s i d, qslab (F := Ideal) (iblk (F := Ideal) m c 0 t) s (ix3 0 i d) = Q s i d := fun s i d => by
    refine (Eq.trans (congrArg _ (ix3_eq_valueIdx _ _ _).symm) (e0 ⟨s.val / 2, by omega⟩ i ⟨128 * (s.val % 2) + d.val, by omega⟩)).trans ?_
    show _ = a _ _
    congr 1
    dsimp only
    omega
  have hs : ∀ (x : Vec Ideal S4x4096x256 .bf16) (C : ℕ)
      (hx : ∀ (b : Fin 4) (i : Fin 4096) (k : Fin 256), x (ix3 b i k) = a (4096 * b.val + i.val) (C + 256 * h + k.val))
      (s : Fin 8) (o : ℕ) (i : Fin 256) (d : Fin 128), o + 256 ≤ 4096 →
      slab (F := Ideal) x s o (ix3 0 i d) = a (4096 * (s.val / 2) + (o + i.val)) (C + 256 * h + 128 * (s.val % 2) + d.val) :=
    fun x C hx s o i d ho => by
    refine (Eq.trans (congrArg _ (ix3_eq_valueIdx _ _ _).symm)
      (hx ⟨s.val / 2, by omega⟩ ⟨(o + i.val) % 4096, Nat.mod_lt _ (by decide)⟩ ⟨128 * (s.val % 2) + d.val, by omega⟩)).trans ?_
    have e : (o + i.val) % 4096 = o + i.val := Nat.mod_eq_of_lt (by omega)
    dsimp only
    rw [e]
    congr 1
    omega
  have key := final_acc Q K U (iblk (F := Ideal) m c 0 t) (iblk (F := Ideal) m c 1 t) (iblk (F := Ideal) m c 2 t) hq
    (fun s o i d ho => hs _ 5120 e1 s o i d ho) (fun s o i d ho => hs _ 6144 e2 s o i d ho) n h2
    ⟨2 * y0.val + y2.val / 128, by omega⟩ y1 ⟨y2.val % 128, Nat.mod_lt _ (by decide)⟩
  refine (outA_apply _ _ _ n y0 y1 y2).trans (key.trans ?_)
  have E1 : (2 * y0.val + y2.val / 128) / 2 = y0.val := by omega
  have E2 : (2 * y0.val + y2.val / 128) % 2 = y2.val / 128 := by omega
  have E3 : (256 * h + y2.val) / 128 = 2 * h + y2.val / 128 := by omega
  refine Eq.symm ((hG y0 ⟨256 * n + y1.val, by omega⟩ ⟨256 * h + y2.val, by omega⟩
    (zz Q K ⟨2 * y0.val + y2.val / 128, by omega⟩ y1) ?_).trans ?_)
  · intro s hs
    unfold zz
    refine Finset.sum_congr rfl fun d _ => ?_
    dsimp only [Q, K]
    rw [E1, E2, E3, show 4096 + 128 * (2 * h + y2.val / 128) = 4096 + 256 * h + 128 * (y2.val / 128) by omega,
      show 5120 + 128 * (2 * h + y2.val / 128) = 5120 + 256 * h + 128 * (y2.val / 128) by omega]
  · refine Finset.sum_congr rfl fun s _ => ?_
    dsimp only [U, ww]
    rw [E1, E2, show 6144 + (256 * h + y2.val) = 6144 + 256 * h + 128 * (y2.val / 128) + y2.val % 128 by omega]

end Cert.Proof.SB

end
-- ==== Proof.SB.Ref.lean ====
module

public import proofs.«01_k».proof.Proof.Gen.ReferenceIdeal.Run
public import proofs.«01_k».proof.Proof.SB.Sum
public import Idealize.ShloMosaic.Lib.Tactic.CleanTypes

@[expose] public section

set_option maxRecDepth 16384

noncomputable section

namespace Cert.Proof.SB.Ref

open Cert.ReferenceIdeal Cert.ReferenceIdeal.Gen
open Idealize.ShloMosaic Idealize.ShloMosaic.TcCoe

/-! ## The reference's term, in named steps -/

section Terms

variable {F : FTy → Type} [FloatOps F]

def x32 (A : Vec F S16384x13312 .bf16) : FVec F S4x4096x13312 .f32 :=
  shapeCast S4x4096x13312 (extf .f32 A bitsLt_bf16_f32 : FVec F S16384x13312 .f32) shapeCasts_S16384x13312_S4x4096x13312

def heads (x : FVec F S4x4096x1024 .f32) : FVec F S4x8x4096x128 .f32 :=
  transpose S4x8x4096x128 [0, 2, 1, 3] (shapeCast S4x4096x8x128 x shapeCasts_S4x4096x1024_S4x4096x8x128)
    transposes_S4x4096x8x128_S4x8x4096x128_0_2_1_3

def refQ (A : Vec F S16384x13312 .bf16) : FVec F S4x8x4096x128 .f32 :=
  heads (extractStridedSlice S4x4096x1024 ![0, 0, 4096] (x32 A) slices_S4x4096x13312_S4x4096x1024_0_0_4096)
def refK (A : Vec F S16384x13312 .bf16) : FVec F S4x8x4096x128 .f32 :=
  heads (extractStridedSlice S4x4096x1024 ![0, 0, 5120] (x32 A) slices_S4x4096x13312_S4x4096x1024_0_0_5120)
def refV (A : Vec F S16384x13312 .bf16) : FVec F S4x8x4096x128 .f32 :=
  heads (extractStridedSlice S4x4096x1024 ![0, 0, 6144] (x32 A) slices_S4x4096x13312_S4x4096x1024_0_0_6144)

def zeros : FVec F S4x8x4096x4096 .f32 := broadcastInDim S4x8x4096x4096 ![] bcast_S_S4x8x4096x4096 (constant S_ .f32 0x00000000#32)

def scores (q k : FVec F S4x8x4096x128 .f32) : FVec F S4x8x4096x4096 .f32 :=
  Host.divf (Host.dotGeneral dot_S4x8x4096x128_S4x8x4096x128_S4x8x4096x4096_3_3_2_2_01_01 none q k)
    (broadcastInDim S4x8x4096x4096 ![] bcast_S_S4x8x4096x4096 (Host.sqrt (constant S_ .f32 0x43000000#32)))

def negSoftplus (x : FVec F S4x8x4096x4096 .f32) : FVec F S4x8x4096x4096 .f32 :=
  Host.negf (select (cmpf .une (subf x zeros) (subf x zeros)) (addf x zeros)
    (addf (maximumf x zeros) (Host.log1p (Host.exp (Host.negf (Host.absf (subf x zeros)))))))

def causal : IVec S4x8x4096x4096 1 :=
  broadcastInDim S4x8x4096x4096 ![2, 3] bcast_S4096x4096_S4x8x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

def logRest (z : FVec F S4x8x4096x4096 .f32) : FVec F S4x8x4096x4096 .f32 :=
  select causal (negSoftplus (Host.negf (Host.negf z))) zeros

def suffix (x : FVec F S4x8x4096x4096 .f32) : FVec F S4x8x4096x4096 .f32 :=
  Host.reduceWindowAdd ![1, 1, 1, 4096] ![1, 1, 1, 1] ![0, 0, 0, 0] ![0, 0, 0, 4095] x
    (broadcastInDim S_ ![] bcast_S_S_ (constant S_ .f32 0x00000000#32))
    reduceWindows_S4x8x4096x4096_S4x8x4096x4096_w1s1p0_0_w1s1p0_0_w1s1p0_0_w4096s1p0_4095 h_S_

def weights (z : FVec F S4x8x4096x4096 .f32) : FVec F S4x8x4096x4096 .f32 :=
  select causal (Host.exp (addf (negSoftplus (Host.negf z)) (subf (suffix (logRest z)) (logRest z)))) zeros

def attn (w : FVec F S4x8x4096x4096 .f32) (v : FVec F S4x8x4096x128 .f32) : FVec F S4x4096x1024 .bf16 :=
  truncf .bf16 (shapeCast S4x4096x1024 (transpose S4x4096x8x128 [0, 2, 1, 3]
    (Host.dotGeneral dot_S4x8x4096x4096_S4x8x4096x128_S4x8x4096x128_3_2_2_3_01_01 none w v)
    transposes_S4x8x4096x128_S4x4096x8x128_0_2_1_3) shapeCasts_S4x4096x8x128_S4x4096x1024) bitsLt_bf16_f32

def out (A : Vec F S16384x13312 .bf16) : FVec F S4x4096x1024 .bf16 :=
  attn (weights (scores (refQ A) (refK A))) (refV A)

theorem res_eq (m : (ℓ : Loc nD τ sig) → Buf (Elt F) ℓ) (c : Dev nD) :
    Value.res_main_v34 m c = out (m ((c.tc : Thread nD τ).loc main_arg0)) := rfl

end Terms

/-! ## The window sum over the ideal floats -/

theorem foldl_add {ι : Type} (l : List ι) (g : ι → EReal) (v : EReal) : l.foldl (fun r n => r + g n) v = v + (l.map g).sum := by
  induction l generalizing v with
  | nil => simp
  | cons a l ih => simp only [List.foldl_cons, List.map_cons, List.sum_cons, ih, add_assoc]

theorem reduceWindow_add {s t : Shape} (window strides lo hi : Fin s.rank → Nat) (x : s.Idx → EReal) (init : EReal)
    (h : s.ReduceWindows window strides lo hi t) (j : t.Idx) :
    Ideal.hostReduceWindowAdd window strides lo hi h x init j =
      init + ∑ w : (⟨s.rank, window⟩ : Shape).Idx,
        if hin : ∀ a, lo a ≤ (j (a.cast h.1.symm)).val * strides a + (w a).val ∧
            (j (a.cast h.1.symm)).val * strides a + (w a).val - lo a < s.size a
        then x (fun a => ⟨(j (a.cast h.1.symm)).val * strides a + (w a).val - lo a, (hin a).2⟩) else init := by
  unfold Ideal.hostReduceWindowAdd Host.reduceWindow
  refine (foldl_add _ _ _).trans ?_
  congr 1
  rw [← Fin.sum_univ_def, ← Equiv.sum_comp (Shape.rowMajor ⟨s.rank, window⟩).symm]
  exact Finset.sum_congr rfl fun i _ => dite_congr rfl (fun _ => rfl) (fun _ => rfl)

/-- The sum of the entries from a position on, along the last of four axes. -/
theorem suffix4 {n0 n1 n2 n : ℕ} {u : Shape} (x : FVec Ideal ⟨4, ![n0, n1, n2, n]⟩ .f32) (init : FVec Ideal u .f32) (hu : 0 < u.numel)
    (hw : Shape.ReduceWindows ⟨4, ![n0, n1, n2, n]⟩ ![1, 1, 1, n] ![1, 1, 1, 1] ![0, 0, 0, 0] ![0, 0, 0, n - 1] ⟨4, ![n0, n1, n2, n]⟩)
    (h0 : init (Shape.Idx.first hu) = (0 : EReal)) (b : Fin n0) (h : Fin n1) (t : Fin n2) (s : Fin n) (L : ℕ → EReal)
    (hx : ∀ k : Fin n, x (ix4 b h t k) = L k.val) :
    Host.reduceWindowAdd (F := Ideal) ![1, 1, 1, n] ![1, 1, 1, 1] ![0, 0, 0, 0] ![0, 0, 0, n - 1] x init hw hu (ix4 b h t s) =
      ∑ k ∈ Finset.Ico s.val n, L k := by
  refine (reduceWindow_add ![1, 1, 1, n] ![1, 1, 1, 1] ![0, 0, 0, 0] ![0, 0, 0, n - 1] x (init (Shape.Idx.first hu)) hw (ix4 b h t s)).trans ?_
  rw [h0, zero_add]
  have hs := s.isLt
  refine (sum_idx4 (n0 := 1) (n1 := 1) (n2 := 1) (n3 := n) _).trans ?_
  rw [Fin.sum_univ_one, Fin.sum_univ_one, Fin.sum_univ_one]
  refine (Finset.sum_congr rfl (g := fun k : Fin n => (if s.val + k.val < n then L (s.val + k.val) else 0 : EReal)) fun k _ => ?_).trans ?_
  · by_cases hb : s.val + k.val < n
    · rw [if_pos hb, dif_pos (by
        intro a
        refine ⟨by fin_cases a <;> exact Nat.zero_le _, ?_⟩
        fin_cases a
        · show b.val * 1 + 0 - 0 < n0; omega
        · show h.val * 1 + 0 - 0 < n1; omega
        · show t.val * 1 + 0 - 0 < n2; omega
        · show s.val * 1 + k.val - 0 < n; omega)]
      rw [← hx ⟨s.val + k.val, hb⟩]
      congr 1
      funext a
      apply Fin.ext
      fin_cases a
      · show b.val * 1 + 0 - 0 = b.val; omega
      · show h.val * 1 + 0 - 0 = h.val; omega
      · show t.val * 1 + 0 - 0 = t.val; omega
      · show s.val * 1 + k.val - 0 = s.val + k.val; omega
    · rw [if_neg hb, dif_neg (fun hin => hb (by
        have h3 : s.val * 1 + k.val - 0 < n := (hin 3).2
        omega))]
  rw [Fin.sum_univ_eq_sum_range (fun k => if s.val + k < n then L (s.val + k) else 0) n, ← Finset.sum_filter,
    Finset.sum_Ico_eq_sum_range]
  refine Finset.sum_congr ?_ fun _ _ => rfl
  ext y
  simp only [Finset.mem_filter, Finset.mem_range]
  omega

theorem suffix_apply (x : FVec Ideal S4x8x4096x4096 .f32) (b : Fin 4) (h : Fin 8) (t s : Fin 4096) (L : ℕ → EReal)
    (hx : ∀ k : Fin 4096, x (ix4 b h t k) = L k.val) :
    suffix (F := Ideal) x (ix4 b h t s) = ∑ k ∈ Finset.Ico s.val 4096, L k := by
  have h0 : (broadcastInDim S_ ![] bcast_S_S_ (constant (F := Ideal) S_ .f32 0x00000000#32)) (Shape.Idx.first h_S_) = (0 : EReal) := by
    pointwise
  unfold suffix
  exact suffix4 x _ h_S_ reduceWindows_S4x8x4096x4096_S4x8x4096x4096_w1s1p0_0_w1s1p0_0_w1s1p0_0_w4096s1p0_4095 h0 b h t s L hx

/-! ## Real numbers -/

/-- `-log (1 + eˣ)`, as the reference writes it. -/
def nsp (x : ℝ) : ℝ := -(max x 0 + Real.log (1 + Real.exp (-|x|)))

theorem log2_pos : 0 < Real.log 2 := Real.log_pos (by norm_num)

theorem nsp_mul (z : ℝ) : nsp (z * Real.log 2) = -(sp2 z) * Real.log 2 := by
  have h := log2_pos
  have h1 : max (z * Real.log 2) 0 = max z 0 * Real.log 2 := by
    rw [max_mul_of_nonneg _ _ h.le, zero_mul]
  have h2 : Real.exp (-|z * Real.log 2|) = 2 ^ (-|z|) := by
    rw [Real.rpow_def_of_pos (by norm_num), abs_mul, abs_of_pos h]
    congr 1
    ring
  unfold nsp sp2
  rw [h1, h2]
  field_simp

theorem nsp_neg (x : ℝ) : nsp (-x) = x + nsp x := by
  unfold nsp
  rw [abs_neg]
  rcases le_total x 0 with h | h
  · rw [max_eq_left (by linarith), max_eq_right h]; ring
  · rw [max_eq_right (by linarith), max_eq_left h]; ring

/-! ## Extended reals -/

/-- `-log (1 + eˣ)`, as the reference writes it. -/
def nsE (x : EReal) : EReal := -(max x 0 + Ideal.log (1 + Ideal.exp (-(max x (-x)))))

theorem nsE_coe (r : ℝ) : nsE (r : EReal) = ((nsp r : ℝ) : EReal) := by
  unfold nsE
  rw [show max (r : EReal) (-(r : EReal)) = ((|r| : ℝ) : EReal) from absf_coe' r, ← EReal.coe_neg, Ideal.exp_coe,
    ← EReal.coe_zero, ← EReal.coe_one, ← EReal.coe_add, log_pos_coe (by positivity), ← coe_max', ← EReal.coe_add, ← EReal.coe_neg]
  rfl

theorem exp_bot : Ideal.exp ⊥ = 0 := rfl

theorem nsE_top : nsE ⊤ = ⊥ := by
  unfold nsE
  rw [show max (⊤ : EReal) (-⊤) = ⊤ by simp, EReal.neg_top, exp_bot, add_zero, log_one, add_zero]
  simp

theorem nsE_bot : nsE ⊥ = 0 := by
  unfold nsE
  rw [show max (⊥ : EReal) (-⊥) = ⊤ by simp, EReal.neg_top, exp_bot, add_zero, log_one, add_zero]
  simp

theorem add_mul_pos (a b : EReal) {r : ℝ} (h : 0 < r) : (a + b) * (r : EReal) = a * (r : EReal) + b * (r : EReal) := by
  induction a with
  | bot => rw [EReal.bot_add, EReal.bot_mul_coe_of_pos h, EReal.bot_add]
  | top =>
    induction b with
    | bot => rw [EReal.add_bot, EReal.bot_mul_coe_of_pos h, EReal.add_bot]
    | top => rw [EReal.top_add_top, EReal.top_mul_coe_of_pos h, EReal.top_add_top]
    | coe b => rw [EReal.top_add_coe, EReal.top_mul_coe_of_pos h, ← EReal.coe_mul, EReal.top_add_coe]
  | coe a =>
    induction b with
    | bot => rw [EReal.add_bot, EReal.bot_mul_coe_of_pos h, EReal.add_bot]
    | top => rw [EReal.coe_add_top, EReal.top_mul_coe_of_pos h, ← EReal.coe_mul, EReal.coe_add_top]
    | coe b => rw [← EReal.coe_add, ← EReal.coe_mul, ← EReal.coe_mul, ← EReal.coe_mul, ← EReal.coe_add, add_mul]

theorem sum_mul_pos {ι : Type} (s : Finset ι) (f : ι → EReal) {r : ℝ} (h : 0 < r) :
    (∑ x ∈ s, f x) * (r : EReal) = ∑ x ∈ s, f x * (r : EReal) := by
  classical
  induction s using Finset.induction_on with
  | empty => simp
  | insert a s ha ih => rw [Finset.sum_insert ha, Finset.sum_insert ha, add_mul_pos _ _ h, ih]

theorem nsE_mul (y : EReal) : nsE (y * (Real.log 2 : EReal)) = lr y * (Real.log 2 : EReal) := by
  have h := log2_pos
  unfold lr
  induction y with
  | bot => rw [EReal.bot_mul_coe_of_pos h, nsE_bot, spE_bot]; simp
  | top => rw [EReal.top_mul_coe_of_pos h, nsE_top, spE_top, EReal.neg_top, EReal.bot_mul_coe_of_pos h]
  | coe y => rw [← EReal.coe_mul, nsE_coe, nsp_mul, spE_coe, ← EReal.coe_neg, ← EReal.coe_mul]

/-- One weight, in the reference's words and in the kernel's. -/
theorem weight_eq (y S : EReal) :
    Ideal.exp (nsE (-(y * (Real.log 2 : EReal))) + ((lr y * (Real.log 2 : EReal) + S * (Real.log 2 : EReal)) - lr y * (Real.log 2 : EReal))) =
      wE y S := by
  have h := log2_pos
  unfold wE lr
  induction y with
  | bot => rw [EReal.bot_mul_coe_of_pos h, EReal.neg_bot, nsE_top, EReal.bot_add, exp_bot, spE_bot, EReal.bot_sub, EReal.bot_add, exp2_bot]
  | top =>
    rw [spE_top, EReal.neg_top, EReal.bot_mul_coe_of_pos h, EReal.bot_add, EReal.bot_sub, EReal.add_bot, exp_bot,
      show (⊤ : EReal) - ⊤ = ⊥ from rfl, EReal.bot_add, exp2_bot]
  | coe y =>
    rw [spE_coe, ← EReal.coe_neg, ← EReal.coe_mul, ← EReal.coe_mul, ← EReal.coe_neg, nsE_coe, ← EReal.coe_sub]
    induction S with
    | bot => rw [EReal.bot_mul_coe_of_pos h, EReal.add_bot, EReal.bot_sub, EReal.add_bot, EReal.add_bot, exp_bot, exp2_bot]
    | top =>
      rw [EReal.top_mul_coe_of_pos h, EReal.coe_add_top, EReal.top_sub_coe, EReal.coe_add_top, EReal.coe_add_top]
      rfl
    | coe S =>
      rw [← EReal.coe_mul, ← EReal.coe_add, ← EReal.coe_add, ← EReal.coe_sub, ← EReal.coe_add, Ideal.exp_coe, exp2_coe']
      congr 1
      rw [Real.rpow_def_of_pos (by norm_num), nsp_neg, nsp_mul]
      congr 1
      ring

theorem negSoftplus_apply (x : FVec Ideal S4x8x4096x4096 .f32) (b : Fin 4) (h : Fin 8) (t s : Fin 4096) :
    negSoftplus (F := Ideal) x (ix4 b h t s) = nsE (x (ix4 b h t s)) := by
  pointwise [negSoftplus, zeros]
  rw [if_neg (by simp)]
  rfl

theorem causal_apply (a b' : EReal) (b : Fin 4) (h : Fin 8) (t s : Fin 4096) :
    Scalar.select (causal (ix4 b h t s)) a b' = if s.val < t.val then a else b' := by
  have hs := s.isLt
  have ht := t.isLt
  pointwise [causal]
  rw [WordCmp.cmpi_slt_ofNat (by omega) (by omega)]
  by_cases h : s.val < t.val <;> simp [h, Scalar.select]

theorem logRest_apply (z : FVec Ideal S4x8x4096x4096 .f32) (b : Fin 4) (h : Fin 8) (t s : Fin 4096) :
    logRest (F := Ideal) z (ix4 b h t s) = if s.val < t.val then nsE (z (ix4 b h t s)) else 0 := by
  have e : negSoftplus (F := Ideal) (Host.negf (Host.negf z)) (ix4 b h t s) = nsE (z (ix4 b h t s)) := by
    rw [negSoftplus_apply]
    congr 1
    pointwise
    rw [neg_neg]
  have e2 : logRest (F := Ideal) z (ix4 b h t s) =
      Scalar.select (causal (ix4 b h t s)) (negSoftplus (F := Ideal) (Host.negf (Host.negf z)) (ix4 b h t s)) (0 : EReal) := by
    pointwise [logRest, zeros]
  rw [e2, causal_apply, e]

theorem sum_masked (x : ℕ → EReal) (a t n : ℕ) (h : t ≤ n) :
    ∑ k ∈ Finset.Ico a n, (if k < t then x k else 0) = ∑ k ∈ Finset.Ico a t, x k := by
  rw [← Finset.sum_filter]
  congr 1
  ext y
  simp only [Finset.mem_filter, Finset.mem_Ico]
  omega

theorem weights_apply (z : FVec Ideal S4x8x4096x4096 .f32) (b : Fin 4) (h : Fin 8) (t s : Fin 4096) (y : ℕ → EReal)
    (hz : ∀ k : Fin 4096, z (ix4 b h t k) = y k.val * (Real.log 2 : EReal)) :
    weights (F := Ideal) z (ix4 b h t s) = if s.val < t.val then wE (y s.val) (∑ l ∈ Finset.Ico (s.val + 1) t.val, lr (y l)) else 0 := by
  have hs := s.isLt
  have ht := t.isLt
  have hL : ∀ k : Fin 4096, logRest (F := Ideal) z (ix4 b h t k) =
      if k.val < t.val then lr (y k.val) * (Real.log 2 : EReal) else 0 := fun k => by
    rw [logRest_apply, hz, nsE_mul]
  have e : negSoftplus (F := Ideal) (Host.negf z) (ix4 b h t s) = nsE (-(y s.val * (Real.log 2 : EReal))) := by
    rw [negSoftplus_apply]
    congr 1
    pointwise
    rw [hz]
  have e2 : weights (F := Ideal) z (ix4 b h t s) = Scalar.select (causal (ix4 b h t s))
      (Ideal.exp (negSoftplus (F := Ideal) (Host.negf z) (ix4 b h t s) +
        (suffix (F := Ideal) (logRest z) (ix4 b h t s) - logRest (F := Ideal) z (ix4 b h t s)))) (0 : EReal) := by
    pointwise [weights, zeros]
  rw [e2, causal_apply, e, suffix_apply _ b h t s (fun k => if k < t.val then lr (y k) * (Real.log 2 : EReal) else 0) hL, hL]
  by_cases hst : s.val < t.val
  · rw [if_pos hst, if_pos hst, if_pos hst, sum_masked _ _ _ _ (by omega), Finset.sum_eq_sum_Ico_succ_bot hst,
      ← sum_mul_pos _ _ log2_pos, weight_eq]
  · rw [if_neg hst, if_neg hst]

theorem scores_apply (q k : FVec Ideal S4x8x4096x128 .f32) (b : Fin 4) (h : Fin 8) (t s : Fin 4096) (u w : Fin 128 → EReal)
    (hq : ∀ d, q (ix4 b h t d) = u d) (hk : ∀ d, k (ix4 b h s d) = w d) :
    scores (F := Ideal) q k (ix4 b h t s) = (∑ d, u d * (qc : EReal) * w d) * (Real.log 2 : EReal) := by
  have h128 : Ideal.sqrt (Ideal.ofBits FTy.f32 1124073472#32) = ((Real.sqrt 128 : ℝ) : EReal) := by
    have e : Ideal.ofBits FTy.f32 1124073472#32 = ((128 : ℝ) : EReal) := by
      simp [Ideal.ofBits, Ideal.ieee, -EReal.coe_mul]; norm_num
    rw [e]
    show (if (128 : ℝ) < 0 then (⊥ : EReal) else (Real.sqrt 128 : EReal)) = _
    rw [if_neg (by norm_num)]
  have h0 : (0 : ℝ) < 1 / Real.sqrt 128 := by positivity
  have h1 : Real.sqrt 128 ≠ 0 := by positivity
  have hl := log2_pos.ne'
  have hc : ((1 / Real.sqrt 128 : ℝ) : EReal) = (qc : EReal) * (Real.log 2 : EReal) := by
    rw [← EReal.coe_mul]
    congr 1
    unfold qc
    field_simp
  pointwise [scores]
  rw [h128, Ideal.div_coe h1]
  simp only [hq, hk]
  rw [sum_mul_pos _ _ h0, sum_mul_pos _ _ log2_pos]
  refine Finset.sum_congr rfl fun d _ => ?_
  rw [hc]
  ac_rfl

/-- The reference's result. -/
theorem out_apply (A : Vec Ideal S16384x13312 .bf16) (a : ℕ → ℕ → EReal) (hA : ∀ r c, A (ix2 r c) = a r.val c.val)
    (b : Fin 4) (t : Fin 4096) (j : Fin 1024) (y : ℕ → EReal)
    (hy : ∀ s, s < 4096 → y s = ∑ d : Fin 128, a (4096 * b.val + t.val) (4096 + 128 * (j.val / 128) + d.val) * (qc : EReal) *
      a (4096 * b.val + s) (5120 + 128 * (j.val / 128) + d.val)) :
    out (F := Ideal) A (ix3 b t j) = ∑ s ∈ Finset.Ico 0 t.val,
      wE (y s) (∑ l ∈ Finset.Ico (s + 1) t.val, lr (y l)) * a (4096 * b.val + s) (6144 + j.val) := by
  have ht := t.isLt
  have hj := j.isLt
  have hq : ∀ h t d, refQ (F := Ideal) A (ix4 b h t d) = a (4096 * b.val + t.val) (4096 + 128 * h.val + d.val) := fun h t d => by
    pointwise [refQ, heads, x32]
    rw [hA]
    congr 1 <;> dsimp only <;> omega
  have hk : ∀ h t d, refK (F := Ideal) A (ix4 b h t d) = a (4096 * b.val + t.val) (5120 + 128 * h.val + d.val) := fun h t d => by
    pointwise [refK, heads, x32]
    rw [hA]
    congr 1 <;> dsimp only <;> omega
  have hv : ∀ h t d, refV (F := Ideal) A (ix4 b h t d) = a (4096 * b.val + t.val) (6144 + 128 * h.val + d.val) := fun h t d => by
    pointwise [refV, heads, x32]
    rw [hA]
    congr 1 <;> dsimp only <;> omega
  have hz : ∀ k : Fin 4096, scores (F := Ideal) (refQ A) (refK A) (ix4 b ⟨j.val / 128, by omega⟩ t k) =
      y k.val * (Real.log 2 : EReal) := fun k => by
    rw [hy _ k.isLt]
    exact scores_apply _ _ b _ t k _ _ (fun d => hq _ t d) (fun d => hk _ k d)
  have e : out (F := Ideal) A (ix3 b t j) = ∑ x, weights (F := Ideal) (scores (refQ A) (refK A)) (ix4 b ⟨j.val / 128, by omega⟩ t x) *
      refV (F := Ideal) A (ix4 b ⟨j.val / 128, by omega⟩ x ⟨j.val % 128, by omega⟩) := by
    unfold out
    pointwise [attn]
  rw [e]
  simp only [weights_apply _ b _ t _ y hz, hv]
  rw [Fin.sum_univ_eq_sum_range (fun s => (if s < t.val then wE (y s) (∑ l ∈ Finset.Ico (s + 1) t.val, lr (y l)) else 0) *
    a (4096 * b.val + s) (6144 + 128 * (j.val / 128) + j.val % 128)) 4096, Finset.range_eq_Ico]
  rw [← sum_masked _ 0 t.val 4096 (by omega)]
  refine Finset.sum_congr rfl fun s _ => ?_
  rw [ite_mul, zero_mul, show 6144 + 128 * (j.val / 128) + j.val % 128 = 6144 + j.val by omega]

end Cert.Proof.SB.Ref
end
-- ==== Proof.SB.Algebraic.lean ====
/-
  The attention's program and its reference leave the same arrays over the ideal floats.
-/
module

public import proofs.«01_k».proof.Proof.SB.Frames
public import proofs.«01_k».proof.Proof.SB.Value
public import proofs.«01_k».proof.Proof.SB.Ref

@[expose] public section

set_option maxRecDepth 16384

noncomputable section

namespace Cert.Proof.SB

open Idealize.ShloMosaic Idealize.ShloMosaic.TcCoe Idealize.ShloMosaic.Tactic Idealize.SL Idealize.SL.Sem

attribute [local instance] Cert.Kernel.Gen.facts Cert.KernelIdeal.Gen.facts Cert.ReferenceIdeal.Gen.facts

/-! ## The weights' slices in the reference's words -/

def wUp (x : FVec Ideal Cert.ReferenceIdeal.S2x2048x5632 .f32) : FVec Ideal Cert.ReferenceIdeal.S2048x5632 .bf16 :=
  truncf .bf16 (shapeCast Cert.ReferenceIdeal.S2048x5632 (extractStridedSlice Cert.ReferenceIdeal.S1x2048x5632 ![0, 0, 0] x
    Cert.ReferenceIdeal.Gen.slices_S2x2048x5632_S1x2048x5632_0_0_0) Cert.ReferenceIdeal.Gen.shapeCasts_S1x2048x5632_S2048x5632)
    Cert.ReferenceIdeal.Gen.bitsLt_bf16_f32

theorem wUp_apply (x : FVec Ideal Cert.ReferenceIdeal.S2x2048x5632 .f32) (a : Fin 2048) (b : Fin 5632) : wUp x (ix2 a b) = x (ix3 0 a b) := by
  pointwise [wUp]

def wBr (x : FVec Ideal Cert.ReferenceIdeal.S2x1024x2048 .f32) : FVec Ideal Cert.ReferenceIdeal.S1024x2048 .bf16 :=
  truncf .bf16 (shapeCast Cert.ReferenceIdeal.S1024x2048 (extractStridedSlice Cert.ReferenceIdeal.S1x1024x2048 ![0, 0, 0] x
    Cert.ReferenceIdeal.Gen.slices_S2x1024x2048_S1x1024x2048_0_0_0) Cert.ReferenceIdeal.Gen.shapeCasts_S1x1024x2048_S1024x2048)
    Cert.ReferenceIdeal.Gen.bitsLt_bf16_f32

theorem wBr_apply (x : FVec Ideal Cert.ReferenceIdeal.S2x1024x2048 .f32) (a : Fin 1024) (b : Fin 2048) : wBr x (ix2 a b) = x (ix3 0 a b) := by
  pointwise [wBr]

def wOut (x : FVec Ideal Cert.ReferenceIdeal.S2x2048x2048 .f32) : FVec Ideal Cert.ReferenceIdeal.S2048x2048 .bf16 :=
  truncf .bf16 (shapeCast Cert.ReferenceIdeal.S2048x2048 (extractStridedSlice Cert.ReferenceIdeal.S1x2048x2048 ![0, 0, 0] x
    Cert.ReferenceIdeal.Gen.slices_S2x2048x2048_S1x2048x2048_0_0_0) Cert.ReferenceIdeal.Gen.shapeCasts_S1x2048x2048_S2048x2048)
    Cert.ReferenceIdeal.Gen.bitsLt_bf16_f32

theorem wOut_apply (x : FVec Ideal Cert.ReferenceIdeal.S2x2048x2048 .f32) (a : Fin 2048) (b : Fin 2048) : wOut x (ix2 a b) = x (ix3 0 a b) := by
  pointwise [wOut]

def wIn (x : FVec Ideal Cert.ReferenceIdeal.S2x2048x13312 .f32) : FVec Ideal Cert.ReferenceIdeal.S2048x13312 .bf16 :=
  truncf .bf16 (shapeCast Cert.ReferenceIdeal.S2048x13312 (extractStridedSlice Cert.ReferenceIdeal.S1x2048x13312 ![1, 0, 0] x
    Cert.ReferenceIdeal.Gen.slices_S2x2048x13312_S1x2048x13312_1_0_0) Cert.ReferenceIdeal.Gen.shapeCasts_S1x2048x13312_S2048x13312)
    Cert.ReferenceIdeal.Gen.bitsLt_bf16_f32

theorem wIn_apply (x : FVec Ideal Cert.ReferenceIdeal.S2x2048x13312 .f32) (a : Fin 2048) (b : Fin 13312) : wIn x (ix2 a b) = x (ix3 1 a b) := by
  pointwise [wIn]

/-- The entries of an array, at all natural indices. -/
theorem entries (X : Vec Ideal Cert.KernelIdeal.S16384x13312 .bf16) :
    ∃ a : ℕ → ℕ → EReal, ∀ (r : Fin 16384) (k : Fin 13312), X (ix2 r k) = a r.val k.val :=
  ⟨fun r k => if hr : r < 16384 then if hk : k < 13312 then X (ix2 ⟨r, hr⟩ ⟨k, hk⟩) else 0 else 0, fun r k => by
    dsimp only
    rw [dif_pos r.isLt, dif_pos k.isLt]⟩

theorem algebraic : Cert.algebraic_KernelIdeal_ReferenceIdeal := by
  intro m g m' g' hpre hagree
  have hr := Cert.ReferenceIdeal.Value.run (F := Ideal) m' g'
  have hk := run_main (F := Ideal) m g
  refine ⟨fun c => Ref.out (F := Ideal) (m ((c.tc : Thread Cert.KernelIdeal.nD Cert.KernelIdeal.τ).loc Cert.KernelIdeal.main_arg0)),
    fun c => wUp (m ((c.tc : Thread Cert.KernelIdeal.nD Cert.KernelIdeal.τ).loc Cert.KernelIdeal.main_arg1)),
    fun c => wUp (m ((c.tc : Thread Cert.KernelIdeal.nD Cert.KernelIdeal.τ).loc Cert.KernelIdeal.main_arg2)),
    fun c => wBr (m ((c.tc : Thread Cert.KernelIdeal.nD Cert.KernelIdeal.τ).loc Cert.KernelIdeal.main_arg3)),
    fun c => wBr (m ((c.tc : Thread Cert.KernelIdeal.nD Cert.KernelIdeal.τ).loc Cert.KernelIdeal.main_arg4)),
    fun c => wBr (m ((c.tc : Thread Cert.KernelIdeal.nD Cert.KernelIdeal.τ).loc Cert.KernelIdeal.main_arg5)),
    fun c => wOut (m ((c.tc : Thread Cert.KernelIdeal.nD Cert.KernelIdeal.τ).loc Cert.KernelIdeal.main_arg6)),
    fun c => wIn (m ((c.tc : Thread Cert.KernelIdeal.nD Cert.KernelIdeal.τ).loc Cert.KernelIdeal.main_arg7)),
    ?_, (θ_run Cert.ReferenceIdeal.defs _ _).mono (fun r h c => ?_) hr⟩
  rotate_left
  · obtain ⟨h0, h1, h2, h3, h4, h5, h6, h7, hargs⟩ := h c
    obtain ⟨g0, g1, g2, g3, g4, g5, g6, g7⟩ := hagree c
    rw [g1] at h1
    rw [g2] at h2
    rw [g3] at h3
    rw [g4] at h4
    rw [g5] at h5
    rw [g6] at h6
    rw [g7] at h7
    rw [Ref.res_eq, g0] at h0
    exact ⟨h0, h1, h2, h3, h4, h5, h6, h7, hargs⟩
  · refine (θ_run Cert.KernelIdeal.defs _ _).mono (fun r h c => ?_) hk
    obtain ⟨a, hA⟩ := entries (m ((c.tc : Thread Cert.KernelIdeal.nD Cert.KernelIdeal.τ).loc Cert.KernelIdeal.main_arg0) :
      Vec Ideal Cert.KernelIdeal.S16384x13312 .bf16)
    refine ⟨((h c).1 10).trans (arr10 m c a hA _ fun b t j y hy => Ref.out_apply _ a hA b t j y hy),
      ((h c).1 11).trans (arr11 m c _ fun a b => wUp_apply _ a b), ((h c).1 12).trans (arr12 m c _ fun a b => wUp_apply _ a b),
      ((h c).1 13).trans (arr13 m c _ fun a b => wBr_apply _ a b), ((h c).1 14).trans (arr14 m c _ fun a b => wBr_apply _ a b),
      ((h c).1 15).trans (arr15 m c _ fun a b => wBr_apply _ a b), ((h c).1 16).trans (arr16 m c _ fun a b => wOut_apply _ a b),
      ((h c).1 17).trans (arr17 m c _ fun a b => wIn_apply _ a b), kept m r h c⟩

end Cert.Proof.SB

end
-- ==== Proof.MM.Kit.lean ====
/-
  What the further programs' proofs share.
-/
module

public import Idealize.ShloMosaic.Lib.Pipeline.ValueKit

@[expose] public section

noncomputable section

namespace Cert.Proof.MM

open Idealize.ShloMosaic

theorem hz2 : (![0, 0] : Fin 2 → Nat) = fun _ => 0 := by funext i; fin_cases i <;> rfl
theorem hz3 : (![0, 0, 0] : Fin 3 → Nat) = fun _ => 0 := by funext i; fin_cases i <;> rfl

/-- One entry of a normalised row: `x` the row, `g` the gain at column `k`. -/
def row (x : Fin 2048 → EReal) (g : EReal) (k : Fin 2048) : EReal :=
  x k * Ideal.rsqrt (Ideal.div (∑ j, x j * x j) (Ideal.ofBits .f32 0x45000000#32) + Ideal.ofBits .f32 0x358637BD#32) * g

theorem row_congr {x x' : Fin 2048 → EReal} {g g' : EReal} (k : Fin 2048) (hx : ∀ j, x j = x' j) (hg : g = g') :
    row x g k = row x' g' k := by
  rw [show x = x' from funext hx, hg]

/-- A chunk of the rows read from `off` on, row by row. -/
theorem chunk_row {e : EltTy} {n : ℕ} (x : Vec Ideal ⟨2, ![1024, n]⟩ e) (off : ℕ)
    (hb : ∀ a : Fin 2, (![off, 0] : Fin 2 → ℕ) a + (![256, n] : Fin 2 → ℕ) a ≤ (![1024, n] : Fin 2 → ℕ) a)
    (p : Fin 256) (a : Fin 1024) (h : a.val = off + p.val) (j : Fin n) :
    (View.ld (S := ⟨2, ![1024, n]⟩) x (Rect.unit ![off, 0] ![256, n] hb) : Vec Ideal ⟨2, ![256, n]⟩ e) (ix2 p j) = x (ix2 a j) := by
  refine congrArg x ?_
  funext i
  refine Fin.ext ?_
  fin_cases i
  · simpa [Rect.idx_unit_val] using h.symm
  · simp [Rect.idx_unit_val]

end Cert.Proof.MM

end
-- ==== Proof.MM.Norm.lean ====
/-
  The normalised input projection (program 2).
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.MM.Kit

@[expose] public section

set_option maxRecDepth 16384

noncomputable section

namespace Cert.Proof.Norm

open Cert.Kernel2Ideal Cert.Kernel2Ideal.Gen
open Idealize.ShloMosaic
open Idealize.ShloMosaic.TcCoe Idealize.ShloMosaic.Tactic
open Idealize.ShloMosaic.Pipeline (Dat Cfg Window)

theorem pay1_apply (v : Vec Ideal S256x2048 .f32) (g : Vec Ideal S1x2048 .f32) (a : Fin 256) (k : Fin 2048) :
    k0_pay1 (F := Ideal) v g (ix2 a k) = MM.row (fun j => v (ix2 a j)) (g (ix2 0 k)) k := by
  pointwise [k0_pay1]
  rfl

/-- The chunks' normalisations are one function. -/
theorem pay6_eq (v : Vec Ideal S256x2048 .f32) (g : Vec Ideal S1x2048 .f32) : k0_pay6 (F := Ideal) v g = k0_pay1 v g := rfl
theorem pay16_eq (v : Vec Ideal S256x2048 .f32) (g : Vec Ideal S1x2048 .f32) : k0_pay16 (F := Ideal) v g = k0_pay1 v g := rfl
theorem pay13_eq (v : Vec Ideal S256x2048 .f32) (g : Vec Ideal S1x2048 .f32) :
    k0_pay13 (F := Ideal) (k0_pay9 v) (k0_pay10 g) (k0_pay11 v) k0_pay12 = k0_pay1 v g := rfl

/-- One chunk of normalised rows against the weight block. -/
theorem pay3_apply (w : Vec Ideal S1x2048x1024 .f32) (v : Vec Ideal S256x2048 .f32) (g : Vec Ideal S1x2048 .f32)
    (a : Fin 256) (b : Fin 1024) :
    k0_pay3 (F := Ideal) (k0_pay5 w) v g (ix2 a b) = ∑ k, MM.row (fun j => v (ix2 a j)) (g (ix2 0 k)) k * w (ix3 0 k b) := by
  pointwise [k0_pay3, k0_pay5]
  refine Finset.sum_congr rfl fun k _ => ?_
  rw [← pay1_apply]

/-- A later point's block: the scratch's rows against the weight block. -/
theorem pay4_apply (s : Vec Ideal S1024x2048 .bf16) (w : Vec Ideal S1x2048x1024 .f32) (a : Fin 1024) (b : Fin 1024) :
    k0_pay4 (F := Ideal) s w (ix2 a b) = ∑ k, s (ix2 a k) * w (ix3 0 k b) := by
  pointwise [k0_pay4]

variable (m : (ℓ : Loc nD τ sig) → Buf (Elt Ideal) ℓ) (c : Dev nD)

/-- What a row block's first point leaves in the scratch: the rows normalised. -/
theorem scr_A (t : Fin cfg0.N) (h0 : t.val % 13 = 0) (h1 : ¬1 ≤ t.val % 13) (a : Fin 1024) (k : Fin 2048) :
    (outsAt0 (F := Ideal) m c t.val t.isLt).2 (ix2 a k) =
      MM.row (fun j => (iblk (F := Ideal) m c 0 t : Vec Ideal S1024x2048 .f32) (ix2 a j)) ((iblk (F := Ideal) m c 1 t : Vec Ideal S1x2048 .f32) (ix2 0 k)) k := by
  rw [outsAt0_A m c t h0 h1]
  frame_out
  generalize (iblk (F := Ideal) m c 0 t : Vec Ideal S1024x2048 .f32) = x0
  generalize (iblk (F := Ideal) m c 1 t : Vec Ideal S1x2048 .f32) = x1
  canon_tiles x h
  all_goals
    obtain ⟨p, q, rfl⟩ : ∃ p q, x = ix2 p q := ⟨x 0, x 1, by funext i; fin_cases i <;> rfl⟩
    obtain rfl : k = q := Fin.ext h1
    first | unfold k0_pay2 | unfold k0_pay17 | unfold k0_pay14 | unfold k0_pay7
    rw [shapeCast_self]
    first | rw [pay16_eq] | rw [pay13_eq] | rw [pay6_eq] | skip
    rw [pay1_apply]
    congr 1
    funext j
    exact MM.chunk_row _ _ _ p a (by first | exact h0 | exact h0.trans (Nat.zero_add _).symm) j

/-- … and in the output's block: their product with the weights. -/
theorem out_A (t : Fin cfg0.N) (h0 : t.val % 13 = 0) (h1 : ¬1 ≤ t.val % 13) (a : Fin 1024) (b : Fin 1024) :
    (outsAt0 (F := Ideal) m c t.val t.isLt).1 (ix2 a b) =
      ∑ k, MM.row (fun j => (iblk (F := Ideal) m c 0 t : Vec Ideal S1024x2048 .f32) (ix2 a j)) ((iblk (F := Ideal) m c 1 t : Vec Ideal S1x2048 .f32) (ix2 0 k)) k *
        (iblk (F := Ideal) m c 2 t : Vec Ideal S1x2048x1024 .f32) (ix3 0 k b) := by
  rw [outsAt0_A m c t h0 h1]
  frame_out
  generalize (iblk (F := Ideal) m c 0 t : Vec Ideal S1024x2048 .f32) = x0
  generalize (iblk (F := Ideal) m c 1 t : Vec Ideal S1x2048 .f32) = x1
  generalize (iblk (F := Ideal) m c 2 t : Vec Ideal S1x2048x1024 .f32) = x2
  canon_tiles x h
  all_goals
    obtain ⟨p, q, rfl⟩ : ∃ p q, x = ix2 p q := ⟨x 0, x 1, by funext i; fin_cases i <;> rfl⟩
    obtain rfl : b = q := Fin.ext h1
    first | unfold k0_pay18; rw [pay16_eq] | unfold k0_pay15; rw [pay13_eq] | unfold k0_pay8; rw [pay6_eq] | skip
    refine (pay3_apply _ _ _ p b).trans ?_
    refine Finset.sum_congr rfl fun k _ => ?_
    congr 2
    funext j
    exact MM.chunk_row _ _ _ p a (by first | exact h0 | exact h0.trans (Nat.zero_add _).symm) j

/-- A later point of the row block multiplies what the scratch holds, and keeps it. -/
theorem out_B (t : Fin cfg0.N) (h0 : ¬t.val % 13 = 0) (h1 : 1 ≤ t.val % 13) (a : Fin 1024) (b : Fin 1024) :
    (outsAt0 (F := Ideal) m c t.val t.isLt).1 (ix2 a b) =
      ∑ k, (outsAt0 (F := Ideal) m c (t.val - 1) (Nat.lt_of_le_of_lt (Nat.sub_le _ _) t.isLt)).2 (ix2 a k) *
        (iblk (F := Ideal) m c 2 t : Vec Ideal S1x2048x1024 .f32) (ix3 0 k b) := by
  rw [outsAt0_B m c t h0 h1]
  frame_out
  rw [pay4_apply]
  exact Finset.sum_congr rfl fun k _ => congrArg (· * _) (congrFun ((Memref.isWhole_whole cc0_scratch0).read_unread _) (ix2 a k))

theorem scr_B (t : Fin cfg0.N) (h0 : ¬t.val % 13 = 0) (h1 : 1 ≤ t.val % 13) :
    (outsAt0 (F := Ideal) m c t.val t.isLt).2 = (outsAt0 (F := Ideal) m c (t.val - 1) (Nat.lt_of_le_of_lt (Nat.sub_le _ _) t.isLt)).2 := by
  rw [outsAt0_B m c t h0 h1]
  rfl

theorem idx : ∀ t : Fin grid0.N,
    win0_0.index t = ![t.val / 13, 0] ∧ win0_1.index t = ![0, 0] ∧ win0_2.index t = ![0, 0, t.val % 13]
    ∧ win0_3.index t = ![t.val / 13, t.val % 13] := by decide +kernel

/-- The arguments, as launched. -/
def inp : FVec Ideal S4x4096x2048 .f32 := m ((c.tc : Thread nD τ).loc main_arg0)
def gain : FVec Ideal S2x2048 .f32 := m ((c.tc : Thread nD τ).loc main_arg1)
def wgt : FVec Ideal S2x2048x13312 .f32 := m ((c.tc : Thread nD τ).loc main_arg2)

/-- The rows, as the host lays them out. -/
theorem V0_apply (r : Fin 16384) (j : Fin 2048) : (V (F := Ideal) m c main_v0 : Vec Ideal S16384x2048 .f32) (ix2 r j) =
    inp m c (ix3 ⟨r.val / 4096, by omega⟩ ⟨r.val % 4096, by omega⟩ j) := by
  unfold inp
  entry_read
  pointwise

theorem V3_apply (k : Fin 2048) : (V (F := Ideal) m c main_v3 : Vec Ideal S1x2048 .f32) (ix2 0 k) = gain m c (ix2 0 k) := by
  unfold gain
  entry_read
  pointwise

theorem blk0 (t : Fin cfg0.N) (a : Fin 1024) (j : Fin 2048) (r : Fin 16384) (hr : r.val = 1024 * (t.val / 13) + a.val) :
    (iblk (F := Ideal) m c 0 t : Vec Ideal S1024x2048 .f32) (ix2 a j) =
      (V (F := Ideal) m c main_v0 : Vec Ideal S16384x2048 .f32) (ix2 r j) := by
  obtain ⟨i0, i1, i2, i3⟩ := idx t
  blk_ext [iblk, i0]

theorem blk1 (t : Fin cfg0.N) (k : Fin 2048) :
    (iblk (F := Ideal) m c 1 t : Vec Ideal S1x2048 .f32) (ix2 0 k) =
      (V (F := Ideal) m c main_v3 : Vec Ideal S1x2048 .f32) (ix2 0 k) := by
  obtain ⟨i0, i1, i2, i3⟩ := idx t
  blk_ext [iblk, i1]

theorem blk2 (t : Fin cfg0.N) (k : Fin 2048) (b : Fin 1024) (q : Fin 13312) (hq : q.val = 1024 * (t.val % 13) + b.val) :
    (iblk (F := Ideal) m c 2 t : Vec Ideal S1x2048x1024 .f32) (ix3 0 k b) = wgt m c (ix3 0 k q) := by
  obtain ⟨i0, i1, i2, i3⟩ := idx t
  unfold wgt
  blk_ext [iblk, V, i2]

/-- Throughout a row block the scratch holds its rows normalised. -/
theorem scr_at : ∀ (n : ℕ) (hn : n < cfg0.N) (a : Fin 1024) (k : Fin 2048) (r : Fin 16384), r.val = 1024 * (n / 13) + a.val →
    (outsAt0 (F := Ideal) m c n hn).2 (ix2 a k) =
      MM.row (fun j => (V (F := Ideal) m c main_v0 : Vec Ideal S16384x2048 .f32) (ix2 r j)) ((V (F := Ideal) m c main_v3 : Vec Ideal S1x2048 .f32) (ix2 0 k)) k := by
  intro n
  induction n with
  | zero =>
    intro hn a k r hr
    exact (scr_A m c ⟨0, hn⟩ (by simp) (by simp) a k).trans
      (MM.row_congr k (fun j => blk0 m c ⟨0, hn⟩ a j r hr) (blk1 m c ⟨0, hn⟩ k))
  | succ n ih =>
    intro hn a k r hr
    by_cases h : (n + 1) % 13 = 0
    · exact (scr_A m c ⟨n + 1, hn⟩ h (by dsimp only; omega) a k).trans
        (MM.row_congr k (fun j => blk0 m c ⟨n + 1, hn⟩ a j r hr) (blk1 m c ⟨n + 1, hn⟩ k))
    · exact (congrFun (scr_B m c ⟨n + 1, hn⟩ h (by dsimp only; omega)) (ix2 a k)).trans (ih _ a k r (by omega))

theorem out_at (t : Fin cfg0.N) (a : Fin 1024) (b : Fin 1024) (r : Fin 16384) (q : Fin 13312)
    (hr : r.val = 1024 * (t.val / 13) + a.val) (hq : q.val = 1024 * (t.val % 13) + b.val) :
    (outsAt0 (F := Ideal) m c t.val t.isLt).1 (ix2 a b) =
      ∑ k, MM.row (fun j => (V (F := Ideal) m c main_v0 : Vec Ideal S16384x2048 .f32) (ix2 r j)) ((V (F := Ideal) m c main_v3 : Vec Ideal S1x2048 .f32) (ix2 0 k)) k * wgt m c (ix3 0 k q) := by
  by_cases h : t.val % 13 = 0
  · rw [out_A m c t h (by omega)]
    refine Finset.sum_congr rfl fun k _ => ?_
    exact congrArg₂ (· * ·) (MM.row_congr k (fun j => blk0 m c t a j r hr) (blk1 m c t k)) (blk2 m c t k b q hq)
  · rw [out_B m c t h (by omega)]
    refine Finset.sum_congr rfl fun k _ => ?_
    exact congrArg₂ (· * ·) (scr_at m c (t.val - 1) _ a k r (by omega)) (blk2 m c t k b q hq)

theorem arr (G : Vec Ideal S16384x13312 .bf16)
    (hG : ∀ (r : Fin 16384) (q : Fin 13312), G (ix2 r q) =
      ∑ k, MM.row (fun j => inp m c (ix3 ⟨r.val / 4096, by omega⟩ ⟨r.val % 4096, by omega⟩ j)) (gain m c (ix2 0 k)) k * wgt m c (ix3 0 k q)) :
    (dats (F := Ideal) m 0 c).arrAt 3 cfg0.N = G := by
  refine (dats (F := Ideal) m 0 c).arrAt_eq_of_covers 3 _ (by decide +kernel) fun t hf y => ?_
  blk_simp
  rw [after0_3]
  obtain ⟨y0, y1, rfl⟩ : ∃ a b, y = ix2 a b := ⟨y 0, y 1, by funext i; fin_cases i <;> rfl⟩
  have ht : t.val < 208 := t.isLt
  obtain ⟨i0, i1, i2, i3⟩ := idx t
  have he : ((View.whole main_v4).slice (win0_3.rect t)).emb (ix2 y0 y1) =
      ix2 ⟨1024 * (t.val / 13) + y0.val, by omega⟩ ⟨1024 * (t.val % 13) + y1.val, by omega⟩ := by
    blk_ext [i3]
  rw [he]
  refine Eq.trans ?_ (hG _ _).symm
  exact (out_at m c t y0 y1 _ _ rfl rfl).trans (Finset.sum_congr rfl fun k _ => congrArg₂ (· * ·)
    (MM.row_congr k (fun j => V0_apply m c _ j) (V3_apply m c k)) rfl)

end Cert.Proof.Norm

namespace Cert.Proof.Norm.Ref

open Cert.Reference2Ideal Cert.Reference2Ideal.Gen
open Idealize.ShloMosaic
open Idealize.ShloMosaic.TcCoe Idealize.ShloMosaic.Tactic

/-- The reference's normalised rows and its result. -/
def nrm (x : FVec Ideal S4x4096x2048 .f32) (g : FVec Ideal S2x2048 .f32) : FVec Ideal S4x4096x2048 .f32 :=
  mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ (extractStridedSlice S1x2048 ![0, 0] g slices_S2x2048_S1x2048_0_0) shapeCasts_S1x2048_S2048)))

theorem nrm_apply (x : FVec Ideal S4x4096x2048 .f32) (g : FVec Ideal S2x2048 .f32) (a : Fin 4) (b : Fin 4096) (k : Fin 2048) :
    nrm x g (ix3 a b k) = MM.row (fun j => x (ix3 a b j)) (g (ix2 0 k)) k := by
  unfold nrm MM.row
  pointwise

def out (n : FVec Ideal S4x4096x2048 .f32) (w : FVec Ideal S2x2048x13312 .f32) : FVec Ideal S16384x13312 .bf16 :=
  truncf .bf16 (shapeCast _ (Host.dotGeneral dot_S4x4096x2048_S2048x13312_S4x4096x13312_2_0_01_1_n_n none n (shapeCast _ (extractStridedSlice S1x2048x13312 ![0, 0, 0] w slices_S2x2048x13312_S1x2048x13312_0_0_0) shapeCasts_S1x2048x13312_S2048x13312)) shapeCasts_S4x4096x13312_S16384x13312) bitsLt_bf16_f32

theorem out_apply (n : FVec Ideal S4x4096x2048 .f32) (w : FVec Ideal S2x2048x13312 .f32) (r : Fin 16384) (q : Fin 13312) :
    out n w (ix2 r q) = ∑ k : Fin 2048, n (ix3 ⟨r.val / 4096, by omega⟩ ⟨r.val % 4096, by omega⟩ k) * w (ix3 0 k q) := by
  unfold out
  pointwise

end Cert.Proof.Norm.Ref

namespace Cert.Proof.Norm

open Idealize.ShloMosaic

attribute [local instance] Cert.Kernel2.Gen.facts Cert.Kernel2Ideal.Gen.facts Cert.Reference2Ideal.Gen.facts

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ref : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem preserves : Cert.preserves_Kernel2_Kernel2Ideal := trivial

theorem algebraic : Cert.algebraic_Kernel2Ideal_Reference2Ideal := by
  intro m g m' g' hpre hagree
  have hr := Cert.Reference2Ideal.Value.run (F := Ideal) m' g'
  have hk := Cert.Kernel2Ideal.Value.run_blocks (F := Ideal) m g
  refine ⟨_, (θ_run Cert.Kernel2Ideal.defs _ _).mono (fun r h c => ⟨(h c).1.trans (arr m c _ (fun a b => ?_)), (h c).2⟩) hk,
    (θ_run Cert.Reference2Ideal.defs _ _).mono (fun r h c => h c) hr⟩
  obtain ⟨g0, g1, g2⟩ := hagree c
  rw [g0, g1, g2]
  refine (Ref.out_apply (Ref.nrm _ _) _ a b).trans ?_
  simp only [Ref.nrm_apply]
  rfl

end Cert.Proof.Norm

end
-- ==== Proof.MM.Up.lean ====
/-
  The feed-forward's gated up-projection over normalised rows (program 3).
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.MM.Kit

@[expose] public section

set_option maxRecDepth 16384

noncomputable section

namespace Cert.Proof.Up

open Cert.Kernel3Ideal Cert.Kernel3Ideal.Gen
open Idealize.ShloMosaic
open Idealize.ShloMosaic.TcCoe Idealize.ShloMosaic.Tactic
open Idealize.ShloMosaic.Pipeline (Dat Cfg Window)

/-- The gate: `p` through silu, times `q`. -/
def silu (p q : EReal) : EReal := p * Ideal.logistic p * q

theorem pay2_apply (v : Vec Ideal S256x2048 .f32) (g : Vec Ideal S1x2048 .f32) (a : Fin 256) (k : Fin 2048) :
    k0_pay2 (F := Ideal) v g (ix2 a k) = MM.row (fun j => v (ix2 a j)) (g (ix2 0 k)) k := by
  pointwise [k0_pay2]
  rfl

/-- The chunks' normalisations are one function. -/
theorem pay8_eq (v : Vec Ideal S256x2048 .f32) (g : Vec Ideal S1x2048 .f32) : k0_pay8 (F := Ideal) v g = k0_pay2 v g := rfl
theorem pay16_eq (v : Vec Ideal S256x2048 .f32) (g : Vec Ideal S1x2048 .f32) : k0_pay16 (F := Ideal) v g = k0_pay2 v g := rfl
theorem pay13_eq (v : Vec Ideal S256x2048 .f32) (g : Vec Ideal S1x2048 .f32) :
    k0_pay13 (F := Ideal) v (k0_pay11 g) (k0_pay12 v) = k0_pay2 v g := rfl

/-- One chunk of rows against the weight blocks. -/
theorem pay1_apply (w u : Vec Ideal S1x2048x512 .bf16) (n : Vec Ideal S256x2048 .bf16) (a : Fin 256) (b : Fin 512) :
    k0_pay1 (F := Ideal) (k0_pay6 w) (k0_pay7 u) n (ix2 a b) =
      silu (∑ k, n (ix2 a k) * w (ix3 0 k b)) (∑ k, n (ix2 a k) * u (ix3 0 k b)) := by
  unfold silu
  pointwise [k0_pay1, k0_pay6, k0_pay7]

theorem pay4_eq (w u : FVec Ideal S2048x512 .bf16) (v : Vec Ideal S256x2048 .f32) (g : Vec Ideal S1x2048 .f32) :
    k0_pay4 (F := Ideal) w u v g = k0_pay1 w u (k0_pay2 v g) := rfl
theorem pay10_eq (w u : Vec Ideal S1x2048x512 .bf16) (v : Vec Ideal S256x2048 .f32) (g : Vec Ideal S1x2048 .f32) :
    k0_pay10 (F := Ideal) w u v g = k0_pay1 (k0_pay6 w) (k0_pay7 u) (k0_pay8 v g) := rfl
theorem pay15_eq (w u : FVec Ideal S2048x512 .bf16) (v : Vec Ideal S256x2048 .f32) (g : FVec Ideal S1x2048 .f32) (q : FVec Ideal S256x2048 .f32) :
    k0_pay15 (F := Ideal) w u v g q = k0_pay1 w u (k0_pay13 v g q) := rfl

/-- A later point's block: the scratch's rows against the weight blocks. -/
theorem pay5_apply (s : Vec Ideal S1024x2048 .bf16) (w u : Vec Ideal S1x2048x512 .bf16) (a : Fin 1024) (b : Fin 512) :
    k0_pay5 (F := Ideal) s w u (ix2 a b) = silu (∑ k, s (ix2 a k) * w (ix3 0 k b)) (∑ k, s (ix2 a k) * u (ix3 0 k b)) := by
  unfold silu
  pointwise [k0_pay5]

variable (m : (ℓ : Loc nD τ sig) → Buf (Elt Ideal) ℓ) (c : Dev nD)

/-- What a row block's first point leaves in the scratch: the rows normalised. -/
theorem scr_A (t : Fin cfg0.N) (h0 : t.val % 11 = 0) (h1 : ¬1 ≤ t.val % 11) (a : Fin 1024) (k : Fin 2048) :
    (outsAt0 (F := Ideal) m c t.val t.isLt).2 (ix2 a k) =
      MM.row (fun j => (iblk (F := Ideal) m c 0 t : Vec Ideal S1024x2048 .f32) (ix2 a j)) ((iblk (F := Ideal) m c 1 t : Vec Ideal S1x2048 .f32) (ix2 0 k)) k := by
  rw [outsAt0_A m c t h0 h1]
  frame_out
  generalize (iblk (F := Ideal) m c 0 t : Vec Ideal S1024x2048 .f32) = x0
  generalize (iblk (F := Ideal) m c 1 t : Vec Ideal S1x2048 .f32) = x1
  canon_tiles x h
  all_goals
    obtain ⟨p, q, rfl⟩ : ∃ p q, x = ix2 p q := ⟨x 0, x 1, by funext i; fin_cases i <;> rfl⟩
    obtain rfl : k = q := Fin.ext h1
    first | unfold k0_pay3 | unfold k0_pay17 | unfold k0_pay14 | unfold k0_pay9
    rw [shapeCast_self]
    first | rw [pay16_eq] | rw [pay13_eq] | rw [pay8_eq] | skip
    rw [pay2_apply]
    congr 1
    funext j
    exact MM.chunk_row _ _ _ p a (by first | exact h0 | exact h0.trans (Nat.zero_add _).symm) j

/-- … and in the output's block: the gated product with the weights. -/
theorem out_A (t : Fin cfg0.N) (h0 : t.val % 11 = 0) (h1 : ¬1 ≤ t.val % 11) (a : Fin 1024) (b : Fin 512) :
    (outsAt0 (F := Ideal) m c t.val t.isLt).1 (ix2 a b) =
      silu (∑ k, MM.row (fun j => (iblk (F := Ideal) m c 0 t : Vec Ideal S1024x2048 .f32) (ix2 a j)) ((iblk (F := Ideal) m c 1 t : Vec Ideal S1x2048 .f32) (ix2 0 k)) k *
        (iblk (F := Ideal) m c 2 t : Vec Ideal S1x2048x512 .bf16) (ix3 0 k b))
        (∑ k, MM.row (fun j => (iblk (F := Ideal) m c 0 t : Vec Ideal S1024x2048 .f32) (ix2 a j)) ((iblk (F := Ideal) m c 1 t : Vec Ideal S1x2048 .f32) (ix2 0 k)) k *
        (iblk (F := Ideal) m c 3 t : Vec Ideal S1x2048x512 .bf16) (ix3 0 k b)) := by
  rw [outsAt0_A m c t h0 h1]
  frame_out
  generalize (iblk (F := Ideal) m c 0 t : Vec Ideal S1024x2048 .f32) = x0
  generalize (iblk (F := Ideal) m c 1 t : Vec Ideal S1x2048 .f32) = x1
  generalize (iblk (F := Ideal) m c 2 t : Vec Ideal S1x2048x512 .bf16) = x2
  generalize (iblk (F := Ideal) m c 3 t : Vec Ideal S1x2048x512 .bf16) = x3
  canon_tiles x h
  all_goals
    obtain ⟨p, q, rfl⟩ : ∃ p q, x = ix2 p q := ⟨x 0, x 1, by funext i; fin_cases i <;> rfl⟩
    obtain rfl : b = q := Fin.ext h1
    first | rw [pay4_eq] | rw [pay15_eq, pay13_eq] | rw [pay10_eq, pay8_eq] | rw [pay16_eq]
    refine (pay1_apply _ _ _ p b).trans ?_
    refine congrArg₂ silu ?_ ?_
    all_goals
      refine Finset.sum_congr rfl fun k _ => congrArg (· * _) ?_
      refine (pay2_apply _ _ p k).trans (MM.row_congr k (fun j => ?_) rfl)
      exact MM.chunk_row _ _ _ p a (by first | exact h0 | exact h0.trans (Nat.zero_add _).symm) j

/-- A later point of the row block multiplies what the scratch holds, and keeps it. -/
theorem out_B (t : Fin cfg0.N) (h0 : ¬t.val % 11 = 0) (h1 : 1 ≤ t.val % 11) (a : Fin 1024) (b : Fin 512) :
    (outsAt0 (F := Ideal) m c t.val t.isLt).1 (ix2 a b) =
      silu (∑ k, (outsAt0 (F := Ideal) m c (t.val - 1) (Nat.lt_of_le_of_lt (Nat.sub_le _ _) t.isLt)).2 (ix2 a k) *
        (iblk (F := Ideal) m c 2 t : Vec Ideal S1x2048x512 .bf16) (ix3 0 k b))
        (∑ k, (outsAt0 (F := Ideal) m c (t.val - 1) (Nat.lt_of_le_of_lt (Nat.sub_le _ _) t.isLt)).2 (ix2 a k) *
        (iblk (F := Ideal) m c 3 t : Vec Ideal S1x2048x512 .bf16) (ix3 0 k b)) := by
  rw [outsAt0_B m c t h0 h1]
  frame_out
  rw [pay5_apply]
  refine congrArg₂ silu ?_ ?_ <;>
  exact Finset.sum_congr rfl fun k _ => congrArg (· * _) (congrFun ((Memref.isWhole_whole cc0_scratch0).read_unread _) (ix2 a k))

theorem scr_B (t : Fin cfg0.N) (h0 : ¬t.val % 11 = 0) (h1 : 1 ≤ t.val % 11) :
    (outsAt0 (F := Ideal) m c t.val t.isLt).2 = (outsAt0 (F := Ideal) m c (t.val - 1) (Nat.lt_of_le_of_lt (Nat.sub_le _ _) t.isLt)).2 := by
  rw [outsAt0_B m c t h0 h1]
  rfl

theorem idx : ∀ t : Fin grid0.N,
    win0_0.index t = ![t.val / 11, 0] ∧ win0_1.index t = ![0, 0] ∧ win0_2.index t = ![0, 0, t.val % 11]
    ∧ win0_3.index t = ![0, 0, t.val % 11] ∧ win0_4.index t = ![t.val / 11, t.val % 11] := by decide +kernel

/-- The arguments, as launched. -/
def inp : FVec Ideal S16384x2048 .f32 := m ((c.tc : Thread nD τ).loc main_arg0)
def gain : FVec Ideal S2x2048 .f32 := m ((c.tc : Thread nD τ).loc main_arg1)
def wgate : FVec Ideal S2048x5632 .bf16 := m ((c.tc : Thread nD τ).loc main_arg2)
def wup : FVec Ideal S2048x5632 .bf16 := m ((c.tc : Thread nD τ).loc main_arg3)

theorem V4_apply (k : Fin 2048) : (V (F := Ideal) m c main_v4 : Vec Ideal S1x2048 .f32) (ix2 0 k) = gain m c (ix2 0 k) := by
  unfold gain
  entry_read
  pointwise

theorem V2_apply (k : Fin 2048) (q : Fin 5632) : (V (F := Ideal) m c main_v2 : Vec Ideal S1x2048x5632 .bf16) (ix3 0 k q) = wgate m c (ix2 k q) := by
  unfold wgate
  entry_read
  pointwise

theorem V3_apply (k : Fin 2048) (q : Fin 5632) : (V (F := Ideal) m c main_v3 : Vec Ideal S1x2048x5632 .bf16) (ix3 0 k q) = wup m c (ix2 k q) := by
  unfold wup
  entry_read
  pointwise

theorem blk0 (t : Fin cfg0.N) (a : Fin 1024) (j : Fin 2048) (r : Fin 16384) (hr : r.val = 1024 * (t.val / 11) + a.val) :
    (iblk (F := Ideal) m c 0 t : Vec Ideal S1024x2048 .f32) (ix2 a j) = inp m c (ix2 r j) := by
  obtain ⟨i0, i1, i2, i3, i4⟩ := idx t
  unfold inp
  blk_ext [iblk, V, i0]

theorem blk1 (t : Fin cfg0.N) (k : Fin 2048) :
    (iblk (F := Ideal) m c 1 t : Vec Ideal S1x2048 .f32) (ix2 0 k) = gain m c (ix2 0 k) := by
  obtain ⟨i0, i1, i2, i3, i4⟩ := idx t
  refine Eq.trans ?_ (V4_apply m c k)
  blk_ext [iblk, i1]

theorem blk2 (t : Fin cfg0.N) (k : Fin 2048) (b : Fin 512) (q : Fin 5632) (hq : q.val = 512 * (t.val % 11) + b.val) :
    (iblk (F := Ideal) m c 2 t : Vec Ideal S1x2048x512 .bf16) (ix3 0 k b) = wgate m c (ix2 k q) := by
  obtain ⟨i0, i1, i2, i3, i4⟩ := idx t
  refine Eq.trans ?_ (V2_apply m c k q)
  blk_ext [iblk, i2]

theorem blk3 (t : Fin cfg0.N) (k : Fin 2048) (b : Fin 512) (q : Fin 5632) (hq : q.val = 512 * (t.val % 11) + b.val) :
    (iblk (F := Ideal) m c 3 t : Vec Ideal S1x2048x512 .bf16) (ix3 0 k b) = wup m c (ix2 k q) := by
  obtain ⟨i0, i1, i2, i3, i4⟩ := idx t
  refine Eq.trans ?_ (V3_apply m c k q)
  blk_ext [iblk, i3]

/-- A row of the result's first factor, normalised. -/
def nrow (r : Fin 16384) (k : Fin 2048) : EReal := MM.row (fun j => inp m c (ix2 r j)) (gain m c (ix2 0 k)) k

/-- Throughout a row block the scratch holds its rows normalised. -/
theorem scr_at : ∀ (n : ℕ) (hn : n < cfg0.N) (a : Fin 1024) (k : Fin 2048) (r : Fin 16384), r.val = 1024 * (n / 11) + a.val →
    (outsAt0 (F := Ideal) m c n hn).2 (ix2 a k) =
      nrow m c r k := by
  intro n
  induction n with
  | zero =>
    intro hn a k r hr
    exact (scr_A m c ⟨0, hn⟩ (by simp) (by simp) a k).trans
      (MM.row_congr k (fun j => blk0 m c ⟨0, hn⟩ a j r hr) (blk1 m c ⟨0, hn⟩ k))
  | succ n ih =>
    intro hn a k r hr
    by_cases h : (n + 1) % 11 = 0
    · exact (scr_A m c ⟨n + 1, hn⟩ h (by dsimp only; omega) a k).trans
        (MM.row_congr k (fun j => blk0 m c ⟨n + 1, hn⟩ a j r hr) (blk1 m c ⟨n + 1, hn⟩ k))
    · exact (congrFun (scr_B m c ⟨n + 1, hn⟩ h (by dsimp only; omega)) (ix2 a k)).trans (ih _ a k r (by omega))

theorem out_at (t : Fin cfg0.N) (a : Fin 1024) (b : Fin 512) (r : Fin 16384) (q : Fin 5632)
    (hr : r.val = 1024 * (t.val / 11) + a.val) (hq : q.val = 512 * (t.val % 11) + b.val) :
    (outsAt0 (F := Ideal) m c t.val t.isLt).1 (ix2 a b) =
      silu (∑ k, nrow m c r k * wgate m c (ix2 k q)) (∑ k, nrow m c r k * wup m c (ix2 k q)) := by
  by_cases h : t.val % 11 = 0
  · refine (out_A m c t h (by omega) a b).trans (congrArg₂ silu ?_ ?_)
    · exact Finset.sum_congr rfl fun k _ =>
        congrArg₂ (· * ·) (MM.row_congr k (fun j => blk0 m c t a j r hr) (blk1 m c t k)) (blk2 m c t k b q hq)
    · exact Finset.sum_congr rfl fun k _ =>
        congrArg₂ (· * ·) (MM.row_congr k (fun j => blk0 m c t a j r hr) (blk1 m c t k)) (blk3 m c t k b q hq)
  · refine (out_B m c t h (by omega) a b).trans (congrArg₂ silu ?_ ?_)
    · exact Finset.sum_congr rfl fun k _ =>
        congrArg₂ (· * ·) (scr_at m c (t.val - 1) _ a k r (by omega)) (blk2 m c t k b q hq)
    · exact Finset.sum_congr rfl fun k _ =>
        congrArg₂ (· * ·) (scr_at m c (t.val - 1) _ a k r (by omega)) (blk3 m c t k b q hq)

theorem arr (G : Vec Ideal S16384x5632 .bf16)
    (hG : ∀ (r : Fin 16384) (q : Fin 5632), G (ix2 r q) =
      silu (∑ k, nrow m c r k * wgate m c (ix2 k q)) (∑ k, nrow m c r k * wup m c (ix2 k q))) :
    (dats (F := Ideal) m 0 c).arrAt 4 cfg0.N = G := by
  refine (dats (F := Ideal) m 0 c).arrAt_eq_of_covers 4 _ (by decide +kernel) fun t hf y => ?_
  blk_simp
  rw [after0_4]
  obtain ⟨y0, y1, rfl⟩ : ∃ a b, y = ix2 a b := ⟨y 0, y 1, by funext i; fin_cases i <;> rfl⟩
  have ht : t.val < 176 := t.isLt
  obtain ⟨i0, i1, i2, i3, i4⟩ := idx t
  have he : ((View.whole main_v5).slice (win0_4.rect t)).emb (ix2 y0 y1) =
      ix2 ⟨1024 * (t.val / 11) + y0.val, by omega⟩ ⟨512 * (t.val % 11) + y1.val, by omega⟩ := by
    blk_ext [i4]
  rw [he]
  exact (out_at m c t y0 y1 _ _ rfl rfl).trans (hG _ _).symm

end Cert.Proof.Up

namespace Cert.Proof.Up.Ref

open Cert.Reference3Ideal Cert.Reference3Ideal.Gen
open Idealize.ShloMosaic
open Idealize.ShloMosaic.TcCoe Idealize.ShloMosaic.Tactic

/-- The reference's normalised rows, their products and its result. -/
def nrm (x : FVec Ideal S16384x2048 .f32) (g : FVec Ideal S2x2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] g slices_S2x2048_S1x2048_0_0) shapeCasts_S1x2048_S2048)))

theorem nrm_apply (x : FVec Ideal S16384x2048 .f32) (g : FVec Ideal S2x2048 .f32) (a : Fin 16384) (k : Fin 2048) :
    nrm x g (ix2 a k) = MM.row (fun j => x (ix2 a j)) (g (ix2 0 k)) k := by
  unfold nrm MM.row
  pointwise

def prod (n : FVec Ideal S16384x2048 .f32) (w : FVec Ideal S2048x5632 .bf16) : FVec Ideal S16384x5632 .f32 :=
  Host.dotGeneral dot_S16384x2048_S2048x5632_S16384x5632_1_0_0_1_n_n none n (extf .f32 w bitsLt_bf16_f32)

theorem prod_apply (n : FVec Ideal S16384x2048 .f32) (w : FVec Ideal S2048x5632 .bf16) (r : Fin 16384) (q : Fin 5632) :
    prod n w (ix2 r q) = ∑ k : Fin 2048, n (ix2 r k) * w (ix2 k q) := by
  unfold prod
  pointwise

def out (p q : FVec Ideal S16384x5632 .f32) : FVec Ideal S16384x5632 .bf16 :=
  truncf .bf16 (mulf (mulf p (Host.divf (broadcastInDim S16384x5632 ![] bcast_S_S16384x5632 (constant S_ .f32 0x3F800000#32)) (addf (broadcastInDim S16384x5632 ![] bcast_S_S16384x5632 (constant S_ .f32 0x3F800000#32)) (Host.exp (Host.negf p))))) q) bitsLt_bf16_f32

theorem out_apply (p q : FVec Ideal S16384x5632 .f32) (i : Fin 16384) (j : Fin 5632) :
    out p q (ix2 i j) = silu (p (ix2 i j)) (q (ix2 i j)) := by
  unfold out silu Ideal.logistic
  pointwise

end Cert.Proof.Up.Ref

namespace Cert.Proof.Up

open Idealize.ShloMosaic

attribute [local instance] Cert.Kernel3.Gen.facts Cert.Kernel3Ideal.Gen.facts Cert.Reference3Ideal.Gen.facts

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem preserves : Cert.preserves_Kernel3_Kernel3Ideal := trivial

theorem algebraic : Cert.algebraic_Kernel3Ideal_Reference3Ideal := by
  intro m g m' g' hpre hagree
  have hr := Cert.Reference3Ideal.Value.run (F := Ideal) m' g'
  have hk := Cert.Kernel3Ideal.Value.run_blocks (F := Ideal) m g
  refine ⟨_, (θ_run Cert.Kernel3Ideal.defs _ _).mono (fun r h c => ⟨(h c).1.trans (arr m c _ (fun a b => ?_)), (h c).2⟩) hk,
    (θ_run Cert.Reference3Ideal.defs _ _).mono (fun r h c => h c) hr⟩
  obtain ⟨g0, g1, g2, g3⟩ := hagree c
  rw [g0, g1, g2, g3]
  refine (Ref.out_apply (Ref.prod (Ref.nrm _ _) _) (Ref.prod (Ref.nrm _ _) _) a b).trans ?_
  simp only [Ref.prod_apply, Ref.nrm_apply]
  rfl

end Cert.Proof.Up

end
-- ==== Proof.MM.Down.lean ====
/-
  The down projection with its residual (program 4): each point's block is the residual's plus a whole product.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.MM.Kit

@[expose] public section

set_option maxRecDepth 16384

noncomputable section

namespace Cert.Proof.Down

open Cert.Kernel4Ideal Cert.Kernel4Ideal.Gen
open Idealize.ShloMosaic
open Idealize.ShloMosaic.TcCoe Idealize.ShloMosaic.Tactic
open Idealize.ShloMosaic.Pipeline (Dat Cfg Window)

/-- What a point leaves in its block. -/
theorem out_eq (x0 : Vec Ideal S1024x5632 .bf16) (x1 : Vec Ideal S1x5632x512 .bf16) (x2 : Vec Ideal S1024x512 .f32) :
    out0_3 (F := Ideal) x0 x1 x2 = k0_pay1 x2 x0 x1 := by
  unfold out0_3 r0_0 r0_1 r0_2
  rw [View.canon_unit_zero MM.hz2, View.ld_unit_zero MM.hz2, View.ld_unit_zero MM.hz2, View.ld_unit_zero MM.hz3]

theorem pay_apply (x0 : Vec Ideal S1024x5632 .bf16) (x1 : Vec Ideal S1x5632x512 .bf16) (x2 : Vec Ideal S1024x512 .f32)
    (a : Fin 1024) (b : Fin 512) :
    k0_pay1 (F := Ideal) x2 x0 x1 (ix2 a b) = x2 (ix2 a b) + ∑ k : Fin 5632, x0 (ix2 a k) * x1 (ix3 0 k b) := by
  pointwise [k0_pay1]

theorem idx : ∀ t : Fin grid0.N,
    win0_0.index t = ![t.val / 4, 0] ∧ win0_1.index t = ![0, 0, t.val % 4]
    ∧ win0_2.index t = ![t.val / 4, t.val % 4] ∧ win0_3.index t = ![t.val / 4, t.val % 4] := by decide +kernel

variable (m : (ℓ : Loc nD τ sig) → Buf (Elt Ideal) ℓ) (c : Dev nD)

/-- The activations, the weights and the residual, as launched. -/
def act : FVec Ideal S16384x5632 .bf16 := m ((c.tc : Thread nD τ).loc main_arg0)
def wgt : FVec Ideal S5632x2048 .bf16 := m ((c.tc : Thread nD τ).loc main_arg1)
def res : FVec Ideal S16384x2048 .f32 := m ((c.tc : Thread nD τ).loc main_arg2)

theorem arr (G : Vec Ideal S16384x2048 .f32)
    (hG : ∀ (a : Fin 16384) (b : Fin 2048), G (ix2 a b) = res m c (ix2 a b) + ∑ k : Fin 5632, act m c (ix2 a k) * wgt m c (ix2 k b)) :
    (dats (F := Ideal) m 0 c).arrAt 3 cfg0.N = G := by
  have hV : ∀ (k : Fin 5632) (b : Fin 2048), (V (F := Ideal) m c main_v0 : Vec Ideal S1x5632x2048 .bf16) (ix3 0 k b) =
      wgt m c (ix2 k b) := fun k b => by
    unfold wgt
    entry_read
    pointwise
  refine (dats (F := Ideal) m 0 c).arrAt_eq_of_covers 3 _ (by decide +kernel) fun t hf y => ?_
  blk_simp
  rw [after0_3]
  obtain ⟨y0, y1, rfl⟩ : ∃ a b, y = ix2 a b := ⟨y 0, y 1, by funext i; fin_cases i <;> rfl⟩
  have ht : t.val < 64 := t.isLt
  obtain ⟨i0, i1, i2, i3⟩ := idx t
  have he : ((View.whole main_v1).slice (win0_3.rect t)).emb (ix2 y0 y1) =
      ix2 ⟨1024 * (t.val / 4) + y0.val, by omega⟩ ⟨512 * (t.val % 4) + y1.val, by omega⟩ := by
    blk_ext [i3]
  rw [he, hG, out_eq, pay_apply]
  congr 1
  · blk_ext [iblk, V, i2, res]
  · refine Finset.sum_congr rfl fun k _ => ?_
    congr 1
    · blk_ext [iblk, V, i0, act]
    · rw [← hV]
      blk_ext [iblk, i1]

theorem ref_apply (x0 : FVec Ideal Cert.Reference4Ideal.S16384x5632 .bf16) (x1 : FVec Ideal Cert.Reference4Ideal.S5632x2048 .bf16)
    (x2 : FVec Ideal Cert.Reference4Ideal.S16384x2048 .f32) (a : Fin 16384) (b : Fin 2048) :
    (addf x2 (Host.dotGeneral Cert.Reference4Ideal.dot_S16384x5632_S5632x2048_S16384x2048_1_0_0_1_n_n none
      (extf .f32 x0 Cert.Reference4Ideal.Gen.bitsLt_bf16_f32) (extf .f32 x1 Cert.Reference4Ideal.Gen.bitsLt_bf16_f32)) : FVec Ideal _ .f32) (ix2 a b) =
      x2 (ix2 a b) + ∑ k : Fin 5632, x0 (ix2 a k) * x1 (ix2 k b) := by
  pointwise

attribute [local instance] Cert.Kernel4.Gen.facts Cert.Kernel4Ideal.Gen.facts Cert.Reference4Ideal.Gen.facts

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ref : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)
theorem preserves : Cert.preserves_Kernel4_Kernel4Ideal := trivial

theorem algebraic : Cert.algebraic_Kernel4Ideal_Reference4Ideal := by
  intro m g m' g' hpre hagree
  have hr := Cert.Reference4Ideal.Value.run (F := Ideal) m' g'
  have hk := Cert.Kernel4Ideal.Value.run_blocks (F := Ideal) m g
  refine ⟨_, (θ_run Cert.Kernel4Ideal.defs _ _).mono (fun r h c => ⟨(h c).1.trans (arr m c _ (fun a b => ?_)), (h c).2⟩) hk,
    (θ_run Cert.Reference4Ideal.defs _ _).mono (fun r h c => h c) hr⟩
  obtain ⟨g0, g1, g2⟩ := hagree c
  rw [g0, g1, g2]
  exact ref_apply _ _ _ a b

end Cert.Proof.Down

end
-- ==== Proof.MM.Out.lean ====
/-
  The mixer's output projection with its residual (program 5): each point's block is the residual's plus a whole product.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.MM.Kit

@[expose] public section

set_option maxRecDepth 16384

noncomputable section

namespace Cert.Proof.Out

open Cert.Kernel5Ideal Cert.Kernel5Ideal.Gen
open Idealize.ShloMosaic
open Idealize.ShloMosaic.TcCoe Idealize.ShloMosaic.Tactic
open Idealize.ShloMosaic.Pipeline (Dat Cfg Window)

/-- What a point leaves in its block. -/
theorem out_eq (x0 : Vec Ideal S1024x2048 .bf16) (x1 : Vec Ideal S1x2048x1024 .bf16) (x2 : Vec Ideal S1024x1024 .f32) :
    out0_3 (F := Ideal) x0 x1 x2 = k0_pay1 x2 x0 x1 := by
  unfold out0_3 r0_0 r0_1 r0_2
  rw [View.canon_unit_zero MM.hz2, View.ld_unit_zero MM.hz2, View.ld_unit_zero MM.hz2, View.ld_unit_zero MM.hz3]

theorem pay_apply (x0 : Vec Ideal S1024x2048 .bf16) (x1 : Vec Ideal S1x2048x1024 .bf16) (x2 : Vec Ideal S1024x1024 .f32)
    (a : Fin 1024) (b : Fin 1024) :
    k0_pay1 (F := Ideal) x2 x0 x1 (ix2 a b) = x2 (ix2 a b) + ∑ k : Fin 2048, x0 (ix2 a k) * x1 (ix3 0 k b) := by
  pointwise [k0_pay1]

theorem idx : ∀ t : Fin grid0.N,
    win0_0.index t = ![t.val / 2, 0] ∧ win0_1.index t = ![0, 0, t.val % 2]
    ∧ win0_2.index t = ![t.val / 2, t.val % 2] ∧ win0_3.index t = ![t.val / 2, t.val % 2] := by decide +kernel

variable (m : (ℓ : Loc nD τ sig) → Buf (Elt Ideal) ℓ) (c : Dev nD)

/-- The activations, the weights and the residual, as launched. -/
def mix : FVec Ideal S16384x2048 .bf16 := m ((c.tc : Thread nD τ).loc main_arg0)
def wgt : FVec Ideal S2048x2048 .bf16 := m ((c.tc : Thread nD τ).loc main_arg1)
def res : FVec Ideal S16384x2048 .f32 := m ((c.tc : Thread nD τ).loc main_arg2)

theorem arr (G : Vec Ideal S16384x2048 .f32)
    (hG : ∀ (a : Fin 16384) (b : Fin 2048), G (ix2 a b) = res m c (ix2 a b) + ∑ k : Fin 2048, mix m c (ix2 a k) * wgt m c (ix2 k b)) :
    (dats (F := Ideal) m 0 c).arrAt 3 cfg0.N = G := by
  have hV : ∀ (k : Fin 2048) (b : Fin 2048), (V (F := Ideal) m c main_v0 : Vec Ideal S1x2048x2048 .bf16) (ix3 0 k b) =
      wgt m c (ix2 k b) := fun k b => by
    unfold wgt
    entry_read
    pointwise
  refine (dats (F := Ideal) m 0 c).arrAt_eq_of_covers 3 _ (by decide +kernel) fun t hf y => ?_
  blk_simp
  rw [after0_3]
  obtain ⟨y0, y1, rfl⟩ : ∃ a b, y = ix2 a b := ⟨y 0, y 1, by funext i; fin_cases i <;> rfl⟩
  have ht : t.val < 32 := t.isLt
  obtain ⟨i0, i1, i2, i3⟩ := idx t
  have he : ((View.whole main_v1).slice (win0_3.rect t)).emb (ix2 y0 y1) =
      ix2 ⟨1024 * (t.val / 2) + y0.val, by omega⟩ ⟨1024 * (t.val % 2) + y1.val, by omega⟩ := by
    blk_ext [i3]
  rw [he, hG, out_eq, pay_apply]
  congr 1
  · blk_ext [iblk, V, i2, res]
  · refine Finset.sum_congr rfl fun k _ => ?_
    congr 1
    · blk_ext [iblk, V, i0, mix]
    · rw [← hV]
      blk_ext [iblk, i1]

theorem ref_apply (x0 : FVec Ideal Cert.Reference5Ideal.S16384x2048 .bf16) (x1 : FVec Ideal Cert.Reference5Ideal.S2048x2048 .bf16)
    (x2 : FVec Ideal Cert.Reference5Ideal.S16384x2048 .f32) (a : Fin 16384) (b : Fin 2048) :
    (addf x2 (Host.dotGeneral Cert.Reference5Ideal.dot_S16384x2048_S2048x2048_S16384x2048_1_0_0_1_n_n none
      (extf .f32 x0 Cert.Reference5Ideal.Gen.bitsLt_bf16_f32) (extf .f32 x1 Cert.Reference5Ideal.Gen.bitsLt_bf16_f32)) : FVec Ideal _ .f32) (ix2 a b) =
      x2 (ix2 a b) + ∑ k : Fin 2048, x0 (ix2 a k) * x1 (ix2 k b) := by
  pointwise

attribute [local instance] Cert.Kernel5.Gen.facts Cert.Kernel5Ideal.Gen.facts Cert.Reference5Ideal.Gen.facts

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_ref : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)
theorem preserves : Cert.preserves_Kernel5_Kernel5Ideal := trivial

theorem algebraic : Cert.algebraic_Kernel5Ideal_Reference5Ideal := by
  intro m g m' g' hpre hagree
  have hr := Cert.Reference5Ideal.Value.run (F := Ideal) m' g'
  have hk := Cert.Kernel5Ideal.Value.run_blocks (F := Ideal) m g
  refine ⟨_, (θ_run Cert.Kernel5Ideal.defs _ _).mono (fun r h c => ⟨(h c).1.trans (arr m c _ (fun a b => ?_)), (h c).2⟩) hk,
    (θ_run Cert.Reference5Ideal.defs _ _).mono (fun r h c => h c) hr⟩
  obtain ⟨g0, g1, g2⟩ := hagree c
  rw [g0, g1, g2]
  exact ref_apply _ _ _ a b

end Cert.Proof.Out

end
-- ==== Proof.MM.Final.lean ====
/-
  The last layer's down-projection with its residual and the final normalisation (program 6).
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.MM.Kit

@[expose] public section

set_option maxRecDepth 16384

noncomputable section

namespace Cert.Proof.Final

open Cert.Kernel6Ideal Cert.Kernel6Ideal.Gen
open Idealize.ShloMosaic
open Idealize.ShloMosaic.TcCoe Idealize.ShloMosaic.Tactic
open Idealize.ShloMosaic.Pipeline (Dat Cfg Window)

/-- One step's share of the product added to what the block holds. -/
def step (s : Fin 2048 → EReal) (x : Fin 512 → EReal) (w : Fin 512 → Fin 2048 → EReal) (b : Fin 2048) : EReal :=
  s b + ∑ k, x k * w k b

theorem pay1_apply (s : Vec Ideal S1024x2048 .f32) (x : Vec Ideal S1024x512 .bf16) (w : Vec Ideal S1x512x2048 .bf16) (a : Fin 1024) (b : Fin 2048) :
    k0_pay1 (F := Ideal) s x w (ix2 a b) = step (fun b => s (ix2 a b)) (fun k => x (ix2 a k)) (fun k b => w (ix3 0 k b)) b := by
  unfold step
  pointwise [k0_pay1]

theorem pay2_eq (s : Vec Ideal S1024x2048 .f32) (x : Vec Ideal S1024x512 .bf16) (w : Vec Ideal S1x512x2048 .bf16) :
    k0_pay2 (F := Ideal) s x w = k0_pay1 s x w := by
  unfold k0_pay2 k0_pay1
  rw [shapeCast_self]

/-- A chunk of the last step: the sum completed, and its rows normalised. -/
theorem pay6_apply (w : Vec Ideal S1x512x2048 .bf16) (s : Vec Ideal S256x2048 .f32) (x : Vec Ideal S256x512 .bf16) (a : Fin 256) (b : Fin 2048) :
    k0_pay6 (F := Ideal) w s x (ix2 a b) = step (fun b => s (ix2 a b)) (fun k => x (ix2 a k)) (fun k b => w (ix3 0 k b)) b := by
  unfold step
  pointwise [k0_pay6, k0_pay4]

theorem pay3_apply (y : FVec Ideal S256x2048 .f32) (g : Vec Ideal S1x2048 .f32) (a : Fin 256) (k : Fin 2048) :
    k0_pay3 (F := Ideal) y (k0_pay12 g) (mulf y y) (ix2 a k) = MM.row (fun j => y (ix2 a j)) (g (ix2 0 k)) k := by
  pointwise [k0_pay3, k0_pay12]
  rfl

theorem pay13_eq (w : Vec Ideal S1x512x2048 .bf16) (s : Vec Ideal S256x2048 .f32) (x : Vec Ideal S256x512 .bf16) (g : Vec Ideal S1x2048 .f32) :
    k0_pay3 (F := Ideal) (k0_pay11 (k0_pay4 w) s x) (k0_pay12 g) (k0_pay13 (k0_pay4 w) s x) = k0_pay3 (k0_pay6 w s x) (k0_pay12 g) (mulf (k0_pay6 w s x) (k0_pay6 w s x)) := rfl
theorem pay5_eq (w : Vec Ideal S1x512x2048 .bf16) (s : Vec Ideal S256x2048 .f32) (x : Vec Ideal S256x512 .bf16) (g : Vec Ideal S1x2048 .f32) :
    k0_pay5 (F := Ideal) w s x g = k0_pay3 (k0_pay6 w s x) (k0_pay12 g) (mulf (k0_pay6 w s x) (k0_pay6 w s x)) := rfl
theorem pay10_eq (w : Vec Ideal S1x512x2048 .bf16) (s : Vec Ideal S256x2048 .f32) (x : Vec Ideal S256x512 .bf16) (g : Vec Ideal S1x2048 .f32) :
    k0_pay10 (F := Ideal) (k0_pay4 w) s x g = k0_pay3 (k0_pay6 w s x) (k0_pay12 g) (mulf (k0_pay6 w s x) (k0_pay6 w s x)) := rfl
theorem pay9_eq (w : Vec Ideal S1x512x2048 .bf16) (s : Vec Ideal S256x2048 .f32) (x : Vec Ideal S256x512 .bf16) (g : Vec Ideal S1x2048 .f32) :
    k0_pay9 (F := Ideal) (k0_pay6 w s x) (k0_pay7 g) (k0_pay8 w s x) (Scalar.ofBits .f32 0x358637BD#32) = k0_pay3 (k0_pay6 w s x) (k0_pay12 g) (mulf (k0_pay6 w s x) (k0_pay6 w s x)) := rfl

variable (m : (ℓ : Loc nD τ sig) → Buf (Elt Ideal) ℓ) (c : Dev nD)

theorem out_A (t : Fin cfg0.N) (h0 : t.val % 11 = 0) (h1 : ¬(1 ≤ t.val % 11 ∧ t.val % 11 ≤ 9)) (h2 : ¬t.val % 11 = 10) :
    outsAt0 (F := Ideal) m c t.val t.isLt =
      k0_pay1 (iblk (F := Ideal) m c 2 t : Vec Ideal S1024x2048 .f32) (iblk (F := Ideal) m c 0 t : Vec Ideal S1024x512 .bf16) (iblk (F := Ideal) m c 1 t : Vec Ideal S1x512x2048 .bf16) := by
  rw [outsAt0_A m c t h0 h1 h2]
  frame_out

theorem out_B (t : Fin cfg0.N) (h0 : ¬t.val % 11 = 0) (h1 : (1 ≤ t.val % 11 ∧ t.val % 11 ≤ 9)) (h2 : ¬t.val % 11 = 10) :
    outsAt0 (F := Ideal) m c t.val t.isLt =
      k0_pay1 (outsAt0 (F := Ideal) m c (t.val - 1) (Nat.lt_of_le_of_lt (Nat.sub_le _ _) t.isLt)) (iblk (F := Ideal) m c 0 t : Vec Ideal S1024x512 .bf16) (iblk (F := Ideal) m c 1 t : Vec Ideal S1x512x2048 .bf16) := by
  rw [outsAt0_B m c t h0 h1 h2]
  frame_out
  exact pay2_eq _ _ _

theorem out_C (t : Fin cfg0.N) (h0 : ¬t.val % 11 = 0) (h1 : ¬(1 ≤ t.val % 11 ∧ t.val % 11 ≤ 9)) (h2 : t.val % 11 = 10) (a : Fin 1024) (k : Fin 2048) :
    outsAt0 (F := Ideal) m c t.val t.isLt (ix2 a k) =
      MM.row (fun b => k0_pay1 (outsAt0 (F := Ideal) m c (t.val - 1) (Nat.lt_of_le_of_lt (Nat.sub_le _ _) t.isLt)) (iblk (F := Ideal) m c 0 t : Vec Ideal S1024x512 .bf16) (iblk (F := Ideal) m c 1 t : Vec Ideal S1x512x2048 .bf16) (ix2 a b))
        ((iblk (F := Ideal) m c 3 t : Vec Ideal S1x2048 .f32) (ix2 0 k)) k := by
  rw [outsAt0_C m c t h0 h1 h2]
  frame_out
  generalize outsAt0 (F := Ideal) m c (t.val - 1) _ = s
  generalize (iblk (F := Ideal) m c 0 t : Vec Ideal S1024x512 .bf16) = x0
  generalize (iblk (F := Ideal) m c 1 t : Vec Ideal S1x512x2048 .bf16) = x1
  generalize (iblk (F := Ideal) m c 3 t : Vec Ideal S1x2048 .f32) = x3
  canon_tiles x h
  all_goals
    obtain ⟨p, q, rfl⟩ : ∃ p q, x = ix2 p q := ⟨x 0, x 1, by funext i; fin_cases i <;> rfl⟩
    obtain rfl : k = q := Fin.ext h1
    first | rw [pay13_eq] | rw [pay10_eq] | rw [pay5_eq] | refine (congrFun (pay9_eq _ _ _ _) _).trans ?_
    refine (pay3_apply _ _ p k).trans (MM.row_congr k (fun b => ?_) rfl)
    refine (pay6_apply _ _ _ p b).trans (Eq.trans ?_ (pay1_apply _ _ _ a b).symm)
    unfold step
    exact congrArg₂ (· + ·) (MM.chunk_row s _ _ p a (by first | exact h0 | exact h0.trans (Nat.zero_add _).symm) b)
      (Finset.sum_congr rfl fun j _ => congrArg (· * _) (MM.chunk_row (x0 : Vec Ideal S1024x512 .bf16) _ _ p a
        (by first | exact h0 | exact h0.trans (Nat.zero_add _).symm) j))

theorem idx : ∀ t : Fin grid0.N,
    win0_0.index t = ![t.val / 11, t.val % 11] ∧ win0_1.index t = ![0, t.val % 11, 0] ∧ win0_2.index t = ![t.val / 11, 0]
    ∧ win0_3.index t = ![0, 0] ∧ win0_4.index t = ![t.val / 11, 0] := by decide +kernel

theorem flush4 : ∀ t : Fin cfg0.N, (cfg0.win 4).flush t = true → t.val % 11 = 10 := by decide +kernel

/-- The arguments, as launched. -/
def act : FVec Ideal S16384x5632 .bf16 := m ((c.tc : Thread nD τ).loc main_arg0)
def wgt : FVec Ideal S5632x2048 .bf16 := m ((c.tc : Thread nD τ).loc main_arg1)
def res : FVec Ideal S16384x2048 .f32 := m ((c.tc : Thread nD τ).loc main_arg2)
def gain : FVec Ideal S2048 .f32 := m ((c.tc : Thread nD τ).loc main_arg3)

theorem V0_apply (k : Fin 5632) (b : Fin 2048) : (V (F := Ideal) m c main_v0 : Vec Ideal S1x5632x2048 .bf16) (ix3 0 k b) = wgt m c (ix2 k b) := by
  unfold wgt
  entry_read
  pointwise

theorem V1_apply (k : Fin 2048) : (V (F := Ideal) m c main_v1 : Vec Ideal S1x2048 .f32) (ix2 0 k) = gain m c (ix1 k) := by
  unfold gain
  entry_read
  pointwise

theorem blk0 (t : Fin cfg0.N) (a : Fin 1024) (j : Fin 512) (r : Fin 16384) (q : Fin 5632)
    (hr : r.val = 1024 * (t.val / 11) + a.val) (hq : q.val = 512 * (t.val % 11) + j.val) :
    (iblk (F := Ideal) m c 0 t : Vec Ideal S1024x512 .bf16) (ix2 a j) = act m c (ix2 r q) := by
  obtain ⟨i0, i1, i2, i3, i4⟩ := idx t
  unfold act
  blk_ext [iblk, V, i0]

theorem blk1 (t : Fin cfg0.N) (j : Fin 512) (b : Fin 2048) (q : Fin 5632) (hq : q.val = 512 * (t.val % 11) + j.val) :
    (iblk (F := Ideal) m c 1 t : Vec Ideal S1x512x2048 .bf16) (ix3 0 j b) = wgt m c (ix2 q b) := by
  obtain ⟨i0, i1, i2, i3, i4⟩ := idx t
  refine Eq.trans ?_ (V0_apply m c q b)
  blk_ext [iblk, i1]

theorem blk2 (t : Fin cfg0.N) (a : Fin 1024) (b : Fin 2048) (r : Fin 16384) (hr : r.val = 1024 * (t.val / 11) + a.val) :
    (iblk (F := Ideal) m c 2 t : Vec Ideal S1024x2048 .f32) (ix2 a b) = res m c (ix2 r b) := by
  obtain ⟨i0, i1, i2, i3, i4⟩ := idx t
  unfold res
  blk_ext [iblk, V, i2]

theorem blk3 (t : Fin cfg0.N) (k : Fin 2048) :
    (iblk (F := Ideal) m c 3 t : Vec Ideal S1x2048 .f32) (ix2 0 k) = gain m c (ix1 k) := by
  obtain ⟨i0, i1, i2, i3, i4⟩ := idx t
  refine Eq.trans ?_ (V1_apply m c k)
  blk_ext [iblk, i3]

/-- Step `i`'s share of the product at `(r, b)`. -/
def part (r : Fin 16384) (b : Fin 2048) (i : ℕ) : EReal :=
  ∑ j : Fin 512, act m c (ix2 r ⟨(512 * i + j.val) % 5632, Nat.mod_lt _ (by decide)⟩) * wgt m c (ix2 ⟨(512 * i + j.val) % 5632, Nat.mod_lt _ (by decide)⟩ b)

/-- A block of rows times a block of weights, at `(a, b)`. -/
def prod (x : Vec Ideal S1024x512 .bf16) (w : Vec Ideal S1x512x2048 .bf16) (a : Fin 1024) (b : Fin 2048) : EReal :=
  ∑ j : Fin 512, x (ix2 a j) * w (ix3 0 j b)

theorem part_at (t : Fin cfg0.N) (a : Fin 1024) (b : Fin 2048) (r : Fin 16384) (hr : r.val = 1024 * (t.val / 11) + a.val) :
    prod (iblk (F := Ideal) m c 0 t : Vec Ideal S1024x512 .bf16) (iblk (F := Ideal) m c 1 t : Vec Ideal S1x512x2048 .bf16) a b =
      part m c r b (t.val % 11) :=
  Finset.sum_congr rfl fun j _ => congrArg₂ (· * ·)
    (blk0 m c t a j r _ hr (by have := j.isLt; show (512 * (t.val % 11) + j.val) % 5632 = _; omega)) (blk1 m c t j b _ (by have := j.isLt; show (512 * (t.val % 11) + j.val) % 5632 = _; omega))

/-- All the steps' shares are the whole product. -/
theorem part_sum (r : Fin 16384) (b : Fin 2048) :
    ∑ i ∈ Finset.range 11, part m c r b i = ∑ k : Fin 5632, act m c (ix2 r k) * wgt m c (ix2 k b) := by
  rw [Finset.sum_range]
  unfold part
  rw [← Fintype.sum_prod_type' (f := fun (i : Fin 11) (j : Fin 512) =>
    act m c (ix2 r ⟨(512 * i.val + j.val) % 5632, Nat.mod_lt _ (by decide)⟩) * wgt m c (ix2 ⟨(512 * i.val + j.val) % 5632, Nat.mod_lt _ (by decide)⟩ b))]
  refine Fintype.sum_equiv (finProdFinEquiv (m := 11) (n := 512)) _ _ fun ij => ?_
  have e : (⟨(512 * ij.1.val + ij.2.val) % 5632, Nat.mod_lt _ (by decide)⟩ : Fin 5632) = finProdFinEquiv ij := by
    refine Fin.ext ?_
    have h1 := ij.1.isLt
    have h2 := ij.2.isLt
    show (512 * ij.1.val + ij.2.val) % 5632 = ij.2.val + 512 * ij.1.val
    omega
  rw [e]

/-- Up to the last step the block holds the residual and the steps' shares so far. -/
theorem acc_at : ∀ (n : ℕ) (hn : n < cfg0.N), n % 11 ≤ 9 → ∀ (a : Fin 1024) (b : Fin 2048) (r : Fin 16384), r.val = 1024 * (n / 11) + a.val →
    outsAt0 (F := Ideal) m c n hn (ix2 a b) = res m c (ix2 r b) + ∑ i ∈ Finset.range (n % 11 + 1), part m c r b i := by
  intro n
  induction n with
  | zero =>
    intro hn h9 a b r hr
    refine (congrFun (out_A m c ⟨0, hn⟩ (by simp) (by simp) (by simp)) (ix2 a b)).trans ((pay1_apply _ _ _ a b).trans ?_)
    exact congrArg₂ (· + ·) (blk2 m c ⟨0, hn⟩ a b r hr) ((part_at m c ⟨0, hn⟩ a b r hr).trans (Finset.sum_range_one _).symm)
  | succ n ih =>
    intro hn h9 a b r hr
    by_cases h : (n + 1) % 11 = 0
    · refine (congrFun (out_A m c ⟨n + 1, hn⟩ h (by dsimp only; omega) (by dsimp only; omega)) (ix2 a b)).trans ((pay1_apply _ _ _ a b).trans ?_)
      refine congrArg₂ (· + ·) (blk2 m c ⟨n + 1, hn⟩ a b r hr) ((part_at m c ⟨n + 1, hn⟩ a b r hr).trans ?_)
      rw [h]
      exact (Finset.sum_range_one _).symm
    · refine (congrFun (out_B m c ⟨n + 1, hn⟩ h (by dsimp only; omega) (by dsimp only; omega)) (ix2 a b)).trans ((pay1_apply _ _ _ a b).trans ?_)
      have hs : (n + 1) % 11 = n % 11 + 1 := by omega
      refine (congrArg₂ (· + ·) (ih (Nat.lt_of_succ_lt hn) (by omega) a b r (by omega)) (part_at m c ⟨n + 1, hn⟩ a b r hr)).trans ?_
      rw [hs, Finset.sum_range_succ _ (n % 11 + 1), add_assoc]

/-- A row of the residual plus the product. -/
def sums (r : Fin 16384) (b : Fin 2048) : EReal := res m c (ix2 r b) + ∑ k : Fin 5632, act m c (ix2 r k) * wgt m c (ix2 k b)

theorem out_at (t : Fin cfg0.N) (h : t.val % 11 = 10) (a : Fin 1024) (k : Fin 2048) (r : Fin 16384) (hr : r.val = 1024 * (t.val / 11) + a.val) :
    outsAt0 (F := Ideal) m c t.val t.isLt (ix2 a k) = MM.row (sums m c r) (gain m c (ix1 k)) k := by
  refine (out_C m c t (by omega) (by omega) h a k).trans (MM.row_congr k (fun b => ?_) (blk3 m c t k))
  refine (pay1_apply _ _ _ a b).trans ?_
  refine (congrArg₂ (· + ·) (acc_at m c (t.val - 1) _ (by omega) a b r (by omega)) (part_at m c t a b r hr)).trans ?_
  rw [add_assoc, h, show (t.val - 1) % 11 + 1 = 10 from by omega, ← Finset.sum_range_succ, part_sum]
  rfl

theorem arr (G : Vec Ideal S16384x2048 .f32)
    (hG : ∀ (r : Fin 16384) (k : Fin 2048), G (ix2 r k) = MM.row (sums m c r) (gain m c (ix1 k)) k) :
    (dats (F := Ideal) m 0 c).arrAt 4 cfg0.N = G := by
  refine (dats (F := Ideal) m 0 c).arrAt_eq_of_covers 4 _ (by decide +kernel) fun t hf y => ?_
  blk_simp
  rw [after0_4]
  obtain ⟨y0, y1, rfl⟩ : ∃ a b, y = ix2 a b := ⟨y 0, y 1, by funext i; fin_cases i <;> rfl⟩
  have ht : t.val < 176 := t.isLt
  obtain ⟨i0, i1, i2, i3, i4⟩ := idx t
  have he : ((View.whole main_v2).slice (win0_4.rect t)).emb (ix2 y0 y1) =
      ix2 ⟨1024 * (t.val / 11) + y0.val, by omega⟩ y1 := by
    blk_ext [i4]
  rw [he]
  exact (out_at m c t (flush4 t hf) y0 y1 _ rfl).trans (hG _ _).symm

end Cert.Proof.Final

namespace Cert.Proof.Final.Ref

open Cert.Reference6Ideal Cert.Reference6Ideal.Gen
open Idealize.ShloMosaic
open Idealize.ShloMosaic.TcCoe Idealize.ShloMosaic.Tactic

/-- The reference's sums and its result. -/
def sums (x : FVec Ideal S16384x5632 .bf16) (w : FVec Ideal S5632x2048 .bf16) (h : FVec Ideal S16384x2048 .f32) : FVec Ideal S16384x2048 .f32 :=
  addf h (Host.dotGeneral dot_S16384x5632_S5632x2048_S16384x2048_1_0_0_1_n_n none (extf .f32 x bitsLt_bf16_f32) (extf .f32 w bitsLt_bf16_f32))

theorem sums_apply (x : FVec Ideal S16384x5632 .bf16) (w : FVec Ideal S5632x2048 .bf16) (h : FVec Ideal S16384x2048 .f32) (a : Fin 16384) (b : Fin 2048) :
    sums x w h (ix2 a b) = h (ix2 a b) + ∑ k : Fin 5632, x (ix2 a k) * w (ix2 k b) := by
  unfold sums
  pointwise

def out (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem out_apply (x : FVec Ideal S16384x2048 .f32) (g : FVec Ideal S2048 .f32) (a : Fin 16384) (k : Fin 2048) :
    out x g (ix2 a k) = MM.row (fun j => x (ix2 a j)) (g (ix1 k)) k := by
  unfold out MM.row
  pointwise

end Cert.Proof.Final.Ref

namespace Cert.Proof.Final

open Idealize.ShloMosaic

attribute [local instance] Cert.Kernel6.Gen.facts Cert.Kernel6Ideal.Gen.facts Cert.Reference6Ideal.Gen.facts

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_ref : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)
theorem preserves : Cert.preserves_Kernel6_Kernel6Ideal := trivial

theorem algebraic : Cert.algebraic_Kernel6Ideal_Reference6Ideal := by
  intro m g m' g' hpre hagree
  have hr := Cert.Reference6Ideal.Value.run (F := Ideal) m' g'
  have hk := Cert.Kernel6Ideal.Value.run_blocks (F := Ideal) m g
  refine ⟨_, (θ_run Cert.Kernel6Ideal.defs _ _).mono (fun r h c => ⟨(h c).1.trans (arr m c _ (fun a b => ?_)), (h c).2⟩) hk,
    (θ_run Cert.Reference6Ideal.defs _ _).mono (fun r h c => h c) hr⟩
  obtain ⟨g0, g1, g2, g3⟩ := hagree c
  rw [g0, g1, g2, g3]
  refine (Ref.out_apply (Ref.sums _ _ _) _ a b).trans ?_
  simp only [Ref.sums_apply]
  rfl

end Cert.Proof.Final

end
-- ==== Proof.MM.Branch.lean ====
/-
  The three branch projections under their gates (program 7).
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.MM.Kit

@[expose] public section

set_option maxRecDepth 16384

noncomputable section

namespace Cert.Proof.Branch

open Cert.Kernel7Ideal Cert.Kernel7Ideal.Gen
open Idealize.ShloMosaic
open Idealize.ShloMosaic.TcCoe Idealize.ShloMosaic.Tactic
open Idealize.ShloMosaic.Pipeline (Dat Cfg Window)

/-- What a point leaves in its block. -/
theorem out_eq (x0 x1 x2 x3 x4 x5 : Vec Ideal S1024x1024 .bf16) (x6 x7 x8 : Vec Ideal S1x1024x1024 .bf16) :
    out0_9 (F := Ideal) x0 x1 x2 x3 x4 x5 x6 x7 x8 = k0_pay1 x3 x0 x6 x4 x1 x7 x5 x2 x8 := by
  unfold out0_9 r0_0 r0_1
  rw [View.canon_unit_zero MM.hz2, View.ld_unit_zero MM.hz2, View.ld_unit_zero MM.hz2, View.ld_unit_zero MM.hz3,
    View.ld_unit_zero MM.hz2, View.ld_unit_zero MM.hz2, View.ld_unit_zero MM.hz3,
    View.ld_unit_zero MM.hz2, View.ld_unit_zero MM.hz2, View.ld_unit_zero MM.hz3]

theorem pay_apply (x0 x1 x2 x3 x4 x5 : Vec Ideal S1024x1024 .bf16) (x6 x7 x8 : Vec Ideal S1x1024x1024 .bf16) (a b : Fin 1024) :
    k0_pay1 (F := Ideal) x3 x0 x6 x4 x1 x7 x5 x2 x8 (ix2 a b) =
      Ideal.logistic (x3 (ix2 a b)) * (∑ k : Fin 1024, x0 (ix2 a k) * x6 (ix3 0 k b)) +
      Ideal.logistic (x4 (ix2 a b)) * (∑ k : Fin 1024, x1 (ix2 a k) * x7 (ix3 0 k b)) +
      Ideal.logistic (x5 (ix2 a b)) * (∑ k : Fin 1024, x2 (ix2 a k) * x8 (ix3 0 k b)) := by
  pointwise [k0_pay1]

theorem idx_y : ∀ t : Fin grid0.N,
    win0_0.index t = ![t.val / 2, 0] ∧ win0_1.index t = ![t.val / 2, 0] ∧ win0_2.index t = ![t.val / 2, 0]
    ∧ win0_9.index t = ![t.val / 2, t.val % 2] := by decide +kernel
theorem idx_g : ∀ t : Fin grid0.N,
    win0_3.index t = ![t.val / 2, 7 + t.val % 2] ∧ win0_4.index t = ![t.val / 2, 9 + t.val % 2]
    ∧ win0_5.index t = ![t.val / 2, 11 + t.val % 2] := by decide +kernel
theorem idx_w : ∀ t : Fin grid0.N,
    win0_6.index t = ![0, 0, t.val % 2] ∧ win0_7.index t = ![0, 0, t.val % 2] ∧ win0_8.index t = ![0, 0, t.val % 2] := by decide +kernel

variable (m : (ℓ : Loc nD τ sig) → Buf (Elt Ideal) ℓ) (c : Dev nD)

/-- The arrays as launched: the branches' results, the projection that holds the gates, and the branches' weights. -/
def ya : FVec Ideal S4x4096x1024 .bf16 := m ((c.tc : Thread nD τ).loc main_arg0)
def yb : FVec Ideal S16384x1024 .bf16 := m ((c.tc : Thread nD τ).loc main_arg1)
def yc : FVec Ideal S4x4096x1024 .bf16 := m ((c.tc : Thread nD τ).loc main_arg2)
def proj : FVec Ideal S16384x13312 .bf16 := m ((c.tc : Thread nD τ).loc main_arg3)
def wa : FVec Ideal S1024x2048 .bf16 := m ((c.tc : Thread nD τ).loc main_arg4)
def wb : FVec Ideal S1024x2048 .bf16 := m ((c.tc : Thread nD τ).loc main_arg5)
def wc : FVec Ideal S1024x2048 .bf16 := m ((c.tc : Thread nD τ).loc main_arg6)

/-- The merged activations, index by index. -/
def val (ya yc : FVec Ideal S4x4096x1024 .bf16) (yb : FVec Ideal S16384x1024 .bf16) (proj : FVec Ideal S16384x13312 .bf16)
    (wa wb wc : FVec Ideal S1024x2048 .bf16) (a : Fin 16384) (b : Fin 2048) : EReal :=
  Ideal.logistic (proj (ix2 a ⟨7168 + b.val, by omega⟩)) *
      (∑ k : Fin 1024, ya (ix3 ⟨a.val / 4096, by omega⟩ ⟨a.val % 4096, by omega⟩ k) * wa (ix2 k b)) +
    Ideal.logistic (proj (ix2 a ⟨9216 + b.val, by omega⟩)) * (∑ k : Fin 1024, yb (ix2 a k) * wb (ix2 k b)) +
    Ideal.logistic (proj (ix2 a ⟨11264 + b.val, by omega⟩)) *
      (∑ k : Fin 1024, yc (ix3 ⟨a.val / 4096, by omega⟩ ⟨a.val % 4096, by omega⟩ k) * wc (ix2 k b))

/-! ## The input blocks of a point -/

theorem blk_ya (t : Fin cfg0.N) (a k : Fin 1024) (p : Fin 16384) (hp : p.val = 1024 * (t.val / 2) + a.val) :
    (iblk (F := Ideal) m c 0 t : Vec Ideal S1024x1024 .bf16) (ix2 a k) =
      ya m c (ix3 ⟨p.val / 4096, by omega⟩ ⟨p.val % 4096, by omega⟩ k) := by
  have hV : (V (F := Ideal) m c main_v0 : Vec Ideal S16384x1024 .bf16) (ix2 p k) =
      ya m c (ix3 ⟨p.val / 4096, by omega⟩ ⟨p.val % 4096, by omega⟩ k) := by
    unfold ya
    entry_read
    pointwise
  refine Eq.trans ?_ hV
  obtain ⟨i0, i1, i2, i9⟩ := idx_y t
  blk_ext [iblk, i0]

theorem blk_yb (t : Fin cfg0.N) (a k : Fin 1024) (p : Fin 16384) (hp : p.val = 1024 * (t.val / 2) + a.val) :
    (iblk (F := Ideal) m c 1 t : Vec Ideal S1024x1024 .bf16) (ix2 a k) = yb m c (ix2 p k) := by
  obtain ⟨i0, i1, i2, i9⟩ := idx_y t
  unfold yb
  blk_ext [iblk, V, i1]

theorem blk_yc (t : Fin cfg0.N) (a k : Fin 1024) (p : Fin 16384) (hp : p.val = 1024 * (t.val / 2) + a.val) :
    (iblk (F := Ideal) m c 2 t : Vec Ideal S1024x1024 .bf16) (ix2 a k) =
      yc m c (ix3 ⟨p.val / 4096, by omega⟩ ⟨p.val % 4096, by omega⟩ k) := by
  have hV : (V (F := Ideal) m c main_v1 : Vec Ideal S16384x1024 .bf16) (ix2 p k) =
      yc m c (ix3 ⟨p.val / 4096, by omega⟩ ⟨p.val % 4096, by omega⟩ k) := by
    unfold yc
    entry_read
    pointwise
  refine Eq.trans ?_ hV
  obtain ⟨i0, i1, i2, i9⟩ := idx_y t
  blk_ext [iblk, i2]

theorem blk_g0 (t : Fin cfg0.N) (a b : Fin 1024) (p : Fin 16384) (q : Fin 13312) (hp : p.val = 1024 * (t.val / 2) + a.val)
    (hq : q.val = 7168 + 1024 * (t.val % 2) + b.val) :
    (iblk (F := Ideal) m c 3 t : Vec Ideal S1024x1024 .bf16) (ix2 a b) = proj m c (ix2 p q) := by
  obtain ⟨i3, i4, i5⟩ := idx_g t
  unfold proj
  blk_ext [iblk, V, i3]

theorem blk_g1 (t : Fin cfg0.N) (a b : Fin 1024) (p : Fin 16384) (q : Fin 13312) (hp : p.val = 1024 * (t.val / 2) + a.val)
    (hq : q.val = 9216 + 1024 * (t.val % 2) + b.val) :
    (iblk (F := Ideal) m c 4 t : Vec Ideal S1024x1024 .bf16) (ix2 a b) = proj m c (ix2 p q) := by
  obtain ⟨i3, i4, i5⟩ := idx_g t
  unfold proj
  blk_ext [iblk, V, i4]

theorem blk_g2 (t : Fin cfg0.N) (a b : Fin 1024) (p : Fin 16384) (q : Fin 13312) (hp : p.val = 1024 * (t.val / 2) + a.val)
    (hq : q.val = 11264 + 1024 * (t.val % 2) + b.val) :
    (iblk (F := Ideal) m c 5 t : Vec Ideal S1024x1024 .bf16) (ix2 a b) = proj m c (ix2 p q) := by
  obtain ⟨i3, i4, i5⟩ := idx_g t
  unfold proj
  blk_ext [iblk, V, i5]

theorem blk_wa (t : Fin cfg0.N) (k b : Fin 1024) (q : Fin 2048) (hq : q.val = 1024 * (t.val % 2) + b.val) :
    (iblk (F := Ideal) m c 6 t : Vec Ideal S1x1024x1024 .bf16) (ix3 0 k b) = wa m c (ix2 k q) := by
  have hV : (V (F := Ideal) m c main_v2 : Vec Ideal S1x1024x2048 .bf16) (ix3 0 k q) = wa m c (ix2 k q) := by
    unfold wa
    entry_read
    pointwise
  refine Eq.trans ?_ hV
  obtain ⟨i6, i7, i8⟩ := idx_w t
  blk_ext [iblk, i6]

theorem blk_wb (t : Fin cfg0.N) (k b : Fin 1024) (q : Fin 2048) (hq : q.val = 1024 * (t.val % 2) + b.val) :
    (iblk (F := Ideal) m c 7 t : Vec Ideal S1x1024x1024 .bf16) (ix3 0 k b) = wb m c (ix2 k q) := by
  have hV : (V (F := Ideal) m c main_v3 : Vec Ideal S1x1024x2048 .bf16) (ix3 0 k q) = wb m c (ix2 k q) := by
    unfold wb
    entry_read
    pointwise
  refine Eq.trans ?_ hV
  obtain ⟨i6, i7, i8⟩ := idx_w t
  blk_ext [iblk, i7]

theorem blk_wc (t : Fin cfg0.N) (k b : Fin 1024) (q : Fin 2048) (hq : q.val = 1024 * (t.val % 2) + b.val) :
    (iblk (F := Ideal) m c 8 t : Vec Ideal S1x1024x1024 .bf16) (ix3 0 k b) = wc m c (ix2 k q) := by
  have hV : (V (F := Ideal) m c main_v4 : Vec Ideal S1x1024x2048 .bf16) (ix3 0 k q) = wc m c (ix2 k q) := by
    unfold wc
    entry_read
    pointwise
  refine Eq.trans ?_ hV
  obtain ⟨i6, i7, i8⟩ := idx_w t
  blk_ext [iblk, i8]

theorem arr (G : Vec Ideal S16384x2048 .bf16)
    (hG : ∀ (a : Fin 16384) (b : Fin 2048), G (ix2 a b) =
      val (ya m c) (yc m c) (yb m c) (proj m c) (wa m c) (wb m c) (wc m c) a b) :
    (dats (F := Ideal) m 0 c).arrAt 9 cfg0.N = G := by
  refine (dats (F := Ideal) m 0 c).arrAt_eq_of_covers 9 _ (by decide +kernel) fun t hf y => ?_
  blk_simp
  rw [after0_9]
  obtain ⟨y0, y1, rfl⟩ : ∃ a b, y = ix2 a b := ⟨y 0, y 1, by funext i; fin_cases i <;> rfl⟩
  have ht : t.val < 32 := t.isLt
  have he : ((View.whole main_v5).slice (win0_9.rect t)).emb (ix2 y0 y1) =
      ix2 ⟨1024 * (t.val / 2) + y0.val, by omega⟩ ⟨1024 * (t.val % 2) + y1.val, by omega⟩ := by
    blk_ext [(idx_y t).2.2.2]
  rw [he, hG, out_eq, pay_apply]
  unfold val
  rw [blk_g0 m c t y0 y1 ⟨1024 * (t.val / 2) + y0.val, by omega⟩ ⟨7168 + (1024 * (t.val % 2) + y1.val), by omega⟩ rfl (by dsimp only; omega),
    blk_g1 m c t y0 y1 ⟨1024 * (t.val / 2) + y0.val, by omega⟩ ⟨9216 + (1024 * (t.val % 2) + y1.val), by omega⟩ rfl (by dsimp only; omega),
    blk_g2 m c t y0 y1 ⟨1024 * (t.val / 2) + y0.val, by omega⟩ ⟨11264 + (1024 * (t.val % 2) + y1.val), by omega⟩ rfl (by dsimp only; omega)]
  simp only [blk_ya m c t y0 _ ⟨1024 * (t.val / 2) + y0.val, by omega⟩ rfl, blk_yb m c t y0 _ ⟨1024 * (t.val / 2) + y0.val, by omega⟩ rfl,
    blk_yc m c t y0 _ ⟨1024 * (t.val / 2) + y0.val, by omega⟩ rfl, blk_wa m c t _ y1 ⟨1024 * (t.val % 2) + y1.val, by omega⟩ rfl,
    blk_wb m c t _ y1 ⟨1024 * (t.val % 2) + y1.val, by omega⟩ rfl, blk_wc m c t _ y1 ⟨1024 * (t.val % 2) + y1.val, by omega⟩ rfl]

end Cert.Proof.Branch

namespace Cert.Proof.Branch.Ref

open Cert.Reference7Ideal Cert.Reference7Ideal.Gen
open Idealize.ShloMosaic
open Idealize.ShloMosaic.TcCoe Idealize.ShloMosaic.Tactic

variable {F : FTy → Type} [FloatOps F]

/-- The gates. -/
def gates (x3 : FVec F S16384x13312 .bf16) : FVec F S16384x3x2048 .f32 :=
  shapeCast _ (Host.divf (broadcastInDim S16384x6144 ![] bcast_S_S16384x6144 (constant S_ .f32 0x3F800000#32)) (addf (broadcastInDim S16384x6144 ![] bcast_S_S16384x6144 (constant S_ .f32 0x3F800000#32)) (Host.exp (Host.negf (extf .f32 (extractStridedSlice S16384x6144 ![0, 7168] x3 slices_S16384x13312_S16384x6144_0_7168) bitsLt_bf16_f32))))) shapeCasts_S16384x6144_S16384x3x2048

def out (x0 : FVec F S4x4096x1024 .bf16) (x1 : FVec F S16384x1024 .bf16) (x2 : FVec F S4x4096x1024 .bf16)
    (x3 : FVec F S16384x13312 .bf16) (x4 x5 x6 : FVec F S1024x2048 .bf16) : FVec F S16384x2048 .bf16 :=
  truncf .bf16 (addf (addf
    (mulf (shapeCast _ (extractStridedSlice S16384x1x2048 ![0, 0, 0] (gates x3) slices_S16384x3x2048_S16384x1x2048_0_0_0) shapeCasts_S16384x1x2048_S16384x2048) (Host.dotGeneral dot_S16384x1024_S1024x2048_S16384x2048_1_0_0_1_n_n none (shapeCast _ (extf .f32 x0 bitsLt_bf16_f32) shapeCasts_S4x4096x1024_S16384x1024) (extf .f32 x4 bitsLt_bf16_f32)))
    (mulf (shapeCast _ (extractStridedSlice S16384x1x2048 ![0, 1, 0] (gates x3) slices_S16384x3x2048_S16384x1x2048_0_1_0) shapeCasts_S16384x1x2048_S16384x2048) (Host.dotGeneral dot_S16384x1024_S1024x2048_S16384x2048_1_0_0_1_n_n none (extf .f32 x1 bitsLt_bf16_f32) (extf .f32 x5 bitsLt_bf16_f32))))
    (mulf (shapeCast _ (extractStridedSlice S16384x1x2048 ![0, 2, 0] (gates x3) slices_S16384x3x2048_S16384x1x2048_0_2_0) shapeCasts_S16384x1x2048_S16384x2048) (Host.dotGeneral dot_S16384x1024_S1024x2048_S16384x2048_1_0_0_1_n_n none (shapeCast _ (extf .f32 x2 bitsLt_bf16_f32) shapeCasts_S4x4096x1024_S16384x1024) (extf .f32 x6 bitsLt_bf16_f32)))) bitsLt_bf16_f32

theorem gates_apply (x3 : FVec Ideal S16384x13312 .bf16) (a : Fin 16384) (r : Fin 3) (b : Fin 2048) :
    gates (F := Ideal) x3 (ix3 a r b) = Ideal.logistic (x3 (ix2 a ⟨7168 + 2048 * r.val + b.val, by omega⟩)) := by
  pointwise [gates]
  unfold Ideal.logistic
  rw [show (⟨7168 + (r.val * 2048 + b.val), by omega⟩ : Fin 13312) = ⟨7168 + 2048 * r.val + b.val, by omega⟩ from Fin.ext (by dsimp only; omega)]

theorem out_apply (x0 : FVec Ideal S4x4096x1024 .bf16) (x1 : FVec Ideal S16384x1024 .bf16) (x2 : FVec Ideal S4x4096x1024 .bf16)
    (x3 : FVec Ideal S16384x13312 .bf16) (x4 x5 x6 : FVec Ideal S1024x2048 .bf16) (a : Fin 16384) (b : Fin 2048) :
    out (F := Ideal) x0 x1 x2 x3 x4 x5 x6 (ix2 a b) = val x0 x2 x1 x3 x4 x5 x6 a b := by
  have e0 := gates_apply x3 a 0 b
  have e1 := gates_apply x3 a 1 b
  have e2 := gates_apply x3 a 2 b
  unfold val
  rw [← show _ = Ideal.logistic (x3 (ix2 a ⟨7168 + b.val, by omega⟩)) from e0,
    ← show _ = Ideal.logistic (x3 (ix2 a ⟨9216 + b.val, by omega⟩)) from e1,
    ← show _ = Ideal.logistic (x3 (ix2 a ⟨11264 + b.val, by omega⟩)) from e2]
  unfold out
  generalize gates (F := Ideal) x3 = g
  pointwise

end Cert.Proof.Branch.Ref

namespace Cert.Proof.Branch

open Cert.Kernel7Ideal Cert.Kernel7Ideal.Gen
open Idealize.ShloMosaic
open Idealize.ShloMosaic.TcCoe Idealize.ShloMosaic.Tactic

attribute [local instance] Cert.Kernel7.Gen.facts Cert.Kernel7Ideal.Gen.facts Cert.Reference7Ideal.Gen.facts

theorem frame_kernel : Cert.quiescent_Kernel7 := fun m ρ _ => Cert.Kernel7.Gen.frame m ρ
theorem frame_ideal : Cert.quiescent_Kernel7Ideal := fun m ρ _ => Cert.Kernel7Ideal.Gen.frame m ρ
theorem frame_ref : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)
theorem preserves : Cert.preserves_Kernel7_Kernel7Ideal := trivial

theorem algebraic : Cert.algebraic_Kernel7Ideal_Reference7Ideal := by
  intro m g m' g' hpre hagree
  have hr := Cert.Reference7Ideal.Value.run (F := Ideal) m' g'
  have hk := Cert.Kernel7Ideal.Value.run_blocks (F := Ideal) m g
  refine ⟨_, (θ_run Cert.Kernel7Ideal.defs _ _).mono (fun r h c => ⟨(h c).1.trans (arr m c _ (fun a b => ?_)), (h c).2⟩) hk,
    (θ_run Cert.Reference7Ideal.defs _ _).mono (fun r h c => h c) hr⟩
  obtain ⟨g0, g1, g2, g3, g4, g5, g6⟩ := hagree c
  rw [g0, g1, g2, g3, g4, g5, g6]
  exact Ref.out_apply _ _ _ _ _ _ _ a b

end Cert.Proof.Branch

end
-- ==== Proof.MM.PoolKer.lean ====
/-
  The pooled branch (program 8): what a point of the kernel leaves.
-/
module

public import proofs.«01_k».proof.Defs
public import proofs.«01_k».proof.Proof.Gen.Kernel8.Frame
public import proofs.«01_k».proof.Proof.Gen.Kernel8Ideal.Value
public import proofs.«01_k».proof.Proof.MM.Kit

@[expose] public section

set_option maxRecDepth 16384

noncomputable section

namespace Cert.Proof.Pool

open Cert.Kernel8Ideal Cert.Kernel8Ideal.Gen
open Idealize.ShloMosaic
open Idealize.ShloMosaic.TcCoe Idealize.ShloMosaic.Tactic
open Idealize.ShloMosaic.Pipeline (Dat Cfg Window)

/-- What the padded scratch holds at row `r ≥ 8`: the block's rows from 24 on, the halo's before. -/
def ext (u : FVec Ideal S1024x1024 .f32) (h : FVec Ideal S16x1024 .f32) (r q : ℕ) : EReal :=
  if h1 : 24 ≤ r ∧ r < 1048 ∧ q < 1024 then u (ix2 ⟨r - 24, by omega⟩ ⟨q, h1.2.2⟩)
  else if h2 : 8 ≤ r ∧ r < 24 ∧ q < 1024 then h (ix2 ⟨r - 8, by omega⟩ ⟨q, h2.2.2⟩) else 0

set_option maxHeartbeats 1000000 in
theorem ext_read (u : FVec Ideal S1024x1024 .f32) (h : FVec Ideal S16x1024 .f32) (z : FVec Ideal S8x1024 .f32)
    (h1 : ∀ a, (![24, 0] : Fin 2 → ℕ) a + (![1024, 1024] : Fin 2 → ℕ) a ≤ S1048x1024.size a)
    (h2 : ∀ a, (![8, 0] : Fin 2 → ℕ) a + (![16, 1024] : Fin 2 → ℕ) a ≤ S1048x1024.size a)
    (h3 : ∀ a, (![0, 0] : Fin 2 → ℕ) a + (![8, 1024] : Fin 2 → ℕ) a ≤ S1048x1024.size a)
    (off co n : ℕ) (h4 : ∀ a, (![off, co] : Fin 2 → ℕ) a + (![n, 256] : Fin 2 → ℕ) a ≤ S1048x1024.size a)
    (i : Fin n) (j : Fin 256) (hi : 8 ≤ off + i.val) (r q : ℕ) (hr : r = off + i.val) (hq : q = co + j.val) :
    (View.whole cc0_scratch0).readCov (Val := Elt Ideal)
      [⟨Rect.unit ![24, 0] ![1024, 1024] h1, u⟩, ⟨Rect.unit ![8, 0] ![16, 1024] h2, h⟩, ⟨Rect.unit ![0, 0] ![8, 1024] h3, z⟩]
      (Rect.unit (s := S1048x1024) ![off, co] ![n, 256] h4).toLoadRect (ix2 i j) = ext u h r q := by
  subst hr hq
  have b0 : off + n ≤ 1048 := h4 0
  have b1 : co + 256 ≤ 1024 := h4 1
  rw [View.readCov_eq_canon']
  show View.canon _ ((Rect.unit (s := S1048x1024) ![off, co] ![n, 256] h4).emb (ix2 i j)) = _
  unfold ext
  by_cases hc : 24 ≤ off + i.val
  · rw [dif_pos ⟨hc, by omega, by omega⟩]
    have he : (Rect.unit (s := S1048x1024) ![off, co] ![n, 256] h4).emb (ix2 i j) =
        (Rect.unit (s := S1048x1024) ![24, 0] ![1024, 1024] h1).emb (ix2 ⟨off + i.val - 24, by omega⟩ ⟨co + j.val, by omega⟩) := by
      funext a
      fin_cases a
      · apply Fin.ext; show off + 1 * i.val = 24 + 1 * (off + i.val - 24); omega
      · apply Fin.ext; show co + 1 * j.val = 0 + 1 * (co + j.val); omega
    rw [he]
    exact View.canon_cons_emb _ _ _ _
  · rw [dif_neg (by omega), dif_pos ⟨hi, by omega, by omega⟩]
    have he : (Rect.unit (s := S1048x1024) ![off, co] ![n, 256] h4).emb (ix2 i j) =
        (Rect.unit (s := S1048x1024) ![8, 0] ![16, 1024] h2).emb (ix2 ⟨off + i.val - 8, by omega⟩ ⟨co + j.val, by omega⟩) := by
      funext a
      fin_cases a
      · apply Fin.ext; show off + 1 * i.val = 8 + 1 * (off + i.val - 8); omega
      · apply Fin.ext; show co + 1 * j.val = 0 + 1 * (co + j.val); omega
    rw [View.canon_cons_of_not_mem, he]
    · exact View.canon_cons_emb _ _ _ _
    · rw [Rect.mem_set_unit]
      intro hm
      have := (hm 0).1
      have e : (((Rect.unit (s := S1048x1024) ![off, co] ![n, 256] h4).emb (ix2 i j)) 0).val = off + 1 * i.val := rfl
      have e2 : (![24, 0] : Fin 2 → ℕ) 0 = 24 := rfl
      omega

theorem stage_read (P : FVec Ideal S1040x256 .f32) (L : List (View.Piece (Elt Ideal) S1048x256 .f32))
    (h1 : ∀ a, (![8, 0] : Fin 2 → ℕ) a + (![1040, 256] : Fin 2 → ℕ) a ≤ S1048x256.size a)
    (off : ℕ) (h4 : ∀ a, (![off, 0] : Fin 2 → ℕ) a + (![1040, 256] : Fin 2 → ℕ) a ≤ S1048x256.size a)
    (i : Fin 1040) (j : Fin 256) (i' : Fin 1040) (hi : off + i.val = 8 + i'.val) :
    (View.whole cc0_scratch1).readCov (Val := Elt Ideal) (⟨Rect.unit ![8, 0] ![1040, 256] h1, P⟩ :: L)
      (Rect.unit (s := S1048x256) ![off, 0] ![1040, 256] h4).toLoadRect (ix2 i j) = P (ix2 i' j) := by
  rw [View.readCov_eq_canon']
  show View.canon _ ((Rect.unit (s := S1048x256) ![off, 0] ![1040, 256] h4).emb (ix2 i j)) = _
  have he : (Rect.unit (s := S1048x256) ![off, 0] ![1040, 256] h4).emb (ix2 i j) =
      (Rect.unit (s := S1048x256) ![8, 0] ![1040, 256] h1).emb (ix2 i' j) := by
    funext a
    fin_cases a
    · apply Fin.ext; show off + 1 * i.val = 8 + 1 * i'.val; omega
    · apply Fin.ext; show 0 + 1 * j.val = 0 + 1 * j.val; rfl
  rw [he]
  exact View.canon_cons_emb _ _ _ _

/-- The number of rows a window of `w` counts at position `p`, as the kernel converts it. -/
def cnt (p w : BitVec 32) : EReal := FloatOps.sitofp (F := Ideal) FTy.f32 (IntOp.minsi (IntOp.addi p 1#32) w)

theorem pay10_apply (v31 : BitVec 32) (v32 : IVec S1024x1 32) (X : Vec Ideal S1024x256 .f32) (A B : Vec Ideal S1040x256 .f32)
    (w : Vec Ideal S1x1x256x256 .bf16) (s : Vec Ideal S1x256 .f32) (a : Fin 1024) (b : Fin 256) :
    k0_pay10 (F := Ideal) v31 v32 X A B w s (ix2 a b) =
      (∑ k : Fin 256, (Ideal.div (A (ix2 ⟨16 + a.val, by omega⟩ k) + B (ix2 ⟨16 + a.val, by omega⟩ k)) (cnt (IntOp.addi v31 (v32 (ix2 a 0))) 2#32) - X (ix2 a k))
        * w (ix4 0 0 k b)) * s (ix2 0 b) := by
  unfold cnt
  pointwise [k0_pay10, k0_pay9]

theorem pay13_apply (v34 : IVec S1024x1 32) (X : Vec Ideal S1024x256 .f32) (A B : Vec Ideal S1040x256 .f32)
    (w : Vec Ideal S1x1x256x256 .bf16) (s : Vec Ideal S1x256 .f32) (a : Fin 1024) (b : Fin 256) :
    k0_pay13 (F := Ideal) v34 X A B w s (ix2 a b) =
      (∑ k : Fin 256, (Ideal.div (A (ix2 ⟨16 + a.val, by omega⟩ k) + B (ix2 ⟨16 + a.val, by omega⟩ k)) (cnt (v34 (ix2 a 0)) 4#32) - X (ix2 a k))
        * w (ix4 0 0 k b)) * s (ix2 0 b) := by
  unfold cnt
  pointwise [k0_pay13]

theorem pay18_apply (v34 : IVec S1024x1 32) (X : Vec Ideal S1024x256 .f32) (A B : Vec Ideal S1040x256 .f32)
    (w : Vec Ideal S1x1x256x256 .bf16) (s : Vec Ideal S1x256 .f32) (a : Fin 1024) (b : Fin 256) :
    k0_pay18 (F := Ideal) v34 X A B w s (ix2 a b) =
      (∑ k : Fin 256, (Ideal.div (A (ix2 ⟨16 + a.val, by omega⟩ k) + B (ix2 ⟨16 + a.val, by omega⟩ k)) (cnt (v34 (ix2 a 0)) 8#32) - X (ix2 a k))
        * w (ix4 0 0 k b)) * s (ix2 0 b) := by
  unfold cnt
  pointwise [k0_pay18]

theorem pay3_apply (v34 : IVec S1024x1 32) (X : Vec Ideal S1024x256 .f32) (A B C : Vec Ideal S1040x256 .f32)
    (w : Vec Ideal S1x1x256x256 .bf16) (s : Vec Ideal S1x256 .f32) (a : Fin 1024) (b : Fin 256) :
    k0_pay3 (F := Ideal) v34 X A B C w s (ix2 a b) =
      (∑ k : Fin 256, (Ideal.div (A (ix2 ⟨16 + a.val, by omega⟩ k) + B (ix2 ⟨16 + a.val, by omega⟩ k) + C (ix2 ⟨16 + a.val, by omega⟩ k)) (cnt (v34 (ix2 a 0)) 16#32) - X (ix2 a k))
        * w (ix4 0 0 k b)) * s (ix2 0 b) := by
  unfold cnt
  pointwise [k0_pay3, k0_pay1]

/-- The position's count: at most the window, and at most the rows since the sequence's start. -/
theorem cnt_eq (p s w : ℕ) (hs : s + p < 2 ^ 30) (hw : w < 2 ^ 30) :
    cnt (IntOp.addi (BitVec.ofNat 32 s) (BitVec.ofNat 32 p)) (BitVec.ofNat 32 w) = (((min (s + p + 1) w : ℕ) : ℝ) : EReal) := by
  have h : IntOp.addi (IntOp.addi (BitVec.ofNat 32 s) (BitVec.ofNat 32 p)) 1#32 = BitVec.ofNat 32 (s + p + 1) := by
    show BitVec.ofNat 32 s + BitVec.ofNat 32 p + BitVec.ofNat 32 1 = _
    rw [← BitVec.ofNat_add, ← BitVec.ofNat_add]
  unfold cnt
  rw [h]
  have e : ∀ n : ℕ, n < 2 ^ 31 → (BitVec.ofNat 32 n).toInt = (n : ℤ) := fun n hn => by
    rw [BitVec.toInt_ofNat']
    norm_num
    exact Int.bmod_eq_of_le (by omega) (by omega)
  have hm : (IntOp.minsi (BitVec.ofNat 32 (s + p + 1)) (BitVec.ofNat 32 w)).toInt = ((min (s + p + 1) w : ℕ) : ℤ) := by
    unfold IntOp.minsi
    rw [BitVec.slt_eq_decide, e _ (by omega), e _ (by omega)]
    by_cases hc : s + p + 1 < w
    · rw [if_pos (by simpa using (by exact_mod_cast hc : ((s + p + 1 : ℕ) : ℤ) < (w : ℤ))), e _ (by omega), min_eq_left hc.le]
    · rw [if_neg (by simpa using (by exact_mod_cast (not_lt.mp hc) : (w : ℤ) ≤ ((s + p + 1 : ℕ) : ℤ))), e _ (by omega), min_eq_right (not_lt.mp hc)]
  show (((IntOp.minsi (BitVec.ofNat 32 (s + p + 1)) (BitVec.ofNat 32 w)).toInt : ℝ) : EReal) = _
  rw [hm, Int.cast_natCast]

/-- The `n` rows of `X` up to row `r`, added. -/
def trail (X : ℕ → ℕ → EReal) (n r q : ℕ) : EReal := ∑ k ∈ Finset.range n, X (r - k) q

theorem trail_add (X : ℕ → ℕ → EReal) (m n r q : ℕ) : trail X m r q + trail X n (r - m) q = trail X (m + n) r q := by
  unfold trail
  rw [Finset.sum_range_add]
  congr 1
  exact Finset.sum_congr rfl fun k _ => by rw [Nat.sub_sub]

/-- From row `lo` on, `P` at row `i` is the sum of `n` rows of `X`, the last `d` rows above row `8 + i`. -/
def IsTrail (P : FVec Ideal S1040x256 .f32) (X : ℕ → ℕ → EReal) (n d lo co : ℕ) : Prop :=
  ∀ (i : Fin 1040) (j : Fin 256), lo ≤ i.val → P (ix2 i j) = trail X n (8 + i.val - d) (co + j.val)

theorem IsTrail.add {P Q R : FVec Ideal S1040x256 .f32} {X : ℕ → ℕ → EReal} {m n lo co : ℕ} (hP : IsTrail P X m 0 lo co)
    (hQ : IsTrail Q X n m lo co) (hR : ∀ i j, R (ix2 i j) = P (ix2 i j) + Q (ix2 i j)) : IsTrail R X (m + n) 0 lo co :=
  fun i j hi => by rw [hR, hP i j hi, hQ i j hi, Nat.sub_zero, trail_add]

theorem IsTrail.mono {P : FVec Ideal S1040x256 .f32} {X : ℕ → ℕ → EReal} {n d lo lo' co : ℕ} (h : IsTrail P X n d lo co) (hl : lo ≤ lo') :
    IsTrail P X n d lo' co := fun i j hi => h i j (hl.trans hi)

theorem IsTrail.stage {P : FVec Ideal S1040x256 .f32} {X : ℕ → ℕ → EReal} {n lo co : ℕ} (hP : IsTrail P X n 0 lo co) (L : List (View.Piece (Elt Ideal) S1048x256 .f32))
    (h1 : ∀ a, (![8, 0] : Fin 2 → ℕ) a + (![1040, 256] : Fin 2 → ℕ) a ≤ S1048x256.size a)
    (off d : ℕ) (hd : off + d = 8) (h4 : ∀ a, (![off, 0] : Fin 2 → ℕ) a + (![1040, 256] : Fin 2 → ℕ) a ≤ S1048x256.size a) :
    IsTrail ((View.whole cc0_scratch1).readCov (Val := Elt Ideal) (⟨Rect.unit ![8, 0] ![1040, 256] h1, P⟩ :: L)
      (Rect.unit (s := S1048x256) ![off, 0] ![1040, 256] h4).toLoadRect) X n d (lo + d) co := fun i j hi => by
  rw [stage_read P L h1 off h4 i j ⟨i.val - d, by omega⟩ (by show off + i.val = 8 + (i.val - d); omega), hP _ j (by show lo ≤ i.val - d; omega)]
  show trail X n (8 + (i.val - d) - 0) _ = _
  congr 1
  omega

/-- Twice as many rows, through the stage the first half was kept in. -/
theorem IsTrail.grow {P R : FVec Ideal S1040x256 .f32} {X : ℕ → ℕ → EReal} {n lo co : ℕ} (hP : IsTrail P X n 0 lo co) (L : List (View.Piece (Elt Ideal) S1048x256 .f32))
    (h1 : ∀ a, (![8, 0] : Fin 2 → ℕ) a + (![1040, 256] : Fin 2 → ℕ) a ≤ S1048x256.size a)
    (off : ℕ) (hd : off + n = 8) (h4 : ∀ a, (![off, 0] : Fin 2 → ℕ) a + (![1040, 256] : Fin 2 → ℕ) a ≤ S1048x256.size a)
    (S : FVec Ideal S1040x256 .f32) (hR : ∀ i j, R (ix2 i j) = P (ix2 i j) + S (ix2 i j))
    (hS : S = (View.whole cc0_scratch1).readCov (Val := Elt Ideal) (⟨Rect.unit ![8, 0] ![1040, 256] h1, P⟩ :: L)
      (Rect.unit (s := S1048x256) ![off, 0] ![1040, 256] h4).toLoadRect) : IsTrail R X (n + n) 0 (lo + n) co := by
  subst hS
  exact (hP.mono (by omega)).add (hP.stage L h1 off n hd h4) hR

section Loads

variable (u : FVec Ideal S1024x1024 .f32) (h : FVec Ideal S16x1024 .f32) (z : FVec Ideal S8x1024 .f32)
    (h1 : ∀ a, (![24, 0] : Fin 2 → ℕ) a + (![1024, 1024] : Fin 2 → ℕ) a ≤ S1048x1024.size a)
    (h2 : ∀ a, (![8, 0] : Fin 2 → ℕ) a + (![16, 1024] : Fin 2 → ℕ) a ≤ S1048x1024.size a)
    (h3 : ∀ a, (![0, 0] : Fin 2 → ℕ) a + (![8, 1024] : Fin 2 → ℕ) a ≤ S1048x1024.size a)

theorem isTrail_load (off d co : ℕ) (hd : off + d = 8) (h4 : ∀ a, (![off, co] : Fin 2 → ℕ) a + (![1040, 256] : Fin 2 → ℕ) a ≤ S1048x1024.size a) :
    IsTrail ((View.whole cc0_scratch0).readCov (Val := Elt Ideal)
      [⟨Rect.unit ![24, 0] ![1024, 1024] h1, u⟩, ⟨Rect.unit ![8, 0] ![16, 1024] h2, h⟩, ⟨Rect.unit ![0, 0] ![8, 1024] h3, z⟩]
      (Rect.unit (s := S1048x1024) ![off, co] ![1040, 256] h4).toLoadRect) (ext u h) 1 d d co := fun i j hi => by
  unfold trail
  rw [Finset.sum_range_one]
  exact ext_read u h z h1 h2 h3 off co 1040 h4 i j (by omega) _ _ (by omega) rfl

theorem isTrail_two (co : ℕ) (R A B : FVec Ideal S1040x256 .f32)
    (h4 : ∀ a, (![8, co] : Fin 2 → ℕ) a + (![1040, 256] : Fin 2 → ℕ) a ≤ S1048x1024.size a)
    (h5 : ∀ a, (![7, co] : Fin 2 → ℕ) a + (![1040, 256] : Fin 2 → ℕ) a ≤ S1048x1024.size a)
    (hR : ∀ i j, R (ix2 i j) = A (ix2 i j) + B (ix2 i j))
    (hA : A = (View.whole cc0_scratch0).readCov (Val := Elt Ideal)
        [⟨Rect.unit ![24, 0] ![1024, 1024] h1, u⟩, ⟨Rect.unit ![8, 0] ![16, 1024] h2, h⟩, ⟨Rect.unit ![0, 0] ![8, 1024] h3, z⟩]
        (Rect.unit (s := S1048x1024) ![8, co] ![1040, 256] h4).toLoadRect)
    (hB : B = (View.whole cc0_scratch0).readCov (Val := Elt Ideal)
        [⟨Rect.unit ![24, 0] ![1024, 1024] h1, u⟩, ⟨Rect.unit ![8, 0] ![16, 1024] h2, h⟩, ⟨Rect.unit ![0, 0] ![8, 1024] h3, z⟩]
        (Rect.unit (s := S1048x1024) ![7, co] ![1040, 256] h5).toLoadRect) : IsTrail R (ext u h) 2 0 1 co := by
  subst hA hB
  exact ((isTrail_load u h z h1 h2 h3 8 0 co rfl h4).mono (by omega)).add (isTrail_load u h z h1 h2 h3 7 1 co rfl h5) hR

end Loads

theorem pay11_at (A B : Vec Ideal S1040x256 .f32) (i : Fin 1040) (j : Fin 256) : k0_pay11 (F := Ideal) A B (ix2 i j) = A (ix2 i j) + B (ix2 i j) := rfl
theorem pay14_at (A B : Vec Ideal S1040x256 .f32) (i : Fin 1040) (j : Fin 256) : k0_pay14 (F := Ideal) A B (ix2 i j) = A (ix2 i j) + B (ix2 i j) := rfl
theorem pay19_at (A B : Vec Ideal S1040x256 .f32) (i : Fin 1040) (j : Fin 256) : k0_pay19 (F := Ideal) A B (ix2 i j) = A (ix2 i j) + B (ix2 i j) := rfl
theorem pay12_eq (A B : Vec Ideal S1040x256 .f32) : k0_pay12 (F := Ideal) A B = k0_pay11 A B := shapeCast_self _ _
theorem pay15_eq (A B : Vec Ideal S1040x256 .f32) : k0_pay15 (F := Ideal) A B = k0_pay14 A B := shapeCast_self _ _
theorem pay20_eq (A B : Vec Ideal S1040x256 .f32) : k0_pay20 (F := Ideal) A B = k0_pay19 A B := shapeCast_self _ _
theorem pay16_at (A B C : Vec Ideal S1040x256 .f32) (i : Fin 1040) (j : Fin 256) :
    k0_pay16 (F := Ideal) A B C (ix2 i j) = k0_pay14 (F := Ideal) A B (ix2 i j) + C (ix2 i j) := rfl
theorem pay21_at (A B C : Vec Ideal S1040x256 .f32) (i : Fin 1040) (j : Fin 256) :
    k0_pay21 (F := Ideal) A B C (ix2 i j) = k0_pay19 (F := Ideal) A B (ix2 i j) + C (ix2 i j) := rfl
theorem pay17_eq (A B C : Vec Ideal S1040x256 .f32) : k0_pay17 (F := Ideal) A B C = k0_pay16 A B C := shapeCast_self _ _
theorem pay22_eq (A B C : Vec Ideal S1040x256 .f32) : k0_pay22 (F := Ideal) A B C = k0_pay21 A B C := shapeCast_self _ _
theorem pay1_at (A B : Vec Ideal S1040x256 .f32) (i : Fin 1040) (j : Fin 256) : k0_pay1 (F := Ideal) A B (ix2 i j) = A (ix2 i j) + B (ix2 i j) := rfl
theorem pay2_eq (A B : Vec Ideal S1040x256 .f32) : k0_pay2 (F := Ideal) A B = k0_pay1 A B := shapeCast_self _ _

/-- The tile's first position in its sequence. -/
theorem pos_eq : ∀ t : Fin grid0.N, Scalar.muli
    (Scalar.select
      (Scalar.andi
        (Scalar.xori
          (Scalar.cmpi CmpIPredicate.slt (Scalar.remsi (BitVec.ofNat 32 (grid0.coords t 0).val) 4#32) 0#32)
          0#1)
        (Scalar.cmpi CmpIPredicate.ne (Scalar.remsi (BitVec.ofNat 32 (grid0.coords t 0).val) 4#32) 0#32))
      (Scalar.addi (Scalar.remsi (BitVec.ofNat 32 (grid0.coords t 0).val) 4#32) 4#32)
      (Scalar.remsi (BitVec.ofNat 32 (grid0.coords t 0).val) 4#32))
    1024#32 = BitVec.ofNat 32 (1024 * (t.val % 4)) := by decide +kernel

theorem cnt_at (t : Fin grid0.N) (p : Fin 1024) (v : BitVec 32) (hv : v = BitVec.ofNat 32 (1024 * (t.val % 4))) (w : ℕ) (hw : w < 2 ^ 30) :
    cnt (IntOp.addi v (iota Kind.tc S1024x1 32 [0] iota_S1024x1_d0_w32 (ix2 p 0))) (BitVec.ofNat 32 w) =
      (((min (1024 * (t.val % 4) + p.val + 1) w : ℕ) : ℝ) : EReal) := by
  rw [hv, ← cnt_eq p.val (1024 * (t.val % 4)) w (by omega) hw]
  congr 2
  pointwise

theorem pay9_at (v31 : BitVec 32) (v32 : IVec S1024x1 32) (p : Fin 1024) : k0_pay9 v31 v32 (ix2 p 0) = IntOp.addi v31 (v32 (ix2 p 0)) := rfl

/-- The halo's rows, zero at a sequence's first tile. -/
theorem pay6_apply (t : Fin grid0.N) (x : Vec Ideal S16x1024 .bf16) (a : Fin 16) (b : Fin 1024) :
    k0_pay6 (F := Ideal) (grid0.coords t) x (ix2 a b) = if t.val % 4 = 0 then 0 else x (ix2 a b) := by
  have hc : ∀ t : Fin grid0.N, Scalar.cmpi .eq (Scalar.select
      (Scalar.andi
        (Scalar.xori
          (Scalar.cmpi CmpIPredicate.slt (Scalar.remsi (BitVec.ofNat 32 (grid0.coords t 0).val) (Scalar.select (Scalar.cmpi .eq 4#32 0#32) 1#32 4#32)) 0#32)
          (Scalar.cmpi CmpIPredicate.slt (Scalar.select (Scalar.cmpi .eq 4#32 0#32) 1#32 4#32) 0#32))
        (Scalar.cmpi CmpIPredicate.ne (Scalar.remsi (BitVec.ofNat 32 (grid0.coords t 0).val) (Scalar.select (Scalar.cmpi .eq 4#32 0#32) 1#32 4#32)) 0#32))
      (Scalar.addi (Scalar.remsi (BitVec.ofNat 32 (grid0.coords t 0).val) (Scalar.select (Scalar.cmpi .eq 4#32 0#32) 1#32 4#32)) (Scalar.select (Scalar.cmpi .eq 4#32 0#32) 1#32 4#32))
      (Scalar.remsi (BitVec.ofNat 32 (grid0.coords t 0).val) (Scalar.select (Scalar.cmpi .eq 4#32 0#32) 1#32 4#32))) 0#32 =
      if t.val % 4 = 0 then 1#1 else 0#1 := by decide +kernel
  unfold k0_pay6
  dsimp only
  rw [shapeCast_self, hc t]
  by_cases h : t.val % 4 = 0
  · rw [if_pos h, if_pos h]
    exact Ideal.ofBits_zero_f32
  · rw [if_neg h, if_neg h]
    rfl

/-- A pooled value: the mean of the trailing rows less the row itself. -/
def pooled (X : ℕ → ℕ → EReal) (w s r q : ℕ) : EReal := Ideal.div (trail X w r q) (((min (s + 1) w : ℕ) : ℝ) : EReal) - X r q

theorem pooled_congr {X : ℕ → ℕ → EReal} {w s r q : ℕ} {A B C : EReal} (hA : A = trail X w r q) (hB : B = (((min (s + 1) w : ℕ) : ℝ) : EReal))
    (hC : C = X r q) : Ideal.div A B - C = pooled X w s r q := by rw [hA, hB, hC]; rfl

theorem IsTrail.at {R : FVec Ideal S1040x256 .f32} {X : ℕ → ℕ → EReal} {n lo co : ℕ} (h : IsTrail R X n 0 lo co) (hl : lo ≤ 16) (a : Fin 1024) (k : Fin 256)
    (n' q : ℕ) (hn : n = n') (hq : co + k.val = q) : R (ix2 ⟨16 + a.val, by omega⟩ k) = trail X n' (24 + a.val) q := by
  subst hn hq
  rw [h _ k (by show lo ≤ 16 + a.val; omega)]
  congr 1
  show 8 + (16 + a.val) - 0 = _
  omega

theorem sum3_at (A B C : Vec Ideal S1040x256 .f32) (i : Fin 1040) (j : Fin 256) :
    A (ix2 i j) + B (ix2 i j) + C (ix2 i j) = k0_pay1 (F := Ideal) (k0_pay1 (F := Ideal) A B) C (ix2 i j) := rfl

theorem ld_w (x : Vec Ideal S1x4x256x256 .bf16) (g : ℕ) (hg : g < 4)
    (h : ∀ a, (![0, g, 0, 0] : Fin 4 → ℕ) a + (![1, 1, 256, 256] : Fin 4 → ℕ) a ≤ S1x4x256x256.size a) (k d : Fin 256) :
    View.ld x (Rect.unit (s := S1x4x256x256) ![0, g, 0, 0] ![1, 1, 256, 256] h) (ix4 0 0 k d) = x (ix4 0 ⟨g, hg⟩ k d) := by
  refine congrArg x ?_
  funext a
  fin_cases a
  · rfl
  · apply Fin.ext; show g + 1 * 0 = g; omega
  · apply Fin.ext; show 0 + 1 * k.val = k.val; omega
  · apply Fin.ext; show 0 + 1 * d.val = d.val; omega

theorem ld_s (x : Vec Ideal S1x1024 .f32) (co : ℕ)
    (h : ∀ a, (![0, co] : Fin 2 → ℕ) a + (![1, 256] : Fin 2 → ℕ) a ≤ S1x1024.size a) (d : Fin 256) (b : Fin 1024) (hb : b.val = co + d.val) :
    View.ld x (Rect.unit (s := S1x1024) ![0, co] ![1, 256] h) (ix2 0 d) = x (ix2 0 b) := by
  refine congrArg x ?_
  funext a
  fin_cases a
  · rfl
  · apply Fin.ext; show co + 1 * d.val = b.val; omega

set_option maxHeartbeats 4000000 in
theorem out_apply (m : (ℓ : Loc nD τ sig) → Buf (Elt Ideal) ℓ) (c : Dev nD) (t : Fin cfg0.N) (a : Fin 1024) (b : Fin 1024) (g : Fin 4) (d : Fin 256)
    (hb : b.val = 256 * g.val + d.val) :
    outsAt0 m c t (ix2 a b) =
      (∑ k : Fin 256, pooled (ext (k0_pay7 (iblk (F := Ideal) m c 0 t : Vec Ideal S1024x1024 .bf16)) (k0_pay6 (grid0.coords t) (iblk (F := Ideal) m c 1 t : Vec Ideal S16x1024 .bf16)))
          (2 ^ (g.val + 1)) (1024 * (t.val % 4) + a.val) (24 + a.val) (256 * g.val + k.val)
        * (iblk (F := Ideal) m c 2 t : Vec Ideal S1x4x256x256 .bf16) (ix4 0 g k d)) * (iblk (F := Ideal) m c 3 t : Vec Ideal S1x1024 .f32) (ix2 0 b) := by
  unfold outsAt0
  frame_out
  generalize (iblk (F := Ideal) m c 0 t : Vec Ideal S1024x1024 .bf16) = x0
  generalize (iblk (F := Ideal) m c 1 t : Vec Ideal S16x1024 .bf16) = x1
  generalize (iblk (F := Ideal) m c 2 t : Vec Ideal S1x4x256x256 .bf16) = x2
  generalize (iblk (F := Ideal) m c 3 t : Vec Ideal S1x1024 .f32) = x3
  have hv := pos_eq t
  have hc := fun p w hw => cnt_at t p _ hv w hw
  generalize k0_pay7 x0 = u
  generalize k0_pay6 (grid0.coords t) x1 = h
  canon_tiles x h
  all_goals
    obtain ⟨p, q, rfl⟩ : ∃ p q, x = ix2 p q := ⟨x 0, x 1, by funext i; fin_cases i <;> rfl⟩
    have e0 : p.val = a.val := by first | exact h0.symm | exact (h0.trans (Nat.zero_add _)).symm
    obtain rfl : p = a := Fin.ext e0
  · have hq : b.val = 768 + q.val := h1
    have hg : g.val = 3 := by omega
    obtain rfl : g = 3 := Fin.ext hg
    obtain rfl : d = q := Fin.ext (by omega)
    refine (pay3_apply _ _ _ _ _ _ _ p d).trans (congrArg₂ (· * ·) (Finset.sum_congr rfl fun k _ => congrArg₂ (· * ·)
      (pooled_congr ?_ (hc p 16 (by norm_num)) (ext_read u h _ _ _ _ 24 768 1024 _ p k (by omega) _ _ rfl rfl)) (ld_w x2 3 (by norm_num) _ k d))
      (ld_s x3 768 _ d b hq))
    simp only [pay20_eq, pay22_eq, pay2_eq]
    exact (sum3_at _ _ _ _ _).trans (((((isTrail_two u h _ _ _ _ 768 _ _ _ _ _ (pay19_at _ _) rfl rfl).grow _ _ 6 rfl _ _ (pay21_at _ _ _) rfl).grow _ _ 4 rfl _ _ (pay1_at _ _) rfl).grow _ _ 0 rfl _ _ (pay1_at _ _) rfl).at (by norm_num) p k _ _ rfl rfl)

  · have hq : b.val = 512 + q.val := h1
    have hg : g.val = 2 := by omega
    obtain rfl : g = 2 := Fin.ext hg
    obtain rfl : d = q := Fin.ext (by omega)
    refine (pay18_apply _ _ _ _ _ _ p d).trans (congrArg₂ (· * ·) (Finset.sum_congr rfl fun k _ => congrArg₂ (· * ·)
      (pooled_congr ?_ (hc p 8 (by norm_num)) (ext_read u h _ _ _ _ 24 512 1024 _ p k (by omega) _ _ rfl rfl)) (ld_w x2 2 (by norm_num) _ k d))
      (ld_s x3 512 _ d b hq))
    simp only [pay15_eq, pay17_eq]
    exact (pay1_at _ _ _ _).symm.trans ((((isTrail_two u h _ _ _ _ 512 _ _ _ _ _ (pay14_at _ _) rfl rfl).grow _ _ 6 rfl _ _ (pay16_at _ _ _) rfl).grow _ _ 4 rfl _ _ (pay1_at _ _) rfl).at (by norm_num) p k _ _ rfl rfl)

  · have hq : b.val = 256 + q.val := h1
    have hg : g.val = 1 := by omega
    obtain rfl : g = 1 := Fin.ext hg
    obtain rfl : d = q := Fin.ext (by omega)
    refine (pay13_apply _ _ _ _ _ _ p d).trans (congrArg₂ (· * ·) (Finset.sum_congr rfl fun k _ => congrArg₂ (· * ·)
      (pooled_congr ?_ (hc p 4 (by norm_num)) (ext_read u h _ _ _ _ 24 256 1024 _ p k (by omega) _ _ rfl rfl)) (ld_w x2 1 (by norm_num) _ k d))
      (ld_s x3 256 _ d b hq))
    rw [pay12_eq]
    exact (pay1_at _ _ _ _).symm.trans (((isTrail_two u h _ _ _ _ 256 _ _ _ _ _ (pay11_at _ _) rfl rfl).grow _ _ 6 rfl _ _ (pay1_at _ _) rfl).at (by norm_num) p k _ _ rfl rfl)

  · have hq : b.val = 0 + q.val := by first | exact h1 | exact (show b.val = q.val from h1).trans (Nat.zero_add _).symm
    have hg : g.val = 0 := by omega
    obtain rfl : g = 0 := Fin.ext hg
    obtain rfl : d = q := Fin.ext (by omega)
    refine (pay10_apply _ _ _ _ _ _ _ p d).trans (congrArg₂ (· * ·) (Finset.sum_congr rfl fun k _ => congrArg₂ (· * ·)
      (pooled_congr ?_ (hc p 2 (by norm_num)) (ext_read u h _ _ _ _ 24 0 1024 _ p k (by omega) _ _ rfl rfl)) (ld_w x2 0 (by norm_num) _ k d))
      (ld_s x3 0 _ d b hq))
    exact (pay11_at _ _ _ _).symm.trans ((isTrail_two u h _ _ _ _ 0 _ _ _ _ _ (pay11_at _ _) rfl rfl).at (by norm_num) p k _ _ rfl rfl)

end Cert.Proof.Pool

end
-- ==== Proof.MM.PoolArr.lean ====
/-
  The pooled branch (program 8): the kernel's whole result, as the windows' means through the weights.
-/
module

public import proofs.«01_k».proof.Defs
public import proofs.«01_k».proof.Proof.Gen.Kernel8.Frame
public import proofs.«01_k».proof.Proof.Gen.Kernel8Ideal.Value
public import proofs.«01_k».proof.Proof.MM.Kit
public import proofs.«01_k».proof.Proof.MM.PoolKer

@[expose] public section

set_option maxRecDepth 16384

noncomputable section

namespace Cert.Proof.Pool

open Cert.Kernel8Ideal Cert.Kernel8Ideal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD)

/-- The projections, the pool's weights and its scale, as launched. -/
def prj : FVec Ideal S16384x13312 .bf16 := m ((c.tc : Thread nD τ).loc main_arg0)
def wgt : FVec Ideal S2x4x256x256 .f32 := m ((c.tc : Thread nD τ).loc main_arg1)
def scl : FVec Ideal S2x1024 .f32 := m ((c.tc : Thread nD τ).loc main_arg2)

/-- The pooled activations: the projections' columns from 3072 on. -/
def actv (P : FVec Ideal S16384x13312 .bf16) (r q : ℕ) : EReal :=
  if h : r < 16384 ∧ q < 1024 then P (ix2 ⟨r, h.1⟩ ⟨3072 + q, by omega⟩) else 0

theorem actv_eq (P : FVec Ideal S16384x13312 .bf16) (r q : ℕ) (hr : r < 16384) (hq : q < 1024) :
    actv P r q = P (ix2 ⟨r, hr⟩ ⟨3072 + q, by omega⟩) := dif_pos ⟨hr, hq⟩

/-- The sum over a row's window, within its sequence. -/
def win (P : FVec Ideal S16384x13312 .bf16) (w r q : ℕ) : EReal :=
  ∑ j ∈ Finset.range w, if j ≤ r % 4096 then actv P (r - j) q else 0

/-- The branch at a row and a channel: the windows' means less the rows, through the weights, scaled. -/
def branch (P : FVec Ideal S16384x13312 .bf16) (W : FVec Ideal S2x4x256x256 .f32) (S : FVec Ideal S2x1024 .f32) (r : ℕ) (g : Fin 4) (d : Fin 256) : EReal :=
  (∑ k : Fin 256, (Ideal.div (win P (2 ^ (g.val + 1)) r (256 * g.val + k.val)) (((min (r % 4096 + 1) (2 ^ (g.val + 1)) : ℕ) : ℝ) : EReal)
      - actv P r (256 * g.val + k.val)) * W (ix4 0 g k d)) * S (ix2 0 ⟨256 * g.val + d.val, by omega⟩)

theorem idx : ∀ t : Fin grid0.N,
    win0_0.index t = ![t.val, 3] ∧ win0_1.index t = ![64 * t.val - 1, 3] ∧ win0_2.index t = ![0, 0, 0, 0] ∧ win0_3.index t = ![0, 0]
    ∧ win0_4.index t = ![t.val, 0] := by decide +kernel

theorem blk0 (t : Fin cfg0.N) (a : Fin 1024) (b : Fin 1024) (r q : ℕ) (hr : r = 1024 * t.val + a.val) (hq : q = b.val) :
    (iblk (F := Ideal) m c 0 t : Vec Ideal S1024x1024 .bf16) (ix2 a b) = actv (prj m c) r q := by
  subst hr hq
  have ht : t.val < 16 := t.isLt
  obtain ⟨i0, i1, i2, i3, i4⟩ := idx t
  rw [actv_eq _ _ _ (by omega) b.isLt]
  blk_ext [iblk, V, i0, prj]

theorem blk1 (t : Fin cfg0.N) (h0 : 1 ≤ t.val) (a : Fin 16) (b : Fin 1024) (r q : ℕ) (hr : r + 16 = 1024 * t.val + a.val) (hq : q = b.val) :
    (iblk (F := Ideal) m c 1 t : Vec Ideal S16x1024 .bf16) (ix2 a b) = actv (prj m c) r q := by
  subst hq
  have ht : t.val < 16 := t.isLt
  obtain ⟨i0, i1, i2, i3, i4⟩ := idx t
  obtain rfl : r = 16 * (64 * t.val - 1) + a.val := by omega
  rw [actv_eq _ _ _ (by omega) b.isLt]
  blk_ext [iblk, V, i1, prj]

theorem blk2 (t : Fin cfg0.N) (g : Fin 4) (k d : Fin 256) :
    (iblk (F := Ideal) m c 2 t : Vec Ideal S1x4x256x256 .bf16) (ix4 0 g k d) = wgt m c (ix4 0 g k d) := by
  have hV : ∀ (l : Fin 2), (V (F := Ideal) m c main_v0 : Vec Ideal S2x4x256x256 .bf16) (ix4 l g k d) = wgt m c (ix4 l g k d) := fun l => by
    unfold wgt
    entry_read
    pointwise
  obtain ⟨i0, i1, i2, i3, i4⟩ := idx t
  rw [← hV]
  blk_ext [iblk, i2]

theorem blk3 (t : Fin cfg0.N) (b : Fin 1024) :
    (iblk (F := Ideal) m c 3 t : Vec Ideal S1x1024 .f32) (ix2 0 b) = scl m c (ix2 0 b) := by
  have hV : (V (F := Ideal) m c main_v3 : Vec Ideal S1x1024 .f32) (ix2 0 b) = scl m c (ix2 0 b) := by
    unfold scl
    entry_read
    pointwise
  obtain ⟨i0, i1, i2, i3, i4⟩ := idx t
  rw [← hV]
  blk_ext [iblk, i3]

/-- A row of the padded scratch, within its tile's reach back. -/
theorem ext_eq (t : Fin cfg0.N) (a : Fin 1024) (j q : ℕ) (hj : j < 16) (hq : q < 1024) :
    ext (k0_pay7 (iblk (F := Ideal) m c 0 t : Vec Ideal S1024x1024 .bf16)) (k0_pay6 (grid0.coords t) (iblk (F := Ideal) m c 1 t : Vec Ideal S16x1024 .bf16)) (24 + a.val - j) q =
      if j ≤ (1024 * t.val + a.val) % 4096 then actv (prj m c) (1024 * t.val + a.val - j) q else 0 := by
  have ht : t.val < 16 := t.isLt
  unfold ext
  by_cases hc : j ≤ a.val
  · rw [dif_pos ⟨by omega, by omega, hq⟩, if_pos (by omega)]
    unfold k0_pay7
    rw [shapeCast_self]
    exact blk0 m c t _ _ _ _ (by show _ = 1024 * t.val + (24 + a.val - j - 24); omega) rfl
  · rw [dif_neg (by omega), dif_pos ⟨by omega, by omega, hq⟩]
    refine (pay6_apply t _ _ _).trans ?_
    by_cases h0 : t.val % 4 = 0
    · rw [if_pos h0, if_neg (by omega)]
    · rw [if_neg h0, if_pos (by omega)]
      exact blk1 m c t (by omega) _ _ _ _ (by show _ = 1024 * t.val + (24 + a.val - j - 8); omega) rfl

theorem arr (G : Vec Ideal S16384x1024 .bf16)
    (hG : ∀ (r : Fin 16384) (q : Fin 1024) (g : Fin 4) (d : Fin 256), q.val = 256 * g.val + d.val → G (ix2 r q) = branch (prj m c) (wgt m c) (scl m c) r.val g d) :
    (dats (F := Ideal) m 0 c).arrAt 4 cfg0.N = G := by
  refine (dats (F := Ideal) m 0 c).arrAt_eq_of_covers 4 _ (by decide +kernel) fun t hf y => ?_
  blk_simp
  rw [after0_4]
  obtain ⟨y0, y1, rfl⟩ : ∃ a b, y = ix2 a b := ⟨y 0, y 1, by funext i; fin_cases i <;> rfl⟩
  have ht : t.val < 16 := t.isLt
  obtain ⟨i0, i1, i2, i3, i4⟩ := idx t
  have he : ((View.whole main_v4).slice (win0_4.rect t)).emb (ix2 y0 y1) = ix2 ⟨1024 * t.val + y0.val, by omega⟩ y1 := by
    blk_ext [i4]
  obtain ⟨g, d, hgd⟩ : ∃ (g : Fin 4) (d : Fin 256), y1.val = 256 * g.val + d.val :=
    ⟨⟨y1.val / 256, by omega⟩, ⟨y1.val % 256, by omega⟩, by show _ = 256 * (y1.val / 256) + y1.val % 256; omega⟩
  rw [he, hG _ y1 g d hgd, out_apply m c t y0 y1 g d hgd, blk3]
  have hp : 2 ^ (g.val + 1) ≤ 16 := by fin_cases g <;> decide
  have hm : (1024 * t.val + y0.val) % 4096 = 1024 * (t.val % 4) + y0.val := by omega
  unfold branch
  refine congrArg₂ (· * ·) (Finset.sum_congr rfl fun k _ => congrArg₂ (· * ·) ?_ (blk2 m c t g k d)) (congrArg _ (congrArg (ix2 0) (Fin.ext hgd)))
  unfold pooled
  refine congrArg₂ (· - ·) (congrArg₂ Ideal.div ?_ ?_) ?_
  · unfold trail win
    exact Finset.sum_congr rfl fun j hj => ext_eq m c t y0 j _ (by have := Finset.mem_range.mp hj; omega) (by omega)
  · show _ = (((min ((1024 * t.val + y0.val) % 4096 + 1) (2 ^ (g.val + 1)) : ℕ) : ℝ) : EReal)
    rw [hm]
  · have := ext_eq m c t y0 0 (256 * g.val + k.val) (by omega) (by omega)
    rw [if_pos (Nat.zero_le _), Nat.sub_zero, Nat.sub_zero] at this
    exact this

end Cert.Proof.Pool

end
-- ==== Proof.MM.PoolRef.lean ====
/-
  The pooled branch's reference (program 8), read at an index.
-/
module

public import proofs.«01_k».proof.Proof.Gen.Reference8Ideal.Run
public import proofs.«01_k».proof.Proof.MM.PoolArr
public import proofs.«01_k».proof.Proof.SB.Ref

@[expose] public section

set_option maxRecDepth 16384

noncomputable section

namespace Cert.Proof.PoolRef

open Cert.Reference8Ideal Cert.Reference8Ideal.Gen
open Idealize.ShloMosaic Idealize.ShloMosaic.TcCoe
open Cert.Proof.Pool (actv win branch)

/-! ## The reference's term, in named steps -/

section Terms

variable {F : FTy → Type} [FloatOps F]

def u4 (A : Vec F S16384x13312 .bf16) : FVec F S4x4096x4x256 .f32 :=
  shapeCast _ (shapeCast _ (extf .f32 (extractStridedSlice S16384x1024 ![0, 3072] A slices_S16384x13312_S16384x1024_0_3072) bitsLt_bf16_f32) shapeCasts_S16384x1024_S4x4096x1024) shapeCasts_S4x4096x1024_S4x4096x4x256

def pre (A : Vec F S16384x13312 .bf16) : FVec F S4x4096x4x256 .f32 :=
  Host.reduceWindowAdd ![1, 4096, 1, 1] ![1, 1, 1, 1] ![0, 4095, 0, 0] ![0, 0, 0, 0] (u4 A) (broadcastInDim S_ ![] bcast_S_S_ (constant S_ .f32 0x00000000#32)) reduceWindows_S4x4096x4x256_S4x4096x4x256_w1s1p0_0_w4096s1p4095_0_w1s1p0_0_w1s1p0_0 h_S_

def cum (A : Vec F S16384x13312 .bf16) : FVec F S4x4097x4x256 .f32 :=
  concatenate S4x4097x4x256 1 [⟨S4x1x4x256, (broadcastInDim S4x1x4x256 ![] bcast_S_S4x1x4x256 (constant S_ .f32 0x00000000#32))⟩, ⟨S4x4096x4x256, pre A⟩] concatenates_S4x1x4x256_S4x4096x4x256_S4x4097x4x256_d1

def top : IVec S4096 32 := addi (iotaInDim S4096 32 0) (broadcastInDim S4096 ![] bcast_S_S4096 (constantI S_ 32 1#32))

def low (w : BitVec 32) : IVec S4096 32 :=
  maxsi (subi top (broadcastInDim S4096 ![] bcast_S_S4096 (constantI S_ 32 w))) (broadcastInDim S4096 ![] bcast_S_S4096 (constantI S_ 32 0#32))

def ixs (w g : BitVec 32) : IVec S4096x2 32 :=
  concatenate S4096x2 1 [⟨S4096x1, (broadcastInDim S4096x1 ![0] bcast_S4096_S4096x1_0 (select (cmpi .slt (low w) (broadcastInDim S4096 ![] bcast_S_S4096 (constantI S_ 32 0#32))) (addi (low w) (broadcastInDim S4096 ![] bcast_S_S4096 (constantI S_ 32 4097#32))) (low w)))⟩, ⟨S4096x1, (broadcastInDim S4096x1 ![0] bcast_S4096_S4096x1_0 (id (broadcastInDim S4096 ![] bcast_S_S4096 (constantI S_ 32 g))))⟩] concatenates_S4096x1_S4096x1_S4096x2_d1

def cntv (w : BitVec 32) : FVec F S4x4096x256 .f32 :=
  broadcastInDim S4x4096x256 ![0, 1, 2] bcast_S1x4096x1_S4x4096x256_0_1_2 (broadcastInDim S1x4096x1 ![1, 2] bcast_S4096x1_S1x4096x1_1_2 (broadcastInDim S4096x1 ![0] bcast_S4096_S4096x1_0 (sitofp .f32 (subi top (low w)))))

def grp (A : Vec F S16384x13312 .bf16) (w gb : BitVec 32) (g : ℕ) (h1 : S4x4097x4x256.Slices ![0, 1, g, 0] S4x4096x1x256) (h2 : S4x4096x4x256.Slices ![0, 0, g, 0] S4x4096x1x256) :
    FVec F S4x4096x256 .f32 :=
  subf (Host.divf (subf (shapeCast _ (extractStridedSlice S4x4096x1x256 ![0, 1, g, 0] (cum A) h1) shapeCasts_S4x4096x1x256_S4x4096x256)
      (Host.gather gather_S4x4097x4x256_S4096x2_S4x4096x256_02_12_n_n_12_1_411256 (cum A) (ixs w gb))) (cntv w))
    (shapeCast _ (extractStridedSlice S4x4096x1x256 ![0, 0, g, 0] (u4 A) h2) shapeCasts_S4x4096x1x256_S4x4096x256)

def cat (p0 p1 p2 p3 : FVec F S4x4096x256 .f32) : FVec F S4x4096x4x256 .f32 :=
  concatenate S4x4096x4x256 2 [⟨S4x4096x1x256, broadcastInDim S4x4096x1x256 ![0, 1, 3] bcast_S4x4096x256_S4x4096x1x256_0_1_3 p0⟩, ⟨S4x4096x1x256, broadcastInDim S4x4096x1x256 ![0, 1, 3] bcast_S4x4096x256_S4x4096x1x256_0_1_3 p1⟩, ⟨S4x4096x1x256, broadcastInDim S4x4096x1x256 ![0, 1, 3] bcast_S4x4096x256_S4x4096x1x256_0_1_3 p2⟩, ⟨S4x4096x1x256, broadcastInDim S4x4096x1x256 ![0, 1, 3] bcast_S4x4096x256_S4x4096x1x256_0_1_3 p3⟩] concatenates_S4x4096x1x256_S4x4096x1x256_S4x4096x1x256_S4x4096x1x256_S4x4096x4x256_d2

def mix (Y : FVec F S4x4096x4x256 .f32) (W : Vec F S2x4x256x256 .f32) : FVec F S4x4096x4x256 .f32 :=
  transpose S4x4096x4x256 [2, 3, 0, 1] (Host.dotGeneral dot_S4x256x256_S4x4096x4x256_S4x256x4x4096_1_3_2_01_0_2 none (shapeCast _ (extractStridedSlice S1x4x256x256 ![0, 0, 0, 0] W slices_S2x4x256x256_S1x4x256x256_0_0_0_0) shapeCasts_S1x4x256x256_S4x256x256) Y) transposes_S4x256x4x4096_S4x4096x4x256_2_3_0_1

def fin (Z : FVec F S4x4096x4x256 .f32) (S : Vec F S2x1024 .f32) : FVec F S16384x1024 .bf16 :=
  truncf .bf16 (shapeCast _ (mulf (shapeCast _ Z shapeCasts_S4x4096x4x256_S4x4096x1024) (broadcastInDim S4x4096x1024 ![0, 1, 2] bcast_S1x1x1024_S4x4096x1024_0_1_2 (broadcastInDim S1x1x1024 ![2] bcast_S1024_S1x1x1024_2 (shapeCast _ (extractStridedSlice S1x1024 ![0, 0] S slices_S2x1024_S1x1024_0_0) shapeCasts_S1x1024_S1024)))) shapeCasts_S4x4096x1024_S16384x1024) bitsLt_bf16_f32

def out (A : Vec F S16384x13312 .bf16) (W : Vec F S2x4x256x256 .f32) (S : Vec F S2x1024 .f32) : FVec F S16384x1024 .bf16 :=
  fin (mix (cat
    (grp A 2#32 0#32 0 slices_S4x4097x4x256_S4x4096x1x256_0_1_0_0 slices_S4x4096x4x256_S4x4096x1x256_0_0_0_0)
    (grp A 4#32 1#32 1 slices_S4x4097x4x256_S4x4096x1x256_0_1_1_0 slices_S4x4096x4x256_S4x4096x1x256_0_0_1_0)
    (grp A 8#32 2#32 2 slices_S4x4097x4x256_S4x4096x1x256_0_1_2_0 slices_S4x4096x4x256_S4x4096x1x256_0_0_2_0)
    (grp A 16#32 3#32 3 slices_S4x4097x4x256_S4x4096x1x256_0_1_3_0 slices_S4x4096x4x256_S4x4096x1x256_0_0_3_0)) W) S

theorem res_eq (m : (ℓ : Loc nD τ sig) → Buf (Elt F) ℓ) (c : Dev nD) :
    Value.res_main_v148 m c = out (m ((c.tc : Thread nD τ).loc main_arg0)) (m ((c.tc : Thread nD τ).loc main_arg1)) (m ((c.tc : Thread nD τ).loc main_arg2)) := rfl

end Terms

/-! ## Read at an index -/

theorem fin_apply (Z : FVec Ideal S4x4096x4x256 .f32) (S : Vec Ideal S2x1024 .f32) (r : Fin 16384) (q : Fin 1024) (g : Fin 4) (d : Fin 256) (h : q.val = 256 * g.val + d.val) :
    fin (F := Ideal) Z S (ix2 r q) = Z (ix4 ⟨r.val / 4096, by omega⟩ ⟨r.val % 4096, by omega⟩ g d) * S (ix2 0 q) := by
  have e1 : q.val / 256 = g.val := by omega
  have e2 : q.val % 256 = d.val := by omega
  have E1 : (⟨q.val / 256, by omega⟩ : Fin 4) = g := Fin.ext e1
  have E2 : (⟨q.val % 256, by omega⟩ : Fin 256) = d := Fin.ext e2
  pointwise [fin]
  rw [E1, E2]

theorem mix_apply (Y : FVec Ideal S4x4096x4x256 .f32) (W : Vec Ideal S2x4x256x256 .f32) (b : Fin 4) (s : Fin 4096) (g : Fin 4) (d : Fin 256) :
    mix (F := Ideal) Y W (ix4 b s g d) = ∑ k : Fin 256, Y (ix4 b s g k) * W (ix4 0 g k d) := by
  refine Eq.trans (b := ∑ k : Fin 256, W (ix4 0 g k d) * Y (ix4 b s g k)) ?_ (Finset.sum_congr rfl fun k _ => mul_comm _ _)
  pointwise [mix]

theorem cat_apply0 (p0 p1 p2 p3 : FVec Ideal S4x4096x256 .f32) (b : Fin 4) (s : Fin 4096) (k : Fin 256) : cat (F := Ideal) p0 p1 p2 p3 (ix4 b s 0 k) = p0 (ix3 b s k) := by
  pointwise [cat]
theorem cat_apply1 (p0 p1 p2 p3 : FVec Ideal S4x4096x256 .f32) (b : Fin 4) (s : Fin 4096) (k : Fin 256) : cat (F := Ideal) p0 p1 p2 p3 (ix4 b s 1 k) = p1 (ix3 b s k) := by
  pointwise [cat]
theorem cat_apply2 (p0 p1 p2 p3 : FVec Ideal S4x4096x256 .f32) (b : Fin 4) (s : Fin 4096) (k : Fin 256) : cat (F := Ideal) p0 p1 p2 p3 (ix4 b s 2 k) = p2 (ix3 b s k) := by
  pointwise [cat]
theorem cat_apply3 (p0 p1 p2 p3 : FVec Ideal S4x4096x256 .f32) (b : Fin 4) (s : Fin 4096) (k : Fin 256) : cat (F := Ideal) p0 p1 p2 p3 (ix4 b s 3 k) = p3 (ix3 b s k) := by
  pointwise [cat]

theorem u4_apply (A : Vec Ideal S16384x13312 .bf16) (b : Fin 4) (s : Fin 4096) (g : Fin 4) (k : Fin 256) :
    u4 (F := Ideal) A (ix4 b s g k) = actv A (4096 * b.val + s.val) (256 * g.val + k.val) := by
  rw [Pool.actv_eq _ _ _ (by omega) (by omega)]
  pointwise [u4]
  refine congrArg A (congrArg₂ ix2 (Fin.ext ?_) (Fin.ext ?_))
  · show b.val * 4096 + s.val = 4096 * b.val + s.val
    omega
  · show 3072 + (g.val * 256 + k.val) = 3072 + (256 * g.val + k.val)
    omega

theorem gather_apply (x : FVec Ideal S4x4097x4x256 .f32) (idx : IVec S4096x2 32) (b : Fin 4) (s : Fin 4096) (k : Fin 256) (n : Fin 4097) (g : Fin 4)
    (hn : (idx (ix2 s 0)).toInt = (n.val : ℤ)) (hg : (idx (ix2 s 1)).toInt = (g.val : ℤ)) :
    Host.gather gather_S4x4097x4x256_S4096x2_S4x4096x256_02_12_n_n_12_1_411256 x idx (ix3 b s k) = x (ix4 b n g k) := by
  unfold Host.gather
  congr 1
  have e0 : gather_S4x4097x4x256_S4096x2_S4x4096x256_02_12_n_n_12_1_411256.start (ix3 b s k) idx 1 = min (idx (ix2 s 0)).toInt.toNat 4096 := by
    unfold GatherDims.start
    rw [dif_pos (by decide)]
    congr 4
    funext a
    fin_cases a <;> rfl
  have e1 : gather_S4x4097x4x256_S4096x2_S4x4096x256_02_12_n_n_12_1_411256.start (ix3 b s k) idx 2 = min (idx (ix2 s 1)).toInt.toNat 3 := by
    unfold GatherDims.start
    rw [dif_pos (by decide)]
    congr 4
    funext a
    fin_cases a <;> rfl
  rw [hn] at e0
  rw [hg] at e1
  funext a
  apply Fin.ext
  fin_cases a
  · show 0 + 0 + b.val = b.val
    omega
  · refine (show _ = gather_S4x4097x4x256_S4096x2_S4x4096x256_02_12_n_n_12_1_411256.start (ix3 b s k) idx 1 + 0 + 0 from rfl).trans ?_
    rw [e0]
    show min n.val 4096 + 0 + 0 = n.val
    omega
  · refine (show _ = gather_S4x4097x4x256_S4096x2_S4x4096x256_02_12_n_n_12_1_411256.start (ix3 b s k) idx 2 + 0 + 0 from rfl).trans ?_
    rw [e1]
    show min g.val 3 + 0 + 0 = g.val
    omega
  · show 0 + 0 + k.val = k.val
    omega

theorem cum_zero (A : Vec Ideal S16384x13312 .bf16) (b : Fin 4) (g : Fin 4) (k : Fin 256) : cum (F := Ideal) A (ix4 b 0 g k) = 0 := by
  unfold cum
  generalize pre (F := Ideal) A = p
  pointwise

theorem cum_succ (A : Vec Ideal S16384x13312 .bf16) (b : Fin 4) (s : Fin 4096) (g : Fin 4) (k : Fin 256) :
    cum (F := Ideal) A (ix4 b ⟨s.val + 1, by omega⟩ g k) = pre (F := Ideal) A (ix4 b s g k) := by
  unfold cum
  generalize pre (F := Ideal) A = p
  pointwise
  exact dif_neg (by omega)

theorem grp_apply (A : Vec Ideal S16384x13312 .bf16) (w gb : BitVec 32) (g : Fin 4) (h1 : S4x4097x4x256.Slices ![0, 1, g.val, 0] S4x4096x1x256) (h2 : S4x4096x4x256.Slices ![0, 0, g.val, 0] S4x4096x1x256)
    (b : Fin 4) (s : Fin 4096) (k : Fin 256) :
    grp (F := Ideal) A w gb g.val h1 h2 (ix3 b s k) =
      Ideal.div (cum (F := Ideal) A (ix4 b ⟨s.val + 1, by omega⟩ g k) -
        Host.gather gather_S4x4097x4x256_S4096x2_S4x4096x256_02_12_n_n_12_1_411256 (cum (F := Ideal) A) (ixs w gb) (ix3 b s k)) (cntv (F := Ideal) w (ix3 b s k))
      - u4 (F := Ideal) A (ix4 b s g k) := by
  unfold grp
  generalize cum (F := Ideal) A = x
  generalize Host.gather gather_S4x4097x4x256_S4096x2_S4x4096x256_02_12_n_n_12_1_411256 x (ixs w gb) = y
  generalize cntv (F := Ideal) w = z
  generalize u4 (F := Ideal) A = u
  have E : (⟨1 + s.val, by omega⟩ : Fin 4097) = ⟨s.val + 1, by omega⟩ := Fin.ext (Nat.add_comm 1 s.val)
  pointwise
  rw [E]

theorem ints (w : BitVec 32) (s : Fin 4096) : low w (ix1 s) = IntOp.maxsi (IntOp.subi (IntOp.addi (BitVec.ofNat 32 s.val) 1#32) w) 0#32 := by
  pointwise [low, top]

theorem ixs0 (w g : BitVec 32) (s : Fin 4096) : ixs w g (ix2 s 0) = Scalar.select (IntOp.cmpi .slt (low w (ix1 s)) 0#32) (IntOp.addi (low w (ix1 s)) 4097#32) (low w (ix1 s)) := by
  unfold ixs
  generalize low w = l
  pointwise
theorem ixs1 (w g : BitVec 32) (s : Fin 4096) : ixs w g (ix2 s 1) = g := by
  unfold ixs
  generalize low w = l
  pointwise
  rfl
theorem cntv_apply (w : BitVec 32) (b : Fin 4) (s : Fin 4096) (k : Fin 256) :
    cntv (F := Ideal) w (ix3 b s k) = (((IntOp.subi (IntOp.addi (BitVec.ofNat 32 s.val) 1#32) (low w (ix1 s))).toInt : ℝ) : EReal) := by
  unfold cntv
  generalize low w = l
  pointwise [top]
  rfl

end Cert.Proof.PoolRef

end
-- ==== Proof.MM.PoolSum.lean ====
/-
  The pooled branch's reference (program 8): differences of its cumulative sums are the windows' sums where the activations are finite.
-/
module

public import proofs.«01_k».proof.Defs
public import proofs.«01_k».proof.Proof.MM.PoolRef

@[expose] public section

set_option maxRecDepth 16384

noncomputable section

namespace Cert.Proof.PoolRef

open Cert.Reference8Ideal Cert.Reference8Ideal.Gen
open Idealize.ShloMosaic Idealize.ShloMosaic.TcCoe
open Cert.Proof.Pool (actv win branch)

/-- The sum of the entries up to a position, along the second of four axes. -/
theorem prefix4 {n0 n n2 n3 : ℕ} {u : Shape} (x : FVec Ideal ⟨4, ![n0, n, n2, n3]⟩ .f32) (init : FVec Ideal u .f32) (hu : 0 < u.numel)
    (hw : Shape.ReduceWindows ⟨4, ![n0, n, n2, n3]⟩ ![1, n, 1, 1] ![1, 1, 1, 1] ![0, n - 1, 0, 0] ![0, 0, 0, 0] ⟨4, ![n0, n, n2, n3]⟩)
    (h0 : init (Shape.Idx.first hu) = (0 : EReal)) (b : Fin n0) (s : Fin n) (g : Fin n2) (k : Fin n3) (L : ℕ → EReal)
    (hx : ∀ j : Fin n, x (ix4 b j g k) = L j.val) :
    Host.reduceWindowAdd (F := Ideal) ![1, n, 1, 1] ![1, 1, 1, 1] ![0, n - 1, 0, 0] ![0, 0, 0, 0] x init hw hu (ix4 b s g k) =
      ∑ j ∈ Finset.range (s.val + 1), L j := by
  refine (SB.Ref.reduceWindow_add ![1, n, 1, 1] ![1, 1, 1, 1] ![0, n - 1, 0, 0] ![0, 0, 0, 0] x (init (Shape.Idx.first hu)) hw (ix4 b s g k)).trans ?_
  rw [h0, zero_add]
  have hs := s.isLt
  refine (sum_idx4 (n0 := 1) (n1 := n) (n2 := 1) (n3 := 1) _).trans ?_
  rw [Fin.sum_univ_one]
  refine (Finset.sum_congr rfl (g := fun j : Fin n => (if n - 1 - j.val ≤ s.val then L (s.val - (n - 1 - j.val)) else 0 : EReal)) fun j _ => ?_).trans ?_
  · have hj := j.isLt
    rw [Fin.sum_univ_one, Fin.sum_univ_one]
    by_cases hb : n - 1 - j.val ≤ s.val
    · rw [if_pos hb, dif_pos (by
        intro a
        fin_cases a
        · exact ⟨Nat.zero_le _, by show b.val * 1 + 0 - 0 < n0; omega⟩
        · exact ⟨by show n - 1 ≤ s.val * 1 + j.val; omega, by show s.val * 1 + j.val - (n - 1) < n; omega⟩
        · exact ⟨Nat.zero_le _, by show g.val * 1 + 0 - 0 < n2; omega⟩
        · exact ⟨Nat.zero_le _, by show k.val * 1 + 0 - 0 < n3; omega⟩)]
      rw [← hx ⟨s.val - (n - 1 - j.val), by omega⟩]
      congr 1
      funext a
      apply Fin.ext
      fin_cases a
      · show b.val * 1 + 0 - 0 = b.val; omega
      · show s.val * 1 + j.val - (n - 1) = s.val - (n - 1 - j.val); omega
      · show g.val * 1 + 0 - 0 = g.val; omega
      · show k.val * 1 + 0 - 0 = k.val; omega
    · rw [if_neg hb, dif_neg (fun hin => hb (by
        have h3 : n - 1 ≤ s.val * 1 + j.val := (hin 1).1
        omega))]
  rw [Fin.sum_univ_eq_sum_range (fun j => if n - 1 - j ≤ s.val then L (s.val - (n - 1 - j)) else 0) n,
    Finset.sum_range_reflect (fun j => if j ≤ s.val then L (s.val - j) else 0) n, ← Finset.sum_filter,
    ← Finset.sum_range_reflect L (s.val + 1)]
  refine Finset.sum_congr ?_ fun y _ => by rw [show s.val + 1 - 1 - y = s.val - y by omega]
  ext y
  simp only [Finset.mem_filter, Finset.mem_range]
  omega

theorem cum_apply (A : Vec Ideal S16384x13312 .bf16) (b : Fin 4) (n : Fin 4097) (g : Fin 4) (k : Fin 256) :
    cum (F := Ideal) A (ix4 b n g k) = ∑ j ∈ Finset.range n.val, actv A (4096 * b.val + j) (256 * g.val + k.val) := by
  obtain ⟨n, hn⟩ := n
  cases n with
  | zero => exact (cum_zero A b g k).trans (Finset.sum_range_zero _).symm
  | succ s =>
    refine (cum_succ A b ⟨s, by omega⟩ g k).trans ?_
    have h0 : (broadcastInDim S_ ![] bcast_S_S_ (constant (F := Ideal) S_ .f32 0x00000000#32)) (Shape.Idx.first h_S_) = (0 : EReal) := by
      pointwise
    unfold pre
    exact prefix4 (u4 (F := Ideal) A) _ h_S_ reduceWindows_S4x4096x4x256_S4x4096x4x256_w1s1p0_0_w4096s1p4095_0_w1s1p0_0_w1s1p0_0 h0 b ⟨s, by omega⟩ g k
      (fun j => actv A (4096 * b.val + j) (256 * g.val + k.val)) (fun j => u4_apply A b j g k)

/-- A difference of sums from the start is the sum over the window. -/
theorem window_sum (f : ℕ → ℝ) (s w : ℕ) :
    ∑ j ∈ Finset.range (s + 1), f j - ∑ j ∈ Finset.range (s + 1 - w), f j = ∑ j ∈ Finset.range w, if j ≤ s then f (s - j) else 0 := by
  induction w with
  | zero => simp
  | succ w ih =>
    rw [Finset.sum_range_succ _ w, ← ih]
    by_cases h : w ≤ s
    · rw [if_pos h, show s + 1 - w = (s - w) + 1 by omega, show s + 1 - (w + 1) = s - w by omega, Finset.sum_range_succ (n := s - w)]
      ring
    · rw [if_neg h, show s + 1 - w = 0 by omega, show s + 1 - (w + 1) = 0 by omega]
      ring

theorem toInt_small (n : ℕ) (hn : n < 2 ^ 31) : (BitVec.ofNat 32 n).toInt = (n : ℤ) := by
  rw [BitVec.toInt_ofNat']
  norm_num
  exact Int.bmod_eq_of_le (by omega) (by omega)

theorem low_toInt (w : ℕ) (hw : w < 2 ^ 30) (s : Fin 4096) : (low (BitVec.ofNat 32 w) (ix1 s)).toInt = ((s.val + 1 - w : ℕ) : ℤ) := by
  have hs := s.isLt
  rw [ints]
  have e1 : IntOp.addi (BitVec.ofNat 32 s.val) 1#32 = BitVec.ofNat 32 (s.val + 1) := (BitVec.ofNat_add s.val 1).symm
  rw [e1]
  have e2 : (IntOp.subi (BitVec.ofNat 32 (s.val + 1)) (BitVec.ofNat 32 w)).toInt = ((s.val + 1 : ℕ) : ℤ) - (w : ℤ) := by
    show (BitVec.ofNat 32 (s.val + 1) - BitVec.ofNat 32 w).toInt = _
    rw [BitVec.toInt_sub, toInt_small _ (by omega), toInt_small _ (by omega)]
    exact Int.bmod_eq_of_le (by omega) (by omega)
  unfold IntOp.maxsi
  rw [BitVec.slt_eq_decide, e2]
  have z : (0#32 : BitVec 32).toInt = 0 := rfl
  rw [z]
  by_cases hc : (0 : ℤ) < ((s.val + 1 : ℕ) : ℤ) - (w : ℤ)
  · rw [if_pos (by simpa using hc), e2]
    omega
  · rw [if_neg (by simpa using hc), z]
    omega

theorem ixs0_toInt (w : ℕ) (hw : w < 2 ^ 30) (g : BitVec 32) (s : Fin 4096) : (ixs (BitVec.ofNat 32 w) g (ix2 s 0)).toInt = ((s.val + 1 - w : ℕ) : ℤ) := by
  have hl := low_toInt w hw s
  rw [ixs0, show IntOp.cmpi .slt (low (BitVec.ofNat 32 w) (ix1 s)) 0#32 = 0#1 from ?_]
  · exact hl
  · show BitVec.ofBool ((low (BitVec.ofNat 32 w) (ix1 s)).slt 0#32) = 0#1
    rw [BitVec.slt_eq_decide, hl, show (0#32 : BitVec 32).toInt = 0 from rfl, decide_eq_false (by omega)]
    rfl

theorem cntv_eq (w : ℕ) (hw : w < 2 ^ 30) (b : Fin 4) (s : Fin 4096) (k : Fin 256) :
    cntv (F := Ideal) (BitVec.ofNat 32 w) (ix3 b s k) = (((min (s.val + 1) w : ℕ) : ℝ) : EReal) := by
  have hs := s.isLt
  rw [cntv_apply]
  have e1 : IntOp.addi (BitVec.ofNat 32 s.val) 1#32 = BitVec.ofNat 32 (s.val + 1) := (BitVec.ofNat_add s.val 1).symm
  have e2 : (IntOp.subi (BitVec.ofNat 32 (s.val + 1)) (low (BitVec.ofNat 32 w) (ix1 s))).toInt = ((min (s.val + 1) w : ℕ) : ℤ) := by
    show (BitVec.ofNat 32 (s.val + 1) - low (BitVec.ofNat 32 w) (ix1 s)).toInt = _
    rw [BitVec.toInt_sub, toInt_small _ (by omega), low_toInt w hw s]
    refine (Int.bmod_eq_of_le (by omega) (by omega)).trans ?_
    omega
  rw [e1, e2, Int.cast_natCast]

/-- The pooled activations are finite. -/
def Fin8 (A : FVec Ideal S16384x13312 .bf16) : Prop := ∀ r q, actv A r q ≠ ⊤ ∧ actv A r q ≠ ⊥

theorem sum_real (A : FVec Ideal S16384x13312 .bf16) (hA : Fin8 A) (r q : ℕ) : actv A r q = ((actv A r q).toReal : EReal) :=
  (EReal.coe_toReal (hA r q).1 (hA r q).2).symm

theorem coe_sum (f : ℕ → ℝ) (S : Finset ℕ) : ∑ j ∈ S, ((f j : ℝ) : EReal) = ((∑ j ∈ S, f j : ℝ) : EReal) := by
  induction S using Finset.induction_on with
  | empty => simp
  | insert a S ha ih => rw [Finset.sum_insert ha, Finset.sum_insert ha, ih, EReal.coe_add]

theorem win_eq (A : FVec Ideal S16384x13312 .bf16) (hA : Fin8 A) (w b s q : ℕ) (hs : s < 4096) :
    ∑ j ∈ Finset.range (s + 1), actv A (4096 * b + j) q - ∑ j ∈ Finset.range (s + 1 - w), actv A (4096 * b + j) q = win A w (4096 * b + s) q := by
  have e : ∀ n, ∑ j ∈ Finset.range n, actv A (4096 * b + j) q = ((∑ j ∈ Finset.range n, (actv A (4096 * b + j) q).toReal : ℝ) : EReal) := fun n => by
    rw [← coe_sum]
    exact Finset.sum_congr rfl fun j _ => sum_real A hA _ _
  rw [e, e, ← EReal.coe_sub, window_sum (fun j => (actv A (4096 * b + j) q).toReal), ← coe_sum]
  unfold win
  refine Finset.sum_congr rfl fun j _ => ?_
  rw [show (4096 * b + s) % 4096 = s by omega]
  by_cases h : j ≤ s
  · rw [if_pos h, if_pos h, show 4096 * b + s - j = 4096 * b + (s - j) by omega]
    exact (sum_real A hA _ _).symm
  · rw [if_neg h, if_neg h]
    rfl

theorem grp_eq (A : Vec Ideal S16384x13312 .bf16) (hA : Fin8 A) (w : ℕ) (hw : w < 2 ^ 30) (gb : BitVec 32) (g : Fin 4) (hg : gb.toInt = (g.val : ℤ))
    (h1 : S4x4097x4x256.Slices ![0, 1, g.val, 0] S4x4096x1x256) (h2 : S4x4096x4x256.Slices ![0, 0, g.val, 0] S4x4096x1x256)
    (b : Fin 4) (s : Fin 4096) (k : Fin 256) :
    grp (F := Ideal) A (BitVec.ofNat 32 w) gb g.val h1 h2 (ix3 b s k) =
      Ideal.div (win A w (4096 * b.val + s.val) (256 * g.val + k.val)) (((min (s.val + 1) w : ℕ) : ℝ) : EReal)
        - actv A (4096 * b.val + s.val) (256 * g.val + k.val) := by
  have hs := s.isLt
  rw [grp_apply, cntv_eq w hw, u4_apply, gather_apply _ _ b s k ⟨s.val + 1 - w, by omega⟩ g (ixs0_toInt w hw gb s) (by rw [ixs1]; exact hg),
    cum_apply, cum_apply]
  show Ideal.div (∑ j ∈ Finset.range (s.val + 1), _ - ∑ j ∈ Finset.range (s.val + 1 - w), _) _ - _ = _
  rw [win_eq A hA w b.val s.val _ hs]

theorem out_apply (A : Vec Ideal S16384x13312 .bf16) (W : Vec Ideal S2x4x256x256 .f32) (S : Vec Ideal S2x1024 .f32) (hA : Fin8 A)
    (r : Fin 16384) (q : Fin 1024) (g : Fin 4) (d : Fin 256) (h : q.val = 256 * g.val + d.val) :
    out (F := Ideal) A W S (ix2 r q) = branch A W S r.val g d := by
  unfold out branch
  rw [fin_apply _ _ r q g d h, mix_apply]
  have hr : 4096 * (r.val / 4096) + r.val % 4096 = r.val := by omega
  refine congrArg₂ (· * ·) (Finset.sum_congr rfl fun k _ => congrArg (· * _) ?_) (congrArg _ (congrArg (ix2 0) (Fin.ext h)))
  obtain ⟨g, hg⟩ := g
  have key := fun (w : ℕ) hw gb hgb h1 h2 => grp_eq A hA w hw gb ⟨g, hg⟩ hgb h1 h2 ⟨r.val / 4096, by omega⟩ ⟨r.val % 4096, by omega⟩ k
  simp only [hr] at key
  interval_cases g
  · exact (cat_apply0 _ _ _ _ _ _ k).trans (key 2 (by norm_num) 0#32 rfl _ _)
  · exact (cat_apply1 _ _ _ _ _ _ k).trans (key 4 (by norm_num) 1#32 rfl _ _)
  · exact (cat_apply2 _ _ _ _ _ _ k).trans (key 8 (by norm_num) 2#32 rfl _ _)
  · exact (cat_apply3 _ _ _ _ _ _ k).trans (key 16 (by norm_num) 3#32 rfl _ _)

end Cert.Proof.PoolRef

end
-- ==== Proof.MM.Pool.lean ====
/-
  The pooled branch (program 8): the call's value and the reference's are one.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.ReduceAll
public import proofs.«01_k».proof.Proof.MM.PoolArr
public import proofs.«01_k».proof.Proof.MM.PoolSum

@[expose] public section

set_option maxRecDepth 16384

noncomputable section

namespace Cert.Proof.Pool

open Idealize.ShloMosaic
open Idealize.ShloMosaic.TcCoe

/-- The side conditions of the precondition's operations. -/
instance preFacts : Cert.Pre_finite_pool_input.Facts where
  slices_S16384x13312_S16384x1024_0_3072 := by decide
  bitsLt_bf16_f32 := by decide
  bcast_S_S16384x1024 := by decide
  reducesTo_S16384x1024_S_d0_1 := by decide
  h_S_ := by decide

theorem cmp_lt (x y : EReal) (h : FloatOps.cmpf (F := Ideal) (φ := .f32) .olt x y = 1#1) : x < y := by
  by_contra hn
  rw [show FloatOps.cmpf (F := Ideal) (φ := .f32) .olt x y = Ideal.cmp .olt x y from rfl] at h
  simp [Ideal.cmp, hn] at h

theorem finite (A : FVec Ideal Cert.Pre_finite_pool_input.S16384x13312 .bf16) (W : FVec Ideal Cert.Pre_finite_pool_input.S2x4x256x256 .f32)
    (S : FVec Ideal Cert.Pre_finite_pool_input.S2x1024 .f32)
    (h : Cert.Pre_finite_pool_input.fn (F := Ideal) A W S = fun _ => 1#1) : PoolRef.Fin8 A := by
  intro r q
  by_cases hb : r < 16384 ∧ q < 1024
  · have hz : Subsingleton Cert.Pre_finite_pool_input.S_.Idx := ⟨fun a b => funext fun i => i.elim0⟩
    have h1 := Host.reduce_andi_all _ _ _ _ _ (congrFun h (fun i => i.elim0)) (ix2 ⟨r, hb.1⟩ ⟨q, hb.2⟩)
    rw [actv_eq A r q hb.1 hb.2]
    have e : extractStridedSlice Cert.Pre_finite_pool_input.S16384x1024 ![0, 3072] A Cert.Pre_finite_pool_input.Facts.slices_S16384x13312_S16384x1024_0_3072
        (ix2 ⟨r, hb.1⟩ ⟨q, hb.2⟩) = A (ix2 ⟨r, hb.1⟩ ⟨3072 + q, by omega⟩) := by pointwise
    have h2 : max (A (ix2 ⟨r, hb.1⟩ ⟨3072 + q, by omega⟩)) (-(A (ix2 ⟨r, hb.1⟩ ⟨3072 + q, by omega⟩))) < (Scalar.ofBits (F := Ideal) .f32 0x7F800000#32 : EReal) := by
      rw [← e]
      exact cmp_lt _ (Scalar.ofBits (F := Ideal) .f32 0x7F800000#32) h1
    have h3 : max _ _ < (⊤ : EReal) := lt_of_lt_of_le h2 le_top
    constructor
    · intro ht; rw [ht] at h3; simp at h3
    · intro ht; rw [ht] at h3; simp at h3
  · unfold actv
    rw [dif_neg hb]
    exact ⟨EReal.zero_ne_top, EReal.zero_ne_bot⟩

theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_ideal_pre : Cert.quiescent_Kernel8Ideal_pre_finite_pool_input := fun m ρ _ => Cert.Kernel8Ideal.Gen.frame m ρ
theorem frame_ref : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)
theorem frame_ref_pre : Cert.quiescent_Reference8Ideal_pre_finite_pool_input := fun m ρ _ => frame_ref m ρ trivial
theorem preserves : Cert.preserves_Kernel8_Kernel8Ideal := trivial

theorem algebraic : Cert.algebraic_Kernel8Ideal_Reference8Ideal_pre_finite_pool_input := by
  intro m g m' g' hpre hagree
  have hr := Cert.Reference8Ideal.Value.run (F := Ideal) m' g'
  have hk := Cert.Kernel8Ideal.Value.run_blocks (F := Ideal) m g
  refine ⟨_, (θ_run Cert.Kernel8Ideal.defs _ _).mono (fun r h c => ⟨(h c).1.trans (arr m c _ (fun a b g d hb => ?_)), (h c).2⟩) hk,
    (θ_run Cert.Reference8Ideal.defs _ _).mono (fun r h c => h c) hr⟩
  obtain ⟨g0, g1, g2⟩ := hagree c
  rw [PoolRef.res_eq, g0, g1, g2]
  exact PoolRef.out_apply _ _ _ (finite _ _ _ (hpre c)) a b g d hb

end Cert.Proof.Pool

end
-- ==== Proof.lean ====
/- The claims of this directory, put together from the modules under Proof/SB, Proof/SBK and Proof/MM. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SB.Algebraic
public import proofs.«01_k».proof.Proof.MM.Norm
public import proofs.«01_k».proof.Proof.MM.Up
public import proofs.«01_k».proof.Proof.MM.Down
public import proofs.«01_k».proof.Proof.MM.Out
public import proofs.«01_k».proof.Proof.MM.Final
public import proofs.«01_k».proof.Proof.MM.Branch
public import proofs.«01_k».proof.Proof.MM.Pool
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Pool.preFacts,
  SB.frame_kernel, SB.frame_ideal, SB.frame_ref,
  Norm.frame_kernel, Norm.frame_ideal, Norm.frame_ref,
  Up.frame_kernel, Up.frame_ideal, Up.frame_ref,
  Down.frame_kernel, Down.frame_ideal, Down.frame_ref,
  Out.frame_kernel, Out.frame_ideal, Out.frame_ref,
  Final.frame_kernel, Final.frame_ideal, Final.frame_ref,
  Branch.frame_kernel, Branch.frame_ideal, Branch.frame_ref,
  Pool.frame_kernel, Pool.frame_ideal, Pool.frame_ideal_pre, Pool.frame_ref, Pool.frame_ref_pre,
  SB.preserves, SB.algebraic,
  Norm.preserves, Norm.algebraic,
  Up.preserves, Up.algebraic,
  Down.preserves, Down.algebraic,
  Out.preserves, Out.algebraic,
  Final.preserves, Final.algebraic,
  Branch.preserves, Branch.algebraic,
  Pool.preserves, Pool.algebraic⟩

end Cert.Proof

end
